-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v355) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x14592 : Shape := ⟨3, ![192, 1, 14592]⟩
abbrev S1460x2944 : Shape := ⟨2, ![1460, 2944]⟩
abbrev S114x2944 : Shape := ⟨2, ![114, 2944]⟩
abbrev S114x295 : Shape := ⟨2, ![114, 295]⟩
abbrev S192x14592 : Shape := ⟨2, ![192, 14592]⟩
abbrev S192x2944 : Shape := ⟨2, ![192, 2944]⟩
abbrev S1460x512 : Shape := ⟨2, ![1460, 512]⟩
abbrev S114x512 : Shape := ⟨2, ![114, 512]⟩
abbrev S192x512 : Shape := ⟨2, ![192, 512]⟩
abbrev S57x192x256 : Shape := ⟨3, ![57, 192, 256]⟩
abbrev S120x3072 : Shape := ⟨2, ![120, 3072]⟩
abbrev S120x512 : Shape := ⟨2, ![120, 512]⟩
abbrev S192x128 : Shape := ⟨2, ![192, 128]⟩
abbrev S192x128x1 : Shape := ⟨3, ![192, 128, 1]⟩
abbrev S1x192x128 : Shape := ⟨3, ![1, 192, 128]⟩
abbrev S114x289 : Shape := ⟨2, ![114, 289]⟩
abbrev S8x512 : Shape := ⟨2, ![8, 512]⟩
abbrev S1x512 : Shape := ⟨2, ![1, 512]⟩
abbrev S16x512 : Shape := ⟨2, ![16, 512]⟩
abbrev S256x512 : Shape := ⟨2, ![256, 512]⟩
abbrev S1x192x256 : Shape := ⟨3, ![1, 192, 256]⟩
abbrev S192x256 : Shape := ⟨2, ![192, 256]⟩

abbrev nBuf : Space → Nat
  | .hbm => 6
  | .vmem => 14
  | .smem => 0
  | _ => 0

abbrev bufTy : (tb : Table) → Fin (tcTables nBuf tb) → BufTy
  | .hbm, ⟨0, _⟩ => ⟨S192x1x14592, .bf16⟩
  | .hbm, ⟨1, _⟩ => ⟨S1460x2944, .i32⟩
  | .hbm, ⟨2, _⟩ => ⟨S114x2944, .bf16⟩
  | .hbm, ⟨3, _⟩ => ⟨S114x295, .i32⟩
  | .hbm, ⟨4, _⟩ => ⟨S192x14592, .bf16⟩
  | .hbm, ⟨5, _⟩ => ⟨S192x2944, .bf16⟩
  | .local _ .vmem, ⟨0, _⟩ => ⟨S192x14592, .bf16⟩
  | .local _ .vmem, ⟨1, _⟩ => ⟨S1460x512, .i32⟩
  | .local _ .vmem, ⟨2, _⟩ => ⟨S1460x512, .i32⟩
  | .local _ .vmem, ⟨3, _⟩ => ⟨S114x512, .bf16⟩
  | .local _ .vmem, ⟨4, _⟩ => ⟨S114x512, .bf16⟩
  | .local _ .vmem, ⟨5, _⟩ => ⟨S114x295, .i32⟩
  | .local _ .vmem, ⟨6, _⟩ => ⟨S192x512, .bf16⟩
  | .local _ .vmem, ⟨7, _⟩ => ⟨S192x512, .bf16⟩
  | .local _ .vmem, ⟨8, _⟩ => ⟨S57x192x256, .bf16⟩
  | .local _ .vmem, ⟨9, _⟩ => ⟨S120x3072, .i32⟩
  | .local _ .vmem, ⟨10, _⟩ => ⟨S120x512, .f32⟩
  | .local _ .vmem, ⟨11, _⟩ => ⟨S120x512, .i32⟩
  | .local _ .vmem, ⟨12, _⟩ => ⟨S120x512, .i32⟩
  | .local _ .vmem, ⟨13, _⟩ => ⟨S120x512, .i32⟩
  | _, _ => ⟨S192x1x14592, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![6], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_366 : BitVec 32 := 0#32
  let c11_i32_367 : BitVec 32 := 11#32
  let v966 : BitVec 32 := Scalar.addi c0_i32_366 c11_i32_367
  let c1_i32_368 : BitVec 32 := 1#32
  ⟨c0_i32_366, v966, c1_i32_368⟩
def k0_mult1 (k0_t1 : Fin k0_t1_loop.trips) : BitVec 32 :=
  let c0_i32_596 : BitVec 32 := 0#32
  let c0_i32_366 : BitVec 32 := 0#32
  let c1_i32_368 : BitVec 32 := 1#32
  let arg12 : BitVec 32 := Scf.iv c0_i32_366 c1_i32_368 k0_t1
  let c1_i32_595 : BitVec 32 := 1#32
  let v1635 : BitVec 32 := Scalar.muli arg12 c1_i32_595
  let v1636 : BitVec 32 := Scalar.addi c0_i32_596 v1635
  let c10_i32_629 : BitVec 32 := 10#32
  let v1740 : BitVec 32 := Scalar.muli v1636 c10_i32_629
  let c0_i32_630 : BitVec 32 := 0#32
  let v1741 : BitVec 32 := Scalar.addi v1740 c0_i32_630
  let c0_i32_631 : BitVec 32 := 0#32
  let v1742 : BitVec 32 := Scalar.addi v1741 c0_i32_631
  let c128_i32_632 : BitVec 32 := 128#32
  let v1743 : BitVec 32 := Scalar.muli v1742 c128_i32_632
  v1743
def k0_off1 (k0_t1 : Fin k0_t1_loop.trips) (c0_i32_630 : BitVec 32) (c0_i32_631 : BitVec 32) : Fin 2 → Nat :=
  let c0_633 : Index := 0#32
  let c0_i32_596 : BitVec 32 := 0#32
  let c0_i32_366 : BitVec 32 := 0#32
  let c1_i32_368 : BitVec 32 := 1#32
  let arg12 : BitVec 32 := Scf.iv c0_i32_366 c1_i32_368 k0_t1
  let c1_i32_595 : BitVec 32 := 1#32
  let v1635 : BitVec 32 := Scalar.muli arg12 c1_i32_595
  let v1636 : BitVec 32 := Scalar.addi c0_i32_596 v1635
  let c10_i32_629 : BitVec 32 := 10#32
  let v1740 : BitVec 32 := Scalar.muli v1636 c10_i32_629
  let v1741 : BitVec 32 := Scalar.addi v1740 c0_i32_630
  let v1742 : BitVec 32 := Scalar.addi v1741 c0_i32_631
  let c128_i32_632 : BitVec 32 := 128#32
  let v1743 : BitVec 32 := Scalar.muli v1742 c128_i32_632
  let v1744 : BitVec 32 := v1743
  let v1745 : Index := Scalar.indexCast v1744
  ![0, v1745.toNat]
def k0_mult2 (k0_t1 : Fin k0_t1_loop.trips) : BitVec 32 :=
  let c0_i32_596 : BitVec 32 := 0#32
  let c0_i32_366 : BitVec 32 := 0#32
  let c1_i32_368 : BitVec 32 := 1#32
  let arg12 : BitVec 32 := Scf.iv c0_i32_366 c1_i32_368 k0_t1
  let c1_i32_595 : BitVec 32 := 1#32
  let v1635 : BitVec 32 := Scalar.muli arg12 c1_i32_595
  let v1636 : BitVec 32 := Scalar.addi c0_i32_596 v1635
  let c10_i32_636 : BitVec 32 := 10#32
  let v1757 : BitVec 32 := Scalar.muli v1636 c10_i32_636
  let c0_i32_637 : BitVec 32 := 0#32
  let v1758 : BitVec 32 := Scalar.addi v1757 c0_i32_637
  let c1_i32_638 : BitVec 32 := 1#32
  let v1759 : BitVec 32 := Scalar.addi v1758 c1_i32_638
  let c128_i32_639 : BitVec 32 := 128#32
  let v1760 : BitVec 32 := Scalar.muli v1759 c128_i32_639
  v1760
def k0_off2 (k0_t1 : Fin k0_t1_loop.trips) (c0_i32_645 : BitVec 32) : Fin 3 → Nat :=
  let c0_i32_596 : BitVec 32 := 0#32
  let c0_i32_366 : BitVec 32 := 0#32
  let c1_i32_368 : BitVec 32 := 1#32
  let arg12 : BitVec 32 := Scf.iv c0_i32_366 c1_i32_368 k0_t1
  let c1_i32_595 : BitVec 32 := 1#32
  let v1635 : BitVec 32 := Scalar.muli arg12 c1_i32_595
  let v1636 : BitVec 32 := Scalar.addi c0_i32_596 v1635
  let c5_i32_644 : BitVec 32 := 5#32
  let v1778 : BitVec 32 := Scalar.muli v1636 c5_i32_644
  let v1779 : BitVec 32 := Scalar.addi v1778 c0_i32_645
  let v1780 : Index := Scalar.indexCast v1779
  let c0_646 : Index := 0#32
  let c0_647 : Index := 0#32
  ![v1780.toNat, 0, 0]
def k0_mult3 (k0_t1 : Fin k0_t1_loop.trips) : BitVec 32 :=
  let c0_i32_596 : BitVec 32 := 0#32
  let c0_i32_366 : BitVec 32 := 0#32
  let c1_i32_368 : BitVec 32 := 1#32
  let arg12 : BitVec 32 := Scf.iv c0_i32_366 c1_i32_368 k0_t1
  let c1_i32_595 : BitVec 32 := 1#32
  let v1635 : BitVec 32 := Scalar.muli arg12 c1_i32_595
  let v1636 : BitVec 32 := Scalar.addi c0_i32_596 v1635
  let c10_i32_680 : BitVec 32 := 10#32
  let v1887 : BitVec 32 := Scalar.muli v1636 c10_i32_680
  let c0_i32_681 : BitVec 32 := 0#32
  let v1888 : BitVec 32 := Scalar.addi v1887 c0_i32_681
  let c0_i32_682 : BitVec 32 := 0#32
  let v1889 : BitVec 32 := Scalar.addi v1888 c0_i32_682
  let c128_i32_683 : BitVec 32 := 128#32
  let v1890 : BitVec 32 := Scalar.muli v1889 c128_i32_683
  v1890
def k0_mult4 (k0_t1 : Fin k0_t1_loop.trips) : BitVec 32 :=
  let c0_i32_596 : BitVec 32 := 0#32
  let c0_i32_366 : BitVec 32 := 0#32
  let c1_i32_368 : BitVec 32 := 1#32
  let arg12 : BitVec 32 := Scf.iv c0_i32_366 c1_i32_368 k0_t1
  let c1_i32_595 : BitVec 32 := 1#32
  let v1635 : BitVec 32 := Scalar.muli arg12 c1_i32_595
  let v1636 : BitVec 32 := Scalar.addi c0_i32_596 v1635
  let c10_i32_687 : BitVec 32 := 10#32
  let v1904 : BitVec 32 := Scalar.muli v1636 c10_i32_687
  let c0_i32_688 : BitVec 32 := 0#32
  let v1905 : BitVec 32 := Scalar.addi v1904 c0_i32_688
  let c1_i32_689 : BitVec 32 := 1#32
  let v1906 : BitVec 32 := Scalar.addi v1905 c1_i32_689
  let c128_i32_690 : BitVec 32 := 128#32
  let v1907 : BitVec 32 := Scalar.muli v1906 c128_i32_690
  v1907
def k0_mult5 (k0_t1 : Fin k0_t1_loop.trips) : BitVec 32 :=
  let c0_i32_596 : BitVec 32 := 0#32
  let c0_i32_366 : BitVec 32 := 0#32
  let c1_i32_368 : BitVec 32 := 1#32
  let arg12 : BitVec 32 := Scf.iv c0_i32_366 c1_i32_368 k0_t1
  let c1_i32_595 : BitVec 32 := 1#32
  let v1635 : BitVec 32 := Scalar.muli arg12 c1_i32_595
  let v1636 : BitVec 32 := Scalar.addi c0_i32_596 v1635
  let c10_i32_695 : BitVec 32 := 10#32
  let v1924 : BitVec 32 := Scalar.muli v1636 c10_i32_695
  let c0_i32_696 : BitVec 32 := 0#32
  let v1925 : BitVec 32 := Scalar.addi v1924 c0_i32_696
  let c2_i32_697 : BitVec 32 := 2#32
  let v1926 : BitVec 32 := Scalar.addi v1925 c2_i32_697
  let c128_i32_698 : BitVec 32 := 128#32
  let v1927 : BitVec 32 := Scalar.muli v1926 c128_i32_698
  v1927
def k0_off3 (k0_t1 : Fin k0_t1_loop.trips) (c0_i32_704 : BitVec 32) : Fin 3 → Nat :=
  let c0_i32_596 : BitVec 32 := 0#32
  let c0_i32_366 : BitVec 32 := 0#32
  let c1_i32_368 : BitVec 32 := 1#32
  let arg12 : BitVec 32 := Scf.iv c0_i32_366 c1_i32_368 k0_t1
  let c1_i32_595 : BitVec 32 := 1#32
  let v1635 : BitVec 32 := Scalar.muli arg12 c1_i32_595
  let v1636 : BitVec 32 := Scalar.addi c0_i32_596 v1635
  let c5_i32_703 : BitVec 32 := 5#32
  let v1945 : BitVec 32 := Scalar.muli v1636 c5_i32_703
  let v1946 : BitVec 32 := Scalar.addi v1945 c0_i32_704
  let v1947 : Index := Scalar.indexCast v1946
  let c0_705 : Index := 0#32
  let c128_706 : Index := 128#32
  ![v1947.toNat, 0, 128]
def k0_mult6 (k0_t1 : Fin k0_t1_loop.trips) : BitVec 32 :=
  let c0_i32_596 : BitVec 32 := 0#32
  let c0_i32_366 : BitVec 32 := 0#32
  let c1_i32_368 : BitVec 32 := 1#32
  let arg12 : BitVec 32 := Scf.iv c0_i32_366 c1_i32_368 k0_t1
  let c1_i32_595 : BitVec 32 := 1#32
  let v1635 : BitVec 32 := Scalar.muli arg12 c1_i32_595
  let v1636 : BitVec 32 := Scalar.addi c0_i32_596 v1635
  let c10_i32_739 : BitVec 32 := 10#32
  let v2054 : BitVec 32 := Scalar.muli v1636 c10_i32_739
  let c0_i32_740 : BitVec 32 := 0#32
  let v2055 : BitVec 32 := Scalar.addi v2054 c0_i32_740
  let c1_i32_741 : BitVec 32 := 1#32
  let v2056 : BitVec 32 := Scalar.addi v2055 c1_i32_741
  let c128_i32_742 : BitVec 32 := 128#32
  let v2057 : BitVec 32 := Scalar.muli v2056 c128_i32_742
  v2057
def k0_mult7 (k0_t1 : Fin k0_t1_loop.trips) : BitVec 32 :=
  let c0_i32_596 : BitVec 32 := 0#32
  let c0_i32_366 : BitVec 32 := 0#32
  let c1_i32_368 : BitVec 32 := 1#32
  let arg12 : BitVec 32 := Scf.iv c0_i32_366 c1_i32_368 k0_t1
  let c1_i32_595 : BitVec 32 := 1#32
  let v1635 : BitVec 32 := Scalar.muli arg12 c1_i32_595
  let v1636 : BitVec 32 := Scalar.addi c0_i32_596 v1635
  let c10_i32_746 : BitVec 32 := 10#32
  let v2071 : BitVec 32 := Scalar.muli v1636 c10_i32_746
  let c0_i32_747 : BitVec 32 := 0#32
  let v2072 : BitVec 32 := Scalar.addi v2071 c0_i32_747
  let c2_i32_748 : BitVec 32 := 2#32
  let v2073 : BitVec 32 := Scalar.addi v2072 c2_i32_748
  let c128_i32_749 : BitVec 32 := 128#32
  let v2074 : BitVec 32 := Scalar.muli v2073 c128_i32_749
  v2074
def k0_mult8 (k0_t1 : Fin k0_t1_loop.trips) : BitVec 32 :=
  let c0_i32_596 : BitVec 32 := 0#32
  let c0_i32_366 : BitVec 32 := 0#32
  let c1_i32_368 : BitVec 32 := 1#32
  let arg12 : BitVec 32 := Scf.iv c0_i32_366 c1_i32_368 k0_t1
  let c1_i32_595 : BitVec 32 := 1#32
  let v1635 : BitVec 32 := Scalar.muli arg12 c1_i32_595
  let v1636 : BitVec 32 := Scalar.addi c0_i32_596 v1635
  let c10_i32_754 : BitVec 32 := 10#32
  let v2091 : BitVec 32 := Scalar.muli v1636 c10_i32_754
  let c0_i32_755 : BitVec 32 := 0#32
  let v2092 : BitVec 32 := Scalar.addi v2091 c0_i32_755
  let c3_i32_756 : BitVec 32 := 3#32
  let v2093 : BitVec 32 := Scalar.addi v2092 c3_i32_756
  let c128_i32_757 : BitVec 32 := 128#32
  let v2094 : BitVec 32 := Scalar.muli v2093 c128_i32_757
  v2094
def k0_mult9 (k0_t1 : Fin k0_t1_loop.trips) : BitVec 32 :=
  let c0_i32_596 : BitVec 32 := 0#32
  let c0_i32_366 : BitVec 32 := 0#32
  let c1_i32_368 : BitVec 32 := 1#32
  let arg12 : BitVec 32 := Scf.iv c0_i32_366 c1_i32_368 k0_t1
  let c1_i32_595 : BitVec 32 := 1#32
  let v1635 : BitVec 32 := Scalar.muli arg12 c1_i32_595
  let v1636 : BitVec 32 := Scalar.addi c0_i32_596 v1635
  let c10_i32_798 : BitVec 32 := 10#32
  let v2221 : BitVec 32 := Scalar.muli v1636 c10_i32_798
  let c0_i32_799 : BitVec 32 := 0#32
  let v2222 : BitVec 32 := Scalar.addi v2221 c0_i32_799
  let c2_i32_800 : BitVec 32 := 2#32
  let v2223 : BitVec 32 := Scalar.addi v2222 c2_i32_800
  let c128_i32_801 : BitVec 32 := 128#32
  let v2224 : BitVec 32 := Scalar.muli v2223 c128_i32_801
  v2224
def k0_mult10 (k0_t1 : Fin k0_t1_loop.trips) : BitVec 32 :=
  let c0_i32_596 : BitVec 32 := 0#32
  let c0_i32_366 : BitVec 32 := 0#32
  let c1_i32_368 : BitVec 32 := 1#32
  let arg12 : BitVec 32 := Scf.iv c0_i32_366 c1_i32_368 k0_t1
  let c1_i32_595 : BitVec 32 := 1#32
  let v1635 : BitVec 32 := Scalar.muli arg12 c1_i32_595
  let v1636 : BitVec 32 := Scalar.addi c0_i32_596 v1635
  let c10_i32_805 : BitVec 32 := 10#32
  let v2238 : BitVec 32 := Scalar.muli v1636 c10_i32_805
  let c0_i32_806 : BitVec 32 := 0#32
  let v2239 : BitVec 32 := Scalar.addi v2238 c0_i32_806
  let c3_i32_807 : BitVec 32 := 3#32
  let v2240 : BitVec 32 := Scalar.addi v2239 c3_i32_807
  let c128_i32_808 : BitVec 32 := 128#32
  let v2241 : BitVec 32 := Scalar.muli v2240 c128_i32_808
  v2241
def k0_mult11 (k0_t1 : Fin k0_t1_loop.trips) : BitVec 32 :=
  let c0_i32_596 : BitVec 32 := 0#32
  let c0_i32_366 : BitVec 32 := 0#32
  let c1_i32_368 : BitVec 32 := 1#32
  let arg12 : BitVec 32 := Scf.iv c0_i32_366 c1_i32_368 k0_t1
  let c1_i32_595 : BitVec 32 := 1#32
  let v1635 : BitVec 32 := Scalar.muli arg12 c1_i32_595
  let v1636 : BitVec 32 := Scalar.addi c0_i32_596 v1635
  let c10_i32_813 : BitVec 32 := 10#32
  let v2258 : BitVec 32 := Scalar.muli v1636 c10_i32_813
  let c0_i32_814 : BitVec 32 := 0#32
  let v2259 : BitVec 32 := Scalar.addi v2258 c0_i32_814
  let c4_i32_815 : BitVec 32 := 4#32
  let v2260 : BitVec 32 := Scalar.addi v2259 c4_i32_815
  let c128_i32_816 : BitVec 32 := 128#32
  let v2261 : BitVec 32 := Scalar.muli v2260 c128_i32_816
  v2261
def k0_mult12 (k0_t1 : Fin k0_t1_loop.trips) : BitVec 32 :=
  let c0_i32_596 : BitVec 32 := 0#32
  let c0_i32_366 : BitVec 32 := 0#32
  let c1_i32_368 : BitVec 32 := 1#32
  let arg12 : BitVec 32 := Scf.iv c0_i32_366 c1_i32_368 k0_t1
  let c1_i32_595 : BitVec 32 := 1#32
  let v1635 : BitVec 32 := Scalar.muli arg12 c1_i32_595
  let v1636 : BitVec 32 := Scalar.addi c0_i32_596 v1635
  let c10_i32_857 : BitVec 32 := 10#32
  let v2388 : BitVec 32 := Scalar.muli v1636 c10_i32_857
  let c0_i32_858 : BitVec 32 := 0#32
  let v2389 : BitVec 32 := Scalar.addi v2388 c0_i32_858
  let c3_i32_859 : BitVec 32 := 3#32
  let v2390 : BitVec 32 := Scalar.addi v2389 c3_i32_859
  let c128_i32_860 : BitVec 32 := 128#32
  let v2391 : BitVec 32 := Scalar.muli v2390 c128_i32_860
  v2391
def k0_mult13 (k0_t1 : Fin k0_t1_loop.trips) : BitVec 32 :=
  let c0_i32_596 : BitVec 32 := 0#32
  let c0_i32_366 : BitVec 32 := 0#32
  let c1_i32_368 : BitVec 32 := 1#32
  let arg12 : BitVec 32 := Scf.iv c0_i32_366 c1_i32_368 k0_t1
  let c1_i32_595 : BitVec 32 := 1#32
  let v1635 : BitVec 32 := Scalar.muli arg12 c1_i32_595
  let v1636 : BitVec 32 := Scalar.addi c0_i32_596 v1635
  let c10_i32_864 : BitVec 32 := 10#32
  let v2405 : BitVec 32 := Scalar.muli v1636 c10_i32_864
  let c0_i32_865 : BitVec 32 := 0#32
  let v2406 : BitVec 32 := Scalar.addi v2405 c0_i32_865
  let c4_i32_866 : BitVec 32 := 4#32
  let v2407 : BitVec 32 := Scalar.addi v2406 c4_i32_866
  let c128_i32_867 : BitVec 32 := 128#32
  let v2408 : BitVec 32 := Scalar.muli v2407 c128_i32_867
  v2408
def k0_mult14 (k0_t1 : Fin k0_t1_loop.trips) : BitVec 32 :=
  let c0_i32_596 : BitVec 32 := 0#32
  let c0_i32_366 : BitVec 32 := 0#32
  let c1_i32_368 : BitVec 32 := 1#32
  let arg12 : BitVec 32 := Scf.iv c0_i32_366 c1_i32_368 k0_t1
  let c1_i32_595 : BitVec 32 := 1#32
  let v1635 : BitVec 32 := Scalar.muli arg12 c1_i32_595
  let v1636 : BitVec 32 := Scalar.addi c0_i32_596 v1635
  let c10_i32_908 : BitVec 32 := 10#32
  let v2535 : BitVec 32 := Scalar.muli v1636 c10_i32_908
  let c5_i32_909 : BitVec 32 := 5#32
  let v2536 : BitVec 32 := Scalar.addi v2535 c5_i32_909
  let c0_i32_910 : BitVec 32 := 0#32
  let v2537 : BitVec 32 := Scalar.addi v2536 c0_i32_910
  let c128_i32_911 : BitVec 32 := 128#32
  let v2538 : BitVec 32 := Scalar.muli v2537 c128_i32_911
  v2538
def k0_mult15 (k0_t1 : Fin k0_t1_loop.trips) : BitVec 32 :=
  let c0_i32_596 : BitVec 32 := 0#32
  let c0_i32_366 : BitVec 32 := 0#32
  let c1_i32_368 : BitVec 32 := 1#32
  let arg12 : BitVec 32 := Scf.iv c0_i32_366 c1_i32_368 k0_t1
  let c1_i32_595 : BitVec 32 := 1#32
  let v1635 : BitVec 32 := Scalar.muli arg12 c1_i32_595
  let v1636 : BitVec 32 := Scalar.addi c0_i32_596 v1635
  let c10_i32_915 : BitVec 32 := 10#32
  let v2552 : BitVec 32 := Scalar.muli v1636 c10_i32_915
  let c5_i32_916 : BitVec 32 := 5#32
  let v2553 : BitVec 32 := Scalar.addi v2552 c5_i32_916
  let c1_i32_917 : BitVec 32 := 1#32
  let v2554 : BitVec 32 := Scalar.addi v2553 c1_i32_917
  let c128_i32_918 : BitVec 32 := 128#32
  let v2555 : BitVec 32 := Scalar.muli v2554 c128_i32_918
  v2555
def k0_mult16 (k0_t1 : Fin k0_t1_loop.trips) : BitVec 32 :=
  let c0_i32_596 : BitVec 32 := 0#32
  let c0_i32_366 : BitVec 32 := 0#32
  let c1_i32_368 : BitVec 32 := 1#32
  let arg12 : BitVec 32 := Scf.iv c0_i32_366 c1_i32_368 k0_t1
  let c1_i32_595 : BitVec 32 := 1#32
  let v1635 : BitVec 32 := Scalar.muli arg12 c1_i32_595
  let v1636 : BitVec 32 := Scalar.addi c0_i32_596 v1635
  let c10_i32_959 : BitVec 32 := 10#32
  let v2682 : BitVec 32 := Scalar.muli v1636 c10_i32_959
  let c5_i32_960 : BitVec 32 := 5#32
  let v2683 : BitVec 32 := Scalar.addi v2682 c5_i32_960
  let c0_i32_961 : BitVec 32 := 0#32
  let v2684 : BitVec 32 := Scalar.addi v2683 c0_i32_961
  let c128_i32_962 : BitVec 32 := 128#32
  let v2685 : BitVec 32 := Scalar.muli v2684 c128_i32_962
  v2685
def k0_mult17 (k0_t1 : Fin k0_t1_loop.trips) : BitVec 32 :=
  let c0_i32_596 : BitVec 32 := 0#32
  let c0_i32_366 : BitVec 32 := 0#32
  let c1_i32_368 : BitVec 32 := 1#32
  let arg12 : BitVec 32 := Scf.iv c0_i32_366 c1_i32_368 k0_t1
  let c1_i32_595 : BitVec 32 := 1#32
  let v1635 : BitVec 32 := Scalar.muli arg12 c1_i32_595
  let v1636 : BitVec 32 := Scalar.addi c0_i32_596 v1635
  let c10_i32_966 : BitVec 32 := 10#32
  let v2699 : BitVec 32 := Scalar.muli v1636 c10_i32_966
  let c5_i32_967 : BitVec 32 := 5#32
  let v2700 : BitVec 32 := Scalar.addi v2699 c5_i32_967
  let c1_i32_968 : BitVec 32 := 1#32
  let v2701 : BitVec 32 := Scalar.addi v2700 c1_i32_968
  let c128_i32_969 : BitVec 32 := 128#32
  let v2702 : BitVec 32 := Scalar.muli v2701 c128_i32_969
  v2702
def k0_mult18 (k0_t1 : Fin k0_t1_loop.trips) : BitVec 32 :=
  let c0_i32_596 : BitVec 32 := 0#32
  let c0_i32_366 : BitVec 32 := 0#32
  let c1_i32_368 : BitVec 32 := 1#32
  let arg12 : BitVec 32 := Scf.iv c0_i32_366 c1_i32_368 k0_t1
  let c1_i32_595 : BitVec 32 := 1#32
  let v1635 : BitVec 32 := Scalar.muli arg12 c1_i32_595
  let v1636 : BitVec 32 := Scalar.addi c0_i32_596 v1635
  let c10_i32_974 : BitVec 32 := 10#32
  let v2719 : BitVec 32 := Scalar.muli v1636 c10_i32_974
  let c5_i32_975 : BitVec 32 := 5#32
  let v2720 : BitVec 32 := Scalar.addi v2719 c5_i32_975
  let c2_i32_976 : BitVec 32 := 2#32
  let v2721 : BitVec 32 := Scalar.addi v2720 c2_i32_976
  let c128_i32_977 : BitVec 32 := 128#32
  let v2722 : BitVec 32 := Scalar.muli v2721 c128_i32_977
  v2722
def k0_mult19 (k0_t1 : Fin k0_t1_loop.trips) : BitVec 32 :=
  let c0_i32_596 : BitVec 32 := 0#32
  let c0_i32_366 : BitVec 32 := 0#32
  let c1_i32_368 : BitVec 32 := 1#32
  let arg12 : BitVec 32 := Scf.iv c0_i32_366 c1_i32_368 k0_t1
  let c1_i32_595 : BitVec 32 := 1#32
  let v1635 : BitVec 32 := Scalar.muli arg12 c1_i32_595
  let v1636 : BitVec 32 := Scalar.addi c0_i32_596 v1635
  let c10_i32_1018 : BitVec 32 := 10#32
  let v2849 : BitVec 32 := Scalar.muli v1636 c10_i32_1018
  let c5_i32_1019 : BitVec 32 := 5#32
  let v2850 : BitVec 32 := Scalar.addi v2849 c5_i32_1019
  let c1_i32_1020 : BitVec 32 := 1#32
  let v2851 : BitVec 32 := Scalar.addi v2850 c1_i32_1020
  let c128_i32_1021 : BitVec 32 := 128#32
  let v2852 : BitVec 32 := Scalar.muli v2851 c128_i32_1021
  v2852
def k0_mult20 (k0_t1 : Fin k0_t1_loop.trips) : BitVec 32 :=
  let c0_i32_596 : BitVec 32 := 0#32
  let c0_i32_366 : BitVec 32 := 0#32
  let c1_i32_368 : BitVec 32 := 1#32
  let arg12 : BitVec 32 := Scf.iv c0_i32_366 c1_i32_368 k0_t1
  let c1_i32_595 : BitVec 32 := 1#32
  let v1635 : BitVec 32 := Scalar.muli arg12 c1_i32_595
  let v1636 : BitVec 32 := Scalar.addi c0_i32_596 v1635
  let c10_i32_1025 : BitVec 32 := 10#32
  let v2866 : BitVec 32 := Scalar.muli v1636 c10_i32_1025
  let c5_i32_1026 : BitVec 32 := 5#32
  let v2867 : BitVec 32 := Scalar.addi v2866 c5_i32_1026
  let c2_i32_1027 : BitVec 32 := 2#32
  let v2868 : BitVec 32 := Scalar.addi v2867 c2_i32_1027
  let c128_i32_1028 : BitVec 32 := 128#32
  let v2869 : BitVec 32 := Scalar.muli v2868 c128_i32_1028
  v2869
def k0_mult21 (k0_t1 : Fin k0_t1_loop.trips) : BitVec 32 :=
  let c0_i32_596 : BitVec 32 := 0#32
  let c0_i32_366 : BitVec 32 := 0#32
  let c1_i32_368 : BitVec 32 := 1#32
  let arg12 : BitVec 32 := Scf.iv c0_i32_366 c1_i32_368 k0_t1
  let c1_i32_595 : BitVec 32 := 1#32
  let v1635 : BitVec 32 := Scalar.muli arg12 c1_i32_595
  let v1636 : BitVec 32 := Scalar.addi c0_i32_596 v1635
  let c10_i32_1033 : BitVec 32 := 10#32
  let v2886 : BitVec 32 := Scalar.muli v1636 c10_i32_1033
  let c5_i32_1034 : BitVec 32 := 5#32
  let v2887 : BitVec 32 := Scalar.addi v2886 c5_i32_1034
  let c3_i32_1035 : BitVec 32 := 3#32
  let v2888 : BitVec 32 := Scalar.addi v2887 c3_i32_1035
  let c128_i32_1036 : BitVec 32 := 128#32
  let v2889 : BitVec 32 := Scalar.muli v2888 c128_i32_1036
  v2889
def k0_mult22 (k0_t1 : Fin k0_t1_loop.trips) : BitVec 32 :=
  let c0_i32_596 : BitVec 32 := 0#32
  let c0_i32_366 : BitVec 32 := 0#32
  let c1_i32_368 : BitVec 32 := 1#32
  let arg12 : BitVec 32 := Scf.iv c0_i32_366 c1_i32_368 k0_t1
  let c1_i32_595 : BitVec 32 := 1#32
  let v1635 : BitVec 32 := Scalar.muli arg12 c1_i32_595
  let v1636 : BitVec 32 := Scalar.addi c0_i32_596 v1635
  let c10_i32_1077 : BitVec 32 := 10#32
  let v3016 : BitVec 32 := Scalar.muli v1636 c10_i32_1077
  let c5_i32_1078 : BitVec 32 := 5#32
  let v3017 : BitVec 32 := Scalar.addi v3016 c5_i32_1078
  let c2_i32_1079 : BitVec 32 := 2#32
  let v3018 : BitVec 32 := Scalar.addi v3017 c2_i32_1079
  let c128_i32_1080 : BitVec 32 := 128#32
  let v3019 : BitVec 32 := Scalar.muli v3018 c128_i32_1080
  v3019
def k0_mult23 (k0_t1 : Fin k0_t1_loop.trips) : BitVec 32 :=
  let c0_i32_596 : BitVec 32 := 0#32
  let c0_i32_366 : BitVec 32 := 0#32
  let c1_i32_368 : BitVec 32 := 1#32
  let arg12 : BitVec 32 := Scf.iv c0_i32_366 c1_i32_368 k0_t1
  let c1_i32_595 : BitVec 32 := 1#32
  let v1635 : BitVec 32 := Scalar.muli arg12 c1_i32_595
  let v1636 : BitVec 32 := Scalar.addi c0_i32_596 v1635
  let c10_i32_1084 : BitVec 32 := 10#32
  let v3033 : BitVec 32 := Scalar.muli v1636 c10_i32_1084
  let c5_i32_1085 : BitVec 32 := 5#32
  let v3034 : BitVec 32 := Scalar.addi v3033 c5_i32_1085
  let c3_i32_1086 : BitVec 32 := 3#32
  let v3035 : BitVec 32 := Scalar.addi v3034 c3_i32_1086
  let c128_i32_1087 : BitVec 32 := 128#32
  let v3036 : BitVec 32 := Scalar.muli v3035 c128_i32_1087
  v3036
def k0_mult24 (k0_t1 : Fin k0_t1_loop.trips) : BitVec 32 :=
  let c0_i32_596 : BitVec 32 := 0#32
  let c0_i32_366 : BitVec 32 := 0#32
  let c1_i32_368 : BitVec 32 := 1#32
  let arg12 : BitVec 32 := Scf.iv c0_i32_366 c1_i32_368 k0_t1
  let c1_i32_595 : BitVec 32 := 1#32
  let v1635 : BitVec 32 := Scalar.muli arg12 c1_i32_595
  let v1636 : BitVec 32 := Scalar.addi c0_i32_596 v1635
  let c10_i32_1092 : BitVec 32 := 10#32
  let v3053 : BitVec 32 := Scalar.muli v1636 c10_i32_1092
  let c5_i32_1093 : BitVec 32 := 5#32
  let v3054 : BitVec 32 := Scalar.addi v3053 c5_i32_1093
  let c4_i32_1094 : BitVec 32 := 4#32
  let v3055 : BitVec 32 := Scalar.addi v3054 c4_i32_1094
  let c128_i32_1095 : BitVec 32 := 128#32
  let v3056 : BitVec 32 := Scalar.muli v3055 c128_i32_1095
  v3056
def k0_mult25 (k0_t1 : Fin k0_t1_loop.trips) : BitVec 32 :=
  let c0_i32_596 : BitVec 32 := 0#32
  let c0_i32_366 : BitVec 32 := 0#32
  let c1_i32_368 : BitVec 32 := 1#32
  let arg12 : BitVec 32 := Scf.iv c0_i32_366 c1_i32_368 k0_t1
  let c1_i32_595 : BitVec 32 := 1#32
  let v1635 : BitVec 32 := Scalar.muli arg12 c1_i32_595
  let v1636 : BitVec 32 := Scalar.addi c0_i32_596 v1635
  let c10_i32_1136 : BitVec 32 := 10#32
  let v3183 : BitVec 32 := Scalar.muli v1636 c10_i32_1136
  let c5_i32_1137 : BitVec 32 := 5#32
  let v3184 : BitVec 32 := Scalar.addi v3183 c5_i32_1137
  let c3_i32_1138 : BitVec 32 := 3#32
  let v3185 : BitVec 32 := Scalar.addi v3184 c3_i32_1138
  let c128_i32_1139 : BitVec 32 := 128#32
  let v3186 : BitVec 32 := Scalar.muli v3185 c128_i32_1139
  v3186
def k0_mult26 (k0_t1 : Fin k0_t1_loop.trips) : BitVec 32 :=
  let c0_i32_596 : BitVec 32 := 0#32
  let c0_i32_366 : BitVec 32 := 0#32
  let c1_i32_368 : BitVec 32 := 1#32
  let arg12 : BitVec 32 := Scf.iv c0_i32_366 c1_i32_368 k0_t1
  let c1_i32_595 : BitVec 32 := 1#32
  let v1635 : BitVec 32 := Scalar.muli arg12 c1_i32_595
  let v1636 : BitVec 32 := Scalar.addi c0_i32_596 v1635
  let c10_i32_1143 : BitVec 32 := 10#32
  let v3200 : BitVec 32 := Scalar.muli v1636 c10_i32_1143
  let c5_i32_1144 : BitVec 32 := 5#32
  let v3201 : BitVec 32 := Scalar.addi v3200 c5_i32_1144
  let c4_i32_1145 : BitVec 32 := 4#32
  let v3202 : BitVec 32 := Scalar.addi v3201 c4_i32_1145
  let c128_i32_1146 : BitVec 32 := 128#32
  let v3203 : BitVec 32 := Scalar.muli v3202 c128_i32_1146
  v3203
def k0_mult27 : BitVec 32 :=
  let c14080_i32 : BitVec 32 := 14080#32
  c14080_i32
def k0_mult28 : BitVec 32 :=
  let c14208_i32 : BitVec 32 := 14208#32
  c14208_i32
def k0_mult29 : BitVec 32 :=
  let c14080_i32_442 : BitVec 32 := 14080#32
  c14080_i32_442
def k0_mult30 : BitVec 32 :=
  let c14208_i32_446 : BitVec 32 := 14208#32
  c14208_i32_446
def k0_mult31 : BitVec 32 :=
  let c14336_i32 : BitVec 32 := 14336#32
  c14336_i32
def k0_mult32 : BitVec 32 :=
  let c14208_i32_489 : BitVec 32 := 14208#32
  c14208_i32_489
def k0_mult33 : BitVec 32 :=
  let c14336_i32_493 : BitVec 32 := 14336#32
  c14336_i32_493
def k0_mult34 : BitVec 32 :=
  let c14464_i32 : BitVec 32 := 14464#32
  c14464_i32
def k0_mult35 : BitVec 32 :=
  let c14336_i32_537 : BitVec 32 := 14336#32
  c14336_i32_537
def k0_mult36 : BitVec 32 :=
  let c14464_i32_541 : BitVec 32 := 14464#32
  c14464_i32_541
def k0_mult37 (i : grid0.Coords) : BitVec 32 :=
  let arg0 : BitVec 32 := BitVec.ofNat 32 (i 0).val
  let c512_i32 : BitVec 32 := 512#32
  let v3 : BitVec 32 := Scalar.muli arg0 c512_i32
  v3
def k0_off4 (i : grid0.Coords) : Fin 2 → Nat :=
  let c0 : Index := 0#32
  let arg0 : BitVec 32 := BitVec.ofNat 32 (i 0).val
  let c512_i32 : BitVec 32 := 512#32
  let v3 : BitVec 32 := Scalar.muli arg0 c512_i32
  let v4 : BitVec 32 := v3
  let v5 : Index := Scalar.indexCast v4
  ![0, v5.toNat]
@[reducible] def k0_t2_loop : Scf.Loop 32 :=
  let c0_i32_11 : BitVec 32 := 0#32
  let c11_i32 : BitVec 32 := 11#32
  let v34 : BitVec 32 := Scalar.addi c0_i32_11 c11_i32
  let c1_i32 : BitVec 32 := 1#32
  ⟨c0_i32_11, v34, c1_i32⟩
def k0_mult38 (k0_t2 : Fin k0_t2_loop.trips) : BitVec 32 :=
  let c0_i32_11 : BitVec 32 := 0#32
  let c1_i32 : BitVec 32 := 1#32
  let arg12 : BitVec 32 := Scf.iv c0_i32_11 c1_i32 k0_t2
  let c16_i32 : BitVec 32 := 16#32
  let v966 : BitVec 32 := Scalar.muli arg12 c16_i32
  let c0_i32_366 : BitVec 32 := 0#32
  let v967 : BitVec 32 := Scalar.addi v966 c0_i32_366
  let c8_i32_367 : BitVec 32 := 8#32
  let v968 : BitVec 32 := Scalar.muli v967 c8_i32_367
  v968
def k0_off5 (k0_t2 : Fin k0_t2_loop.trips) (c0_i32_366 : BitVec 32) : Fin 2 → Nat :=
  let c0_i32_11 : BitVec 32 := 0#32
  let c1_i32 : BitVec 32 := 1#32
  let arg12 : BitVec 32 := Scf.iv c0_i32_11 c1_i32 k0_t2
  let c16_i32 : BitVec 32 := 16#32
  let v966 : BitVec 32 := Scalar.muli arg12 c16_i32
  let v967 : BitVec 32 := Scalar.addi v966 c0_i32_366
  let c8_i32_367 : BitVec 32 := 8#32
  let v968 : BitVec 32 := Scalar.muli v967 c8_i32_367
  let v969 : BitVec 32 := v968
  let v970 : Index := Scalar.indexCast v969
  let c0_368 : Index := 0#32
  ![v970.toNat, 0]
def k0_off6 (k0_t2 : Fin k0_t2_loop.trips) (c0_i32_376 : BitVec 32) : Fin 2 → Nat :=
  let c0_i32_11 : BitVec 32 := 0#32
  let c1_i32 : BitVec 32 := 1#32
  let arg12 : BitVec 32 := Scf.iv c0_i32_11 c1_i32 k0_t2
  let c10_i32_375 : BitVec 32 := 10#32
  let v984 : BitVec 32 := Scalar.muli arg12 c10_i32_375
  let v985 : BitVec 32 := Scalar.addi v984 c0_i32_376
  let v986 : Index := Scalar.indexCast v985
  let c0_377 : Index := 0#32
  ![v986.toNat, 0]
def k0_mult39 (k0_t2 : Fin k0_t2_loop.trips) : BitVec 32 :=
  let c0_i32_11 : BitVec 32 := 0#32
  let c1_i32 : BitVec 32 := 1#32
  let arg12 : BitVec 32 := Scf.iv c0_i32_11 c1_i32 k0_t2
  let c16_i32_392 : BitVec 32 := 16#32
  let v1061 : BitVec 32 := Scalar.muli arg12 c16_i32_392
  let c1_i32_393 : BitVec 32 := 1#32
  let v1062 : BitVec 32 := Scalar.addi v1061 c1_i32_393
  let c8_i32_394 : BitVec 32 := 8#32
  let v1063 : BitVec 32 := Scalar.muli v1062 c8_i32_394
  v1063
def k0_off7 (k0_t2 : Fin k0_t2_loop.trips) (c0_i32_403 : BitVec 32) : Fin 2 → Nat :=
  let c0_i32_11 : BitVec 32 := 0#32
  let c1_i32 : BitVec 32 := 1#32
  let arg12 : BitVec 32 := Scf.iv c0_i32_11 c1_i32 k0_t2
  let c10_i32_402 : BitVec 32 := 10#32
  let v1079 : BitVec 32 := Scalar.muli arg12 c10_i32_402
  let v1080 : BitVec 32 := Scalar.addi v1079 c0_i32_403
  let c1_i32_405 : BitVec 32 := 1#32
  let v1085 : BitVec 32 := Scalar.addi v1080 c1_i32_405
  let v1086 : Index := Scalar.indexCast v1085
  let c0_406 : Index := 0#32
  ![v1086.toNat, 0]
def k0_off7_at (r : Fin 8) : BitVec 32 :=
  if r.val < 4 then
    if r.val < 2 then
      if r.val < 1 then
        0#32
      else
        1#32
    else
      if r.val < 3 then
        2#32
      else
        3#32
  else
    if r.val < 6 then
      if r.val < 5 then
        5#32
      else
        6#32
    else
      if r.val < 7 then
        7#32
      else
        8#32
def k0_mult40 (k0_t2 : Fin k0_t2_loop.trips) : BitVec 32 :=
  let c0_i32_11 : BitVec 32 := 0#32
  let c1_i32 : BitVec 32 := 1#32
  let arg12 : BitVec 32 := Scf.iv c0_i32_11 c1_i32 k0_t2
  let c16_i32_455 : BitVec 32 := 16#32
  let v1262 : BitVec 32 := Scalar.muli arg12 c16_i32_455
  let c2_i32_456 : BitVec 32 := 2#32
  let v1263 : BitVec 32 := Scalar.addi v1262 c2_i32_456
  let c8_i32_457 : BitVec 32 := 8#32
  let v1264 : BitVec 32 := Scalar.muli v1263 c8_i32_457
  v1264
def k0_mult41 (k0_t2 : Fin k0_t2_loop.trips) : BitVec 32 :=
  let c0_i32_11 : BitVec 32 := 0#32
  let c1_i32 : BitVec 32 := 1#32
  let arg12 : BitVec 32 := Scf.iv c0_i32_11 c1_i32 k0_t2
  let c16_i32_482 : BitVec 32 := 16#32
  let v1357 : BitVec 32 := Scalar.muli arg12 c16_i32_482
  let c3_i32_483 : BitVec 32 := 3#32
  let v1358 : BitVec 32 := Scalar.addi v1357 c3_i32_483
  let c8_i32_484 : BitVec 32 := 8#32
  let v1359 : BitVec 32 := Scalar.muli v1358 c8_i32_484
  v1359
def k0_off8 (k0_t2 : Fin k0_t2_loop.trips) (c0_i32_552 : BitVec 32) : Fin 3 → Nat :=
  let c0_i32_11 : BitVec 32 := 0#32
  let c1_i32 : BitVec 32 := 1#32
  let arg12 : BitVec 32 := Scf.iv c0_i32_11 c1_i32 k0_t2
  let c5_i32_551 : BitVec 32 := 5#32
  let v1575 : BitVec 32 := Scalar.muli arg12 c5_i32_551
  let v1576 : BitVec 32 := Scalar.addi v1575 c0_i32_552
  let v1577 : Index := Scalar.indexCast v1576
  let c0_553 : Index := 0#32
  let c0_554 : Index := 0#32
  ![v1577.toNat, 0, 0]
def k0_mult42 (k0_t2 : Fin k0_t2_loop.trips) : BitVec 32 :=
  let c0_i32_11 : BitVec 32 := 0#32
  let c1_i32 : BitVec 32 := 1#32
  let arg12 : BitVec 32 := Scf.iv c0_i32_11 c1_i32 k0_t2
  let c16_i32_556 : BitVec 32 := 16#32
  let v1582 : BitVec 32 := Scalar.muli arg12 c16_i32_556
  let c4_i32_557 : BitVec 32 := 4#32
  let v1583 : BitVec 32 := Scalar.addi v1582 c4_i32_557
  let c8_i32_558 : BitVec 32 := 8#32
  let v1584 : BitVec 32 := Scalar.muli v1583 c8_i32_558
  v1584
def k0_mult43 (k0_t2 : Fin k0_t2_loop.trips) : BitVec 32 :=
  let c0_i32_11 : BitVec 32 := 0#32
  let c1_i32 : BitVec 32 := 1#32
  let arg12 : BitVec 32 := Scf.iv c0_i32_11 c1_i32 k0_t2
  let c16_i32_625 : BitVec 32 := 16#32
  let v1799 : BitVec 32 := Scalar.muli arg12 c16_i32_625
  let c5_i32_626 : BitVec 32 := 5#32
  let v1800 : BitVec 32 := Scalar.addi v1799 c5_i32_626
  let c8_i32_627 : BitVec 32 := 8#32
  let v1801 : BitVec 32 := Scalar.muli v1800 c8_i32_627
  v1801
def k0_mult44 (k0_t2 : Fin k0_t2_loop.trips) : BitVec 32 :=
  let c0_i32_11 : BitVec 32 := 0#32
  let c1_i32 : BitVec 32 := 1#32
  let arg12 : BitVec 32 := Scf.iv c0_i32_11 c1_i32 k0_t2
  let c16_i32_652 : BitVec 32 := 16#32
  let v1894 : BitVec 32 := Scalar.muli arg12 c16_i32_652
  let c6_i32_653 : BitVec 32 := 6#32
  let v1895 : BitVec 32 := Scalar.addi v1894 c6_i32_653
  let c8_i32_654 : BitVec 32 := 8#32
  let v1896 : BitVec 32 := Scalar.muli v1895 c8_i32_654
  v1896
def k0_mult45 (k0_t2 : Fin k0_t2_loop.trips) : BitVec 32 :=
  let c0_i32_11 : BitVec 32 := 0#32
  let c1_i32 : BitVec 32 := 1#32
  let arg12 : BitVec 32 := Scf.iv c0_i32_11 c1_i32 k0_t2
  let c16_i32_720 : BitVec 32 := 16#32
  let v2103 : BitVec 32 := Scalar.muli arg12 c16_i32_720
  let c7_i32_721 : BitVec 32 := 7#32
  let v2104 : BitVec 32 := Scalar.addi v2103 c7_i32_721
  let c8_i32_722 : BitVec 32 := 8#32
  let v2105 : BitVec 32 := Scalar.muli v2104 c8_i32_722
  v2105
def k0_mult46 (k0_t2 : Fin k0_t2_loop.trips) : BitVec 32 :=
  let c0_i32_11 : BitVec 32 := 0#32
  let c1_i32 : BitVec 32 := 1#32
  let arg12 : BitVec 32 := Scf.iv c0_i32_11 c1_i32 k0_t2
  let c16_i32_747 : BitVec 32 := 16#32
  let v2198 : BitVec 32 := Scalar.muli arg12 c16_i32_747
  let c8_i32_748 : BitVec 32 := 8#32
  let v2199 : BitVec 32 := Scalar.addi v2198 c8_i32_748
  let c8_i32_749 : BitVec 32 := 8#32
  let v2200 : BitVec 32 := Scalar.muli v2199 c8_i32_749
  v2200
def k0_mult47 (k0_t2 : Fin k0_t2_loop.trips) : BitVec 32 :=
  let c0_i32_11 : BitVec 32 := 0#32
  let c1_i32 : BitVec 32 := 1#32
  let arg12 : BitVec 32 := Scf.iv c0_i32_11 c1_i32 k0_t2
  let c16_i32_774 : BitVec 32 := 16#32
  let v2293 : BitVec 32 := Scalar.muli arg12 c16_i32_774
  let c9_i32_775 : BitVec 32 := 9#32
  let v2294 : BitVec 32 := Scalar.addi v2293 c9_i32_775
  let c8_i32_776 : BitVec 32 := 8#32
  let v2295 : BitVec 32 := Scalar.muli v2294 c8_i32_776
  v2295
def k0_mult48 (k0_t2 : Fin k0_t2_loop.trips) : BitVec 32 :=
  let c0_i32_11 : BitVec 32 := 0#32
  let c1_i32 : BitVec 32 := 1#32
  let arg12 : BitVec 32 := Scf.iv c0_i32_11 c1_i32 k0_t2
  let c16_i32_842 : BitVec 32 := 16#32
  let v2502 : BitVec 32 := Scalar.muli arg12 c16_i32_842
  let c10_i32_843 : BitVec 32 := 10#32
  let v2503 : BitVec 32 := Scalar.addi v2502 c10_i32_843
  let c8_i32_844 : BitVec 32 := 8#32
  let v2504 : BitVec 32 := Scalar.muli v2503 c8_i32_844
  v2504
def k0_mult49 (k0_t2 : Fin k0_t2_loop.trips) : BitVec 32 :=
  let c0_i32_11 : BitVec 32 := 0#32
  let c1_i32 : BitVec 32 := 1#32
  let arg12 : BitVec 32 := Scf.iv c0_i32_11 c1_i32 k0_t2
  let c16_i32_869 : BitVec 32 := 16#32
  let v2597 : BitVec 32 := Scalar.muli arg12 c16_i32_869
  let c11_i32_870 : BitVec 32 := 11#32
  let v2598 : BitVec 32 := Scalar.addi v2597 c11_i32_870
  let c8_i32_871 : BitVec 32 := 8#32
  let v2599 : BitVec 32 := Scalar.muli v2598 c8_i32_871
  v2599
def k0_mult50 (k0_t2 : Fin k0_t2_loop.trips) : BitVec 32 :=
  let c0_i32_11 : BitVec 32 := 0#32
  let c1_i32 : BitVec 32 := 1#32
  let arg12 : BitVec 32 := Scf.iv c0_i32_11 c1_i32 k0_t2
  let c16_i32_938 : BitVec 32 := 16#32
  let v2814 : BitVec 32 := Scalar.muli arg12 c16_i32_938
  let c12_i32_939 : BitVec 32 := 12#32
  let v2815 : BitVec 32 := Scalar.addi v2814 c12_i32_939
  let c8_i32_940 : BitVec 32 := 8#32
  let v2816 : BitVec 32 := Scalar.muli v2815 c8_i32_940
  v2816
def k0_mult51 (k0_t2 : Fin k0_t2_loop.trips) : BitVec 32 :=
  let c0_i32_11 : BitVec 32 := 0#32
  let c1_i32 : BitVec 32 := 1#32
  let arg12 : BitVec 32 := Scf.iv c0_i32_11 c1_i32 k0_t2
  let c16_i32_1012 : BitVec 32 := 16#32
  let v3039 : BitVec 32 := Scalar.muli arg12 c16_i32_1012
  let c13_i32_1013 : BitVec 32 := 13#32
  let v3040 : BitVec 32 := Scalar.addi v3039 c13_i32_1013
  let c8_i32_1014 : BitVec 32 := 8#32
  let v3041 : BitVec 32 := Scalar.muli v3040 c8_i32_1014
  v3041
def k0_mult52 (k0_t2 : Fin k0_t2_loop.trips) : BitVec 32 :=
  let c0_i32_11 : BitVec 32 := 0#32
  let c1_i32 : BitVec 32 := 1#32
  let arg12 : BitVec 32 := Scf.iv c0_i32_11 c1_i32 k0_t2
  let c16_i32_1039 : BitVec 32 := 16#32
  let v3134 : BitVec 32 := Scalar.muli arg12 c16_i32_1039
  let c14_i32 : BitVec 32 := 14#32
  let v3135 : BitVec 32 := Scalar.addi v3134 c14_i32
  let c8_i32_1040 : BitVec 32 := 8#32
  let v3136 : BitVec 32 := Scalar.muli v3135 c8_i32_1040
  v3136
def k0_mult53 (k0_t2 : Fin k0_t2_loop.trips) : BitVec 32 :=
  let c0_i32_11 : BitVec 32 := 0#32
  let c1_i32 : BitVec 32 := 1#32
  let arg12 : BitVec 32 := Scf.iv c0_i32_11 c1_i32 k0_t2
  let c16_i32_1101 : BitVec 32 := 16#32
  let v3335 : BitVec 32 := Scalar.muli arg12 c16_i32_1101
  let c15_i32 : BitVec 32 := 15#32
  let v3336 : BitVec 32 := Scalar.addi v3335 c15_i32
  let c8_i32_1102 : BitVec 32 := 8#32
  let v3337 : BitVec 32 := Scalar.muli v3336 c8_i32_1102
  v3337
def k0_mult54 : BitVec 32 :=
  let c1408_i32 : BitVec 32 := 1408#32
  c1408_i32
def k0_mult55 : BitVec 32 :=
  let c1416_i32 : BitVec 32 := 1416#32
  c1416_i32
def k0_mult56 : BitVec 32 :=
  let c1424_i32 : BitVec 32 := 1424#32
  c1424_i32
def k0_mult57 : BitVec 32 :=
  let c1432_i32 : BitVec 32 := 1432#32
  c1432_i32
def k0_mult58 : BitVec 32 :=
  let c1440_i32 : BitVec 32 := 1440#32
  c1440_i32
def k0_mult59 : BitVec 32 :=
  let c1448_i32 : BitVec 32 := 1448#32
  c1448_i32
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x14592 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1460x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S114x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S114x295 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S192x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S192x1x14592 : Shape := ⟨3, ![192, 1, 14592]⟩
abbrev S1460x2944 : Shape := ⟨2, ![1460, 2944]⟩
abbrev S114x2944 : Shape := ⟨2, ![114, 2944]⟩
abbrev S114x295 : Shape := ⟨2, ![114, 295]⟩
abbrev S_ : Shape := ⟨0, ![]⟩
abbrev S114x2950 : Shape := ⟨2, ![114, 2950]⟩
abbrev S192x1x14600 : Shape := ⟨3, ![192, 1, 14600]⟩
abbrev S1460 : Shape := ⟨1, ![1460]⟩
abbrev S1460x1 : Shape := ⟨2, ![1460, 1]⟩
abbrev S192x1x1460 : Shape := ⟨3, ![192, 1, 1460]⟩
abbrev S192x1x2944 : Shape := ⟨3, ![192, 1, 2944]⟩
abbrev S192x2944 : Shape := ⟨2, ![192, 2944]⟩

abbrev nBuf : Space → Nat
  | .hbm => 642
  | .vmem => 0
  | .smem => 0
  | _ => 0

abbrev hbmTy0_0 (i : Nat) : BufTy := match i % 128 with
  | 0 => ⟨S192x1x14592, .bf16⟩
  | 1 => ⟨S1460x2944, .i32⟩
  | 2 => ⟨S114x2944, .bf16⟩
  | 3 => ⟨S114x295, .i32⟩
  | 4 => ⟨S_, .i32⟩
  | 5 => ⟨S114x295, .i32⟩
  | 6 => ⟨S114x295, .i32⟩
  | 7 => ⟨S_, .i32⟩
  | 8 => ⟨S114x295, .i32⟩
  | 9 => ⟨S114x295, .i32⟩
  | 10 => ⟨S_, .i32⟩
  | 11 => ⟨S114x295, .i32⟩
  | 12 => ⟨S114x295, .i32⟩
  | 13 => ⟨S_, .i32⟩
  | 14 => ⟨S114x295, .i32⟩
  | 15 => ⟨S114x295, .i32⟩
  | 16 => ⟨S_, .i32⟩
  | 17 => ⟨S114x295, .i32⟩
  | 18 => ⟨S114x295, .i32⟩
  | 19 => ⟨S_, .i32⟩
  | 20 => ⟨S114x295, .i32⟩
  | 21 => ⟨S114x295, .i32⟩
  | 22 => ⟨S_, .i32⟩
  | 23 => ⟨S114x295, .i32⟩
  | 24 => ⟨S114x295, .i32⟩
  | 25 => ⟨S_, .i32⟩
  | 26 => ⟨S114x295, .i32⟩
  | 27 => ⟨S114x295, .i32⟩
  | 28 => ⟨S_, .i32⟩
  | 29 => ⟨S114x295, .i32⟩
  | 30 => ⟨S114x295, .i32⟩
  | 31 => ⟨S_, .i32⟩
  | 32 => ⟨S114x295, .i32⟩
  | 33 => ⟨S114x295, .i32⟩
  | 34 => ⟨S_, .i32⟩
  | 35 => ⟨S114x295, .i32⟩
  | 36 => ⟨S114x295, .i32⟩
  | 37 => ⟨S_, .i32⟩
  | 38 => ⟨S114x295, .i32⟩
  | 39 => ⟨S114x295, .i32⟩
  | 40 => ⟨S_, .i32⟩
  | 41 => ⟨S114x295, .i32⟩
  | 42 => ⟨S114x295, .i32⟩
  | 43 => ⟨S_, .i32⟩
  | 44 => ⟨S114x295, .i32⟩
  | 45 => ⟨S114x295, .i32⟩
  | 46 => ⟨S_, .i32⟩
  | 47 => ⟨S114x295, .i32⟩
  | 48 => ⟨S114x295, .i32⟩
  | 49 => ⟨S_, .i32⟩
  | 50 => ⟨S114x295, .i32⟩
  | 51 => ⟨S114x295, .i32⟩
  | 52 => ⟨S_, .i32⟩
  | 53 => ⟨S114x295, .i32⟩
  | 54 => ⟨S114x295, .i32⟩
  | 55 => ⟨S_, .i32⟩
  | 56 => ⟨S114x295, .i32⟩
  | 57 => ⟨S114x295, .i32⟩
  | 58 => ⟨S_, .i32⟩
  | 59 => ⟨S114x295, .i32⟩
  | 60 => ⟨S114x295, .i32⟩
  | 61 => ⟨S_, .i32⟩
  | 62 => ⟨S114x295, .i32⟩
  | 63 => ⟨S114x295, .i32⟩
  | 64 => ⟨S114x2950, .i32⟩
  | 65 => ⟨S114x2944, .i32⟩
  | 66 => ⟨S114x2944, .bf16⟩
  | 67 => ⟨S_, .i32⟩
  | 68 => ⟨S_, .bf16⟩
  | 69 => ⟨S192x1x14600, .bf16⟩
  | 70 => ⟨S1460, .i32⟩
  | 71 => ⟨S_, .i32⟩
  | 72 => ⟨S1460, .i32⟩
  | 73 => ⟨S1460, .i32⟩
  | 74 => ⟨S_, .i32⟩
  | 75 => ⟨S1460, .i32⟩
  | 76 => ⟨S1460, .i32⟩
  | 77 => ⟨S_, .i32⟩
  | 78 => ⟨S_, .i32⟩
  | 79 => ⟨S1460, .i32⟩
  | 80 => ⟨S1460, .i32⟩
  | 81 => ⟨S1460, .i32⟩
  | 82 => ⟨S_, .i32⟩
  | 83 => ⟨S1460, .i32⟩
  | 84 => ⟨S1460, .i1⟩
  | 85 => ⟨S1460, .i32⟩
  | 86 => ⟨S1460, .i32⟩
  | 87 => ⟨S_, .i32⟩
  | 88 => ⟨S1460, .i32⟩
  | 89 => ⟨S1460, .i1⟩
  | 90 => ⟨S1460, .i1⟩
  | 91 => ⟨S_, .i32⟩
  | 92 => ⟨S1460, .i32⟩
  | 93 => ⟨S1460, .i32⟩
  | 94 => ⟨S1460, .i32⟩
  | 95 => ⟨S_, .i32⟩
  | 96 => ⟨S1460, .i32⟩
  | 97 => ⟨S1460, .i32⟩
  | 98 => ⟨S_, .i32⟩
  | 99 => ⟨S1460x2944, .i32⟩
  | 100 => ⟨S1460x2944, .i32⟩
  | 101 => ⟨S_, .i32⟩
  | 102 => ⟨S1460x2944, .i32⟩
  | 103 => ⟨S1460x2944, .i32⟩
  | 104 => ⟨S1460x2944, .bf16⟩
  | 105 => ⟨S_, .i32⟩
  | 106 => ⟨S1460, .i32⟩
  | 107 => ⟨S1460, .i1⟩
  | 108 => ⟨S_, .i32⟩
  | 109 => ⟨S1460, .i32⟩
  | 110 => ⟨S1460, .i32⟩
  | 111 => ⟨S1460, .i32⟩
  | 112 => ⟨S1460x1, .i32⟩
  | 113 => ⟨S1460x2944, .bf16⟩
  | 114 => ⟨S1460x2944, .bf16⟩
  | 115 => ⟨S_, .i32⟩
  | 116 => ⟨S1460, .i32⟩
  | 117 => ⟨S1460, .i1⟩
  | 118 => ⟨S_, .i32⟩
  | 119 => ⟨S1460, .i32⟩
  | 120 => ⟨S1460, .i32⟩
  | 121 => ⟨S1460, .i32⟩
  | 122 => ⟨S1460x1, .i32⟩
  | 123 => ⟨S1460x2944, .bf16⟩
  | 124 => ⟨S1460x2944, .bf16⟩
  | 125 => ⟨S192x1x1460, .bf16⟩
  | 126 => ⟨S192x1x2944, .f32⟩
  | 127 => ⟨S_, .i32⟩
  | _ => ⟨S192x1x14592, .bf16⟩

abbrev hbmTy0_1 (i : Nat) : BufTy := match i % 128 with
  | 0 => ⟨S1460, .i32⟩
  | 1 => ⟨S1460, .i32⟩
  | 2 => ⟨S_, .i32⟩
  | 3 => ⟨S1460, .i32⟩
  | 4 => ⟨S1460, .i32⟩
  | 5 => ⟨S_, .i32⟩
  | 6 => ⟨S_, .i32⟩
  | 7 => ⟨S1460, .i32⟩
  | 8 => ⟨S1460, .i32⟩
  | 9 => ⟨S1460, .i32⟩
  | 10 => ⟨S_, .i32⟩
  | 11 => ⟨S1460, .i32⟩
  | 12 => ⟨S1460, .i1⟩
  | 13 => ⟨S1460, .i32⟩
  | 14 => ⟨S1460, .i32⟩
  | 15 => ⟨S_, .i32⟩
  | 16 => ⟨S1460, .i32⟩
  | 17 => ⟨S1460, .i1⟩
  | 18 => ⟨S1460, .i1⟩
  | 19 => ⟨S_, .i32⟩
  | 20 => ⟨S1460, .i32⟩
  | 21 => ⟨S1460, .i32⟩
  | 22 => ⟨S1460, .i32⟩
  | 23 => ⟨S_, .i32⟩
  | 24 => ⟨S1460, .i32⟩
  | 25 => ⟨S1460, .i32⟩
  | 26 => ⟨S_, .i32⟩
  | 27 => ⟨S1460x2944, .i32⟩
  | 28 => ⟨S1460x2944, .i32⟩
  | 29 => ⟨S_, .i32⟩
  | 30 => ⟨S1460x2944, .i32⟩
  | 31 => ⟨S1460x2944, .i32⟩
  | 32 => ⟨S1460x2944, .bf16⟩
  | 33 => ⟨S_, .i32⟩
  | 34 => ⟨S1460, .i32⟩
  | 35 => ⟨S1460, .i1⟩
  | 36 => ⟨S_, .i32⟩
  | 37 => ⟨S1460, .i32⟩
  | 38 => ⟨S1460, .i32⟩
  | 39 => ⟨S1460, .i32⟩
  | 40 => ⟨S1460x1, .i32⟩
  | 41 => ⟨S1460x2944, .bf16⟩
  | 42 => ⟨S1460x2944, .bf16⟩
  | 43 => ⟨S_, .i32⟩
  | 44 => ⟨S1460, .i32⟩
  | 45 => ⟨S1460, .i1⟩
  | 46 => ⟨S_, .i32⟩
  | 47 => ⟨S1460, .i32⟩
  | 48 => ⟨S1460, .i32⟩
  | 49 => ⟨S1460, .i32⟩
  | 50 => ⟨S1460x1, .i32⟩
  | 51 => ⟨S1460x2944, .bf16⟩
  | 52 => ⟨S1460x2944, .bf16⟩
  | 53 => ⟨S192x1x1460, .bf16⟩
  | 54 => ⟨S192x1x2944, .f32⟩
  | 55 => ⟨S192x1x2944, .f32⟩
  | 56 => ⟨S_, .i32⟩
  | 57 => ⟨S1460, .i32⟩
  | 58 => ⟨S1460, .i32⟩
  | 59 => ⟨S_, .i32⟩
  | 60 => ⟨S1460, .i32⟩
  | 61 => ⟨S1460, .i32⟩
  | 62 => ⟨S_, .i32⟩
  | 63 => ⟨S_, .i32⟩
  | 64 => ⟨S1460, .i32⟩
  | 65 => ⟨S1460, .i32⟩
  | 66 => ⟨S1460, .i32⟩
  | 67 => ⟨S_, .i32⟩
  | 68 => ⟨S1460, .i32⟩
  | 69 => ⟨S1460, .i1⟩
  | 70 => ⟨S1460, .i32⟩
  | 71 => ⟨S1460, .i32⟩
  | 72 => ⟨S_, .i32⟩
  | 73 => ⟨S1460, .i32⟩
  | 74 => ⟨S1460, .i1⟩
  | 75 => ⟨S1460, .i1⟩
  | 76 => ⟨S_, .i32⟩
  | 77 => ⟨S1460, .i32⟩
  | 78 => ⟨S1460, .i32⟩
  | 79 => ⟨S1460, .i32⟩
  | 80 => ⟨S_, .i32⟩
  | 81 => ⟨S1460, .i32⟩
  | 82 => ⟨S1460, .i32⟩
  | 83 => ⟨S_, .i32⟩
  | 84 => ⟨S1460x2944, .i32⟩
  | 85 => ⟨S1460x2944, .i32⟩
  | 86 => ⟨S_, .i32⟩
  | 87 => ⟨S1460x2944, .i32⟩
  | 88 => ⟨S1460x2944, .i32⟩
  | 89 => ⟨S1460x2944, .bf16⟩
  | 90 => ⟨S_, .i32⟩
  | 91 => ⟨S1460, .i32⟩
  | 92 => ⟨S1460, .i1⟩
  | 93 => ⟨S_, .i32⟩
  | 94 => ⟨S1460, .i32⟩
  | 95 => ⟨S1460, .i32⟩
  | 96 => ⟨S1460, .i32⟩
  | 97 => ⟨S1460x1, .i32⟩
  | 98 => ⟨S1460x2944, .bf16⟩
  | 99 => ⟨S1460x2944, .bf16⟩
  | 100 => ⟨S_, .i32⟩
  | 101 => ⟨S1460, .i32⟩
  | 102 => ⟨S1460, .i1⟩
  | 103 => ⟨S_, .i32⟩
  | 104 => ⟨S1460, .i32⟩
  | 105 => ⟨S1460, .i32⟩
  | 106 => ⟨S1460, .i32⟩
  | 107 => ⟨S1460x1, .i32⟩
  | 108 => ⟨S1460x2944, .bf16⟩
  | 109 => ⟨S1460x2944, .bf16⟩
  | 110 => ⟨S192x1x1460, .bf16⟩
  | 111 => ⟨S192x1x2944, .f32⟩
  | 112 => ⟨S192x1x2944, .f32⟩
  | 113 => ⟨S_, .i32⟩
  | 114 => ⟨S1460, .i32⟩
  | 115 => ⟨S1460, .i32⟩
  | 116 => ⟨S_, .i32⟩
  | 117 => ⟨S1460, .i32⟩
  | 118 => ⟨S1460, .i32⟩
  | 119 => ⟨S_, .i32⟩
  | 120 => ⟨S_, .i32⟩
  | 121 => ⟨S1460, .i32⟩
  | 122 => ⟨S1460, .i32⟩
  | 123 => ⟨S1460, .i32⟩
  | 124 => ⟨S_, .i32⟩
  | 125 => ⟨S1460, .i32⟩
  | 126 => ⟨S1460, .i1⟩
  | 127 => ⟨S1460, .i32⟩
  | _ => ⟨S192x1x14592, .bf16⟩

abbrev hbmTy0_2 (i : Nat) : BufTy := match i % 128 with
  | 0 => ⟨S1460, .i32⟩
  | 1 => ⟨S_, .i32⟩
  | 2 => ⟨S1460, .i32⟩
  | 3 => ⟨S1460, .i1⟩
  | 4 => ⟨S1460, .i1⟩
  | 5 => ⟨S_, .i32⟩
  | 6 => ⟨S1460, .i32⟩
  | 7 => ⟨S1460, .i32⟩
  | 8 => ⟨S1460, .i32⟩
  | 9 => ⟨S_, .i32⟩
  | 10 => ⟨S1460, .i32⟩
  | 11 => ⟨S1460, .i32⟩
  | 12 => ⟨S_, .i32⟩
  | 13 => ⟨S1460x2944, .i32⟩
  | 14 => ⟨S1460x2944, .i32⟩
  | 15 => ⟨S_, .i32⟩
  | 16 => ⟨S1460x2944, .i32⟩
  | 17 => ⟨S1460x2944, .i32⟩
  | 18 => ⟨S1460x2944, .bf16⟩
  | 19 => ⟨S_, .i32⟩
  | 20 => ⟨S1460, .i32⟩
  | 21 => ⟨S1460, .i1⟩
  | 22 => ⟨S_, .i32⟩
  | 23 => ⟨S1460, .i32⟩
  | 24 => ⟨S1460, .i32⟩
  | 25 => ⟨S1460, .i32⟩
  | 26 => ⟨S1460x1, .i32⟩
  | 27 => ⟨S1460x2944, .bf16⟩
  | 28 => ⟨S1460x2944, .bf16⟩
  | 29 => ⟨S_, .i32⟩
  | 30 => ⟨S1460, .i32⟩
  | 31 => ⟨S1460, .i1⟩
  | 32 => ⟨S_, .i32⟩
  | 33 => ⟨S1460, .i32⟩
  | 34 => ⟨S1460, .i32⟩
  | 35 => ⟨S1460, .i32⟩
  | 36 => ⟨S1460x1, .i32⟩
  | 37 => ⟨S1460x2944, .bf16⟩
  | 38 => ⟨S1460x2944, .bf16⟩
  | 39 => ⟨S192x1x1460, .bf16⟩
  | 40 => ⟨S192x1x2944, .f32⟩
  | 41 => ⟨S192x1x2944, .f32⟩
  | 42 => ⟨S_, .i32⟩
  | 43 => ⟨S1460, .i32⟩
  | 44 => ⟨S1460, .i32⟩
  | 45 => ⟨S_, .i32⟩
  | 46 => ⟨S1460, .i32⟩
  | 47 => ⟨S1460, .i32⟩
  | 48 => ⟨S_, .i32⟩
  | 49 => ⟨S_, .i32⟩
  | 50 => ⟨S1460, .i32⟩
  | 51 => ⟨S1460, .i32⟩
  | 52 => ⟨S1460, .i32⟩
  | 53 => ⟨S_, .i32⟩
  | 54 => ⟨S1460, .i32⟩
  | 55 => ⟨S1460, .i1⟩
  | 56 => ⟨S1460, .i32⟩
  | 57 => ⟨S1460, .i32⟩
  | 58 => ⟨S_, .i32⟩
  | 59 => ⟨S1460, .i32⟩
  | 60 => ⟨S1460, .i1⟩
  | 61 => ⟨S1460, .i1⟩
  | 62 => ⟨S_, .i32⟩
  | 63 => ⟨S1460, .i32⟩
  | 64 => ⟨S1460, .i32⟩
  | 65 => ⟨S1460, .i32⟩
  | 66 => ⟨S_, .i32⟩
  | 67 => ⟨S1460, .i32⟩
  | 68 => ⟨S1460, .i32⟩
  | 69 => ⟨S_, .i32⟩
  | 70 => ⟨S1460x2944, .i32⟩
  | 71 => ⟨S1460x2944, .i32⟩
  | 72 => ⟨S_, .i32⟩
  | 73 => ⟨S1460x2944, .i32⟩
  | 74 => ⟨S1460x2944, .i32⟩
  | 75 => ⟨S1460x2944, .bf16⟩
  | 76 => ⟨S_, .i32⟩
  | 77 => ⟨S1460, .i32⟩
  | 78 => ⟨S1460, .i1⟩
  | 79 => ⟨S_, .i32⟩
  | 80 => ⟨S1460, .i32⟩
  | 81 => ⟨S1460, .i32⟩
  | 82 => ⟨S1460, .i32⟩
  | 83 => ⟨S1460x1, .i32⟩
  | 84 => ⟨S1460x2944, .bf16⟩
  | 85 => ⟨S1460x2944, .bf16⟩
  | 86 => ⟨S_, .i32⟩
  | 87 => ⟨S1460, .i32⟩
  | 88 => ⟨S1460, .i1⟩
  | 89 => ⟨S_, .i32⟩
  | 90 => ⟨S1460, .i32⟩
  | 91 => ⟨S1460, .i32⟩
  | 92 => ⟨S1460, .i32⟩
  | 93 => ⟨S1460x1, .i32⟩
  | 94 => ⟨S1460x2944, .bf16⟩
  | 95 => ⟨S1460x2944, .bf16⟩
  | 96 => ⟨S192x1x1460, .bf16⟩
  | 97 => ⟨S192x1x2944, .f32⟩
  | 98 => ⟨S192x1x2944, .f32⟩
  | 99 => ⟨S_, .i32⟩
  | 100 => ⟨S1460, .i32⟩
  | 101 => ⟨S1460, .i32⟩
  | 102 => ⟨S_, .i32⟩
  | 103 => ⟨S1460, .i32⟩
  | 104 => ⟨S1460, .i32⟩
  | 105 => ⟨S_, .i32⟩
  | 106 => ⟨S_, .i32⟩
  | 107 => ⟨S1460, .i32⟩
  | 108 => ⟨S1460, .i32⟩
  | 109 => ⟨S1460, .i32⟩
  | 110 => ⟨S_, .i32⟩
  | 111 => ⟨S1460, .i32⟩
  | 112 => ⟨S1460, .i1⟩
  | 113 => ⟨S1460, .i32⟩
  | 114 => ⟨S1460, .i32⟩
  | 115 => ⟨S_, .i32⟩
  | 116 => ⟨S1460, .i32⟩
  | 117 => ⟨S1460, .i1⟩
  | 118 => ⟨S1460, .i1⟩
  | 119 => ⟨S_, .i32⟩
  | 120 => ⟨S1460, .i32⟩
  | 121 => ⟨S1460, .i32⟩
  | 122 => ⟨S1460, .i32⟩
  | 123 => ⟨S_, .i32⟩
  | 124 => ⟨S1460, .i32⟩
  | 125 => ⟨S1460, .i32⟩
  | 126 => ⟨S_, .i32⟩
  | 127 => ⟨S1460x2944, .i32⟩
  | _ => ⟨S192x1x14592, .bf16⟩

abbrev hbmTy0_3 (i : Nat) : BufTy := match i % 128 with
  | 0 => ⟨S1460x2944, .i32⟩
  | 1 => ⟨S_, .i32⟩
  | 2 => ⟨S1460x2944, .i32⟩
  | 3 => ⟨S1460x2944, .i32⟩
  | 4 => ⟨S1460x2944, .bf16⟩
  | 5 => ⟨S_, .i32⟩
  | 6 => ⟨S1460, .i32⟩
  | 7 => ⟨S1460, .i1⟩
  | 8 => ⟨S_, .i32⟩
  | 9 => ⟨S1460, .i32⟩
  | 10 => ⟨S1460, .i32⟩
  | 11 => ⟨S1460, .i32⟩
  | 12 => ⟨S1460x1, .i32⟩
  | 13 => ⟨S1460x2944, .bf16⟩
  | 14 => ⟨S1460x2944, .bf16⟩
  | 15 => ⟨S_, .i32⟩
  | 16 => ⟨S1460, .i32⟩
  | 17 => ⟨S1460, .i1⟩
  | 18 => ⟨S_, .i32⟩
  | 19 => ⟨S1460, .i32⟩
  | 20 => ⟨S1460, .i32⟩
  | 21 => ⟨S1460, .i32⟩
  | 22 => ⟨S1460x1, .i32⟩
  | 23 => ⟨S1460x2944, .bf16⟩
  | 24 => ⟨S1460x2944, .bf16⟩
  | 25 => ⟨S192x1x1460, .bf16⟩
  | 26 => ⟨S192x1x2944, .f32⟩
  | 27 => ⟨S192x1x2944, .f32⟩
  | 28 => ⟨S_, .i32⟩
  | 29 => ⟨S1460, .i32⟩
  | 30 => ⟨S1460, .i32⟩
  | 31 => ⟨S_, .i32⟩
  | 32 => ⟨S1460, .i32⟩
  | 33 => ⟨S1460, .i32⟩
  | 34 => ⟨S_, .i32⟩
  | 35 => ⟨S_, .i32⟩
  | 36 => ⟨S1460, .i32⟩
  | 37 => ⟨S1460, .i32⟩
  | 38 => ⟨S1460, .i32⟩
  | 39 => ⟨S_, .i32⟩
  | 40 => ⟨S1460, .i32⟩
  | 41 => ⟨S1460, .i1⟩
  | 42 => ⟨S1460, .i32⟩
  | 43 => ⟨S1460, .i32⟩
  | 44 => ⟨S_, .i32⟩
  | 45 => ⟨S1460, .i32⟩
  | 46 => ⟨S1460, .i1⟩
  | 47 => ⟨S1460, .i1⟩
  | 48 => ⟨S_, .i32⟩
  | 49 => ⟨S1460, .i32⟩
  | 50 => ⟨S1460, .i32⟩
  | 51 => ⟨S1460, .i32⟩
  | 52 => ⟨S_, .i32⟩
  | 53 => ⟨S1460, .i32⟩
  | 54 => ⟨S1460, .i32⟩
  | 55 => ⟨S_, .i32⟩
  | 56 => ⟨S1460x2944, .i32⟩
  | 57 => ⟨S1460x2944, .i32⟩
  | 58 => ⟨S_, .i32⟩
  | 59 => ⟨S1460x2944, .i32⟩
  | 60 => ⟨S1460x2944, .i32⟩
  | 61 => ⟨S1460x2944, .bf16⟩
  | 62 => ⟨S_, .i32⟩
  | 63 => ⟨S1460, .i32⟩
  | 64 => ⟨S1460, .i1⟩
  | 65 => ⟨S_, .i32⟩
  | 66 => ⟨S1460, .i32⟩
  | 67 => ⟨S1460, .i32⟩
  | 68 => ⟨S1460, .i32⟩
  | 69 => ⟨S1460x1, .i32⟩
  | 70 => ⟨S1460x2944, .bf16⟩
  | 71 => ⟨S1460x2944, .bf16⟩
  | 72 => ⟨S_, .i32⟩
  | 73 => ⟨S1460, .i32⟩
  | 74 => ⟨S1460, .i1⟩
  | 75 => ⟨S_, .i32⟩
  | 76 => ⟨S1460, .i32⟩
  | 77 => ⟨S1460, .i32⟩
  | 78 => ⟨S1460, .i32⟩
  | 79 => ⟨S1460x1, .i32⟩
  | 80 => ⟨S1460x2944, .bf16⟩
  | 81 => ⟨S1460x2944, .bf16⟩
  | 82 => ⟨S192x1x1460, .bf16⟩
  | 83 => ⟨S192x1x2944, .f32⟩
  | 84 => ⟨S192x1x2944, .f32⟩
  | 85 => ⟨S_, .i32⟩
  | 86 => ⟨S1460, .i32⟩
  | 87 => ⟨S1460, .i32⟩
  | 88 => ⟨S_, .i32⟩
  | 89 => ⟨S1460, .i32⟩
  | 90 => ⟨S1460, .i32⟩
  | 91 => ⟨S_, .i32⟩
  | 92 => ⟨S_, .i32⟩
  | 93 => ⟨S1460, .i32⟩
  | 94 => ⟨S1460, .i32⟩
  | 95 => ⟨S1460, .i32⟩
  | 96 => ⟨S_, .i32⟩
  | 97 => ⟨S1460, .i32⟩
  | 98 => ⟨S1460, .i1⟩
  | 99 => ⟨S1460, .i32⟩
  | 100 => ⟨S1460, .i32⟩
  | 101 => ⟨S_, .i32⟩
  | 102 => ⟨S1460, .i32⟩
  | 103 => ⟨S1460, .i1⟩
  | 104 => ⟨S1460, .i1⟩
  | 105 => ⟨S_, .i32⟩
  | 106 => ⟨S1460, .i32⟩
  | 107 => ⟨S1460, .i32⟩
  | 108 => ⟨S1460, .i32⟩
  | 109 => ⟨S_, .i32⟩
  | 110 => ⟨S1460, .i32⟩
  | 111 => ⟨S1460, .i32⟩
  | 112 => ⟨S_, .i32⟩
  | 113 => ⟨S1460x2944, .i32⟩
  | 114 => ⟨S1460x2944, .i32⟩
  | 115 => ⟨S_, .i32⟩
  | 116 => ⟨S1460x2944, .i32⟩
  | 117 => ⟨S1460x2944, .i32⟩
  | 118 => ⟨S1460x2944, .bf16⟩
  | 119 => ⟨S_, .i32⟩
  | 120 => ⟨S1460, .i32⟩
  | 121 => ⟨S1460, .i1⟩
  | 122 => ⟨S_, .i32⟩
  | 123 => ⟨S1460, .i32⟩
  | 124 => ⟨S1460, .i32⟩
  | 125 => ⟨S1460, .i32⟩
  | 126 => ⟨S1460x1, .i32⟩
  | 127 => ⟨S1460x2944, .bf16⟩
  | _ => ⟨S192x1x14592, .bf16⟩

abbrev hbmTy0_4 (i : Nat) : BufTy := match i % 128 with
  | 0 => ⟨S1460x2944, .bf16⟩
  | 1 => ⟨S_, .i32⟩
  | 2 => ⟨S1460, .i32⟩
  | 3 => ⟨S1460, .i1⟩
  | 4 => ⟨S_, .i32⟩
  | 5 => ⟨S1460, .i32⟩
  | 6 => ⟨S1460, .i32⟩
  | 7 => ⟨S1460, .i32⟩
  | 8 => ⟨S1460x1, .i32⟩
  | 9 => ⟨S1460x2944, .bf16⟩
  | 10 => ⟨S1460x2944, .bf16⟩
  | 11 => ⟨S192x1x1460, .bf16⟩
  | 12 => ⟨S192x1x2944, .f32⟩
  | 13 => ⟨S192x1x2944, .f32⟩
  | 14 => ⟨S_, .i32⟩
  | 15 => ⟨S1460, .i32⟩
  | 16 => ⟨S1460, .i32⟩
  | 17 => ⟨S_, .i32⟩
  | 18 => ⟨S1460, .i32⟩
  | 19 => ⟨S1460, .i32⟩
  | 20 => ⟨S_, .i32⟩
  | 21 => ⟨S_, .i32⟩
  | 22 => ⟨S1460, .i32⟩
  | 23 => ⟨S1460, .i32⟩
  | 24 => ⟨S1460, .i32⟩
  | 25 => ⟨S_, .i32⟩
  | 26 => ⟨S1460, .i32⟩
  | 27 => ⟨S1460, .i1⟩
  | 28 => ⟨S1460, .i32⟩
  | 29 => ⟨S1460, .i32⟩
  | 30 => ⟨S_, .i32⟩
  | 31 => ⟨S1460, .i32⟩
  | 32 => ⟨S1460, .i1⟩
  | 33 => ⟨S1460, .i1⟩
  | 34 => ⟨S_, .i32⟩
  | 35 => ⟨S1460, .i32⟩
  | 36 => ⟨S1460, .i32⟩
  | 37 => ⟨S1460, .i32⟩
  | 38 => ⟨S_, .i32⟩
  | 39 => ⟨S1460, .i32⟩
  | 40 => ⟨S1460, .i32⟩
  | 41 => ⟨S_, .i32⟩
  | 42 => ⟨S1460x2944, .i32⟩
  | 43 => ⟨S1460x2944, .i32⟩
  | 44 => ⟨S_, .i32⟩
  | 45 => ⟨S1460x2944, .i32⟩
  | 46 => ⟨S1460x2944, .i32⟩
  | 47 => ⟨S1460x2944, .bf16⟩
  | 48 => ⟨S_, .i32⟩
  | 49 => ⟨S1460, .i32⟩
  | 50 => ⟨S1460, .i1⟩
  | 51 => ⟨S_, .i32⟩
  | 52 => ⟨S1460, .i32⟩
  | 53 => ⟨S1460, .i32⟩
  | 54 => ⟨S1460, .i32⟩
  | 55 => ⟨S1460x1, .i32⟩
  | 56 => ⟨S1460x2944, .bf16⟩
  | 57 => ⟨S1460x2944, .bf16⟩
  | 58 => ⟨S_, .i32⟩
  | 59 => ⟨S1460, .i32⟩
  | 60 => ⟨S1460, .i1⟩
  | 61 => ⟨S_, .i32⟩
  | 62 => ⟨S1460, .i32⟩
  | 63 => ⟨S1460, .i32⟩
  | 64 => ⟨S1460, .i32⟩
  | 65 => ⟨S1460x1, .i32⟩
  | 66 => ⟨S1460x2944, .bf16⟩
  | 67 => ⟨S1460x2944, .bf16⟩
  | 68 => ⟨S192x1x1460, .bf16⟩
  | 69 => ⟨S192x1x2944, .f32⟩
  | 70 => ⟨S192x1x2944, .f32⟩
  | 71 => ⟨S_, .i32⟩
  | 72 => ⟨S1460, .i32⟩
  | 73 => ⟨S1460, .i32⟩
  | 74 => ⟨S_, .i32⟩
  | 75 => ⟨S1460, .i32⟩
  | 76 => ⟨S1460, .i32⟩
  | 77 => ⟨S_, .i32⟩
  | 78 => ⟨S_, .i32⟩
  | 79 => ⟨S1460, .i32⟩
  | 80 => ⟨S1460, .i32⟩
  | 81 => ⟨S1460, .i32⟩
  | 82 => ⟨S_, .i32⟩
  | 83 => ⟨S1460, .i32⟩
  | 84 => ⟨S1460, .i1⟩
  | 85 => ⟨S1460, .i32⟩
  | 86 => ⟨S1460, .i32⟩
  | 87 => ⟨S_, .i32⟩
  | 88 => ⟨S1460, .i32⟩
  | 89 => ⟨S1460, .i1⟩
  | 90 => ⟨S1460, .i1⟩
  | 91 => ⟨S_, .i32⟩
  | 92 => ⟨S1460, .i32⟩
  | 93 => ⟨S1460, .i32⟩
  | 94 => ⟨S1460, .i32⟩
  | 95 => ⟨S_, .i32⟩
  | 96 => ⟨S1460, .i32⟩
  | 97 => ⟨S1460, .i32⟩
  | 98 => ⟨S_, .i32⟩
  | 99 => ⟨S1460x2944, .i32⟩
  | 100 => ⟨S1460x2944, .i32⟩
  | 101 => ⟨S_, .i32⟩
  | 102 => ⟨S1460x2944, .i32⟩
  | 103 => ⟨S1460x2944, .i32⟩
  | 104 => ⟨S1460x2944, .bf16⟩
  | 105 => ⟨S_, .i32⟩
  | 106 => ⟨S1460, .i32⟩
  | 107 => ⟨S1460, .i1⟩
  | 108 => ⟨S_, .i32⟩
  | 109 => ⟨S1460, .i32⟩
  | 110 => ⟨S1460, .i32⟩
  | 111 => ⟨S1460, .i32⟩
  | 112 => ⟨S1460x1, .i32⟩
  | 113 => ⟨S1460x2944, .bf16⟩
  | 114 => ⟨S1460x2944, .bf16⟩
  | 115 => ⟨S_, .i32⟩
  | 116 => ⟨S1460, .i32⟩
  | 117 => ⟨S1460, .i1⟩
  | 118 => ⟨S_, .i32⟩
  | 119 => ⟨S1460, .i32⟩
  | 120 => ⟨S1460, .i32⟩
  | 121 => ⟨S1460, .i32⟩
  | 122 => ⟨S1460x1, .i32⟩
  | 123 => ⟨S1460x2944, .bf16⟩
  | 124 => ⟨S1460x2944, .bf16⟩
  | 125 => ⟨S192x1x1460, .bf16⟩
  | 126 => ⟨S192x1x2944, .f32⟩
  | 127 => ⟨S192x1x2944, .f32⟩
  | _ => ⟨S192x1x14592, .bf16⟩

abbrev hbmTy0_5 (i : Nat) : BufTy := match i % 128 with
  | 0 => ⟨S192x1x2944, .bf16⟩
  | 1 => ⟨S192x2944, .bf16⟩
  | _ => ⟨S192x1x14592, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S192x1x14592, .bf16⟩

abbrev bufTy : (tb : Table) → Fin (tcTables nBuf tb) → BufTy
  | .hbm, ⟨i, _⟩ => hbmTy i
  | _, _ => ⟨S192x1x14592, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_v10 : Ref sig .tc := ⟨.hbm, 20, rfl⟩
abbrev main_v11 : Ref sig .tc := ⟨.hbm, 21, rfl⟩
abbrev main_c_5 : Ref sig .tc := ⟨.hbm, 22, rfl⟩
abbrev main_v12 : Ref sig .tc := ⟨.hbm, 23, rfl⟩
abbrev main_v13 : Ref sig .tc := ⟨.hbm, 24, rfl⟩
abbrev main_c_6 : Ref sig .tc := ⟨.hbm, 25, rfl⟩
abbrev main_v14 : Ref sig .tc := ⟨.hbm, 26, rfl⟩
abbrev main_v15 : Ref sig .tc := ⟨.hbm, 27, rfl⟩
abbrev main_c_7 : Ref sig .tc := ⟨.hbm, 28, rfl⟩
abbrev main_v16 : Ref sig .tc := ⟨.hbm, 29, rfl⟩
abbrev main_v17 : Ref sig .tc := ⟨.hbm, 30, rfl⟩
abbrev main_c_8 : Ref sig .tc := ⟨.hbm, 31, rfl⟩
abbrev main_v18 : Ref sig .tc := ⟨.hbm, 32, rfl⟩
abbrev main_v19 : Ref sig .tc := ⟨.hbm, 33, rfl⟩
abbrev main_c_9 : Ref sig .tc := ⟨.hbm, 34, rfl⟩
abbrev main_v20 : Ref sig .tc := ⟨.hbm, 35, rfl⟩
abbrev main_v21 : Ref sig .tc := ⟨.hbm, 36, rfl⟩
abbrev main_c_10 : Ref sig .tc := ⟨.hbm, 37, rfl⟩
abbrev main_v22 : Ref sig .tc := ⟨.hbm, 38, rfl⟩
abbrev main_v23 : Ref sig .tc := ⟨.hbm, 39, rfl⟩
abbrev main_c_11 : Ref sig .tc := ⟨.hbm, 40, rfl⟩
abbrev main_v24 : Ref sig .tc := ⟨.hbm, 41, rfl⟩
abbrev main_v25 : Ref sig .tc := ⟨.hbm, 42, rfl⟩
abbrev main_c_12 : Ref sig .tc := ⟨.hbm, 43, rfl⟩
abbrev main_v26 : Ref sig .tc := ⟨.hbm, 44, rfl⟩
abbrev main_v27 : Ref sig .tc := ⟨.hbm, 45, rfl⟩
abbrev main_c_13 : Ref sig .tc := ⟨.hbm, 46, rfl⟩
abbrev main_v28 : Ref sig .tc := ⟨.hbm, 47, rfl⟩
abbrev main_v29 : Ref sig .tc := ⟨.hbm, 48, rfl⟩
abbrev main_c_14 : Ref sig .tc := ⟨.hbm, 49, rfl⟩
abbrev main_v30 : Ref sig .tc := ⟨.hbm, 50, rfl⟩
abbrev main_v31 : Ref sig .tc := ⟨.hbm, 51, rfl⟩
abbrev main_c_15 : Ref sig .tc := ⟨.hbm, 52, rfl⟩
abbrev main_v32 : Ref sig .tc := ⟨.hbm, 53, rfl⟩
abbrev main_v33 : Ref sig .tc := ⟨.hbm, 54, rfl⟩
abbrev main_c_16 : Ref sig .tc := ⟨.hbm, 55, rfl⟩
abbrev main_v34 : Ref sig .tc := ⟨.hbm, 56, rfl⟩
abbrev main_v35 : Ref sig .tc := ⟨.hbm, 57, rfl⟩
abbrev main_c_17 : Ref sig .tc := ⟨.hbm, 58, rfl⟩
abbrev main_v36 : Ref sig .tc := ⟨.hbm, 59, rfl⟩
abbrev main_v37 : Ref sig .tc := ⟨.hbm, 60, rfl⟩
abbrev main_c_18 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_19 : Ref sig .tc := ⟨.hbm, 67, rfl⟩
abbrev main_call0_v0 : Ref sig .tc := ⟨.hbm, 68, rfl⟩
abbrev main_v43 : Ref sig .tc := ⟨.hbm, 69, rfl⟩
abbrev main_v44 : Ref sig .tc := ⟨.hbm, 70, rfl⟩
abbrev main_c_20 : Ref sig .tc := ⟨.hbm, 71, rfl⟩
abbrev main_v45 : Ref sig .tc := ⟨.hbm, 72, rfl⟩
abbrev main_v46 : Ref sig .tc := ⟨.hbm, 73, rfl⟩
abbrev main_c_21 : Ref sig .tc := ⟨.hbm, 74, rfl⟩
abbrev main_v47 : Ref sig .tc := ⟨.hbm, 75, rfl⟩
abbrev main_v48 : Ref sig .tc := ⟨.hbm, 76, rfl⟩
abbrev main_c_22 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_v6 : Ref sig .tc := ⟨.hbm, 84, rfl⟩
abbrev main_call1_v7 : Ref sig .tc := ⟨.hbm, 85, rfl⟩
abbrev main_call1_v8 : Ref sig .tc := ⟨.hbm, 86, rfl⟩
abbrev main_call1_c : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_c_0 : Ref sig .tc := ⟨.hbm, 91, rfl⟩
abbrev main_call1_v12 : Ref sig .tc := ⟨.hbm, 92, rfl⟩
abbrev main_call1_v13 : Ref sig .tc := ⟨.hbm, 93, rfl⟩
abbrev main_v49 : Ref sig .tc := ⟨.hbm, 94, rfl⟩
abbrev main_c_23 : Ref sig .tc := ⟨.hbm, 95, rfl⟩
abbrev main_v50 : Ref sig .tc := ⟨.hbm, 96, rfl⟩
abbrev main_v51 : Ref sig .tc := ⟨.hbm, 97, rfl⟩
abbrev main_c_24 : Ref sig .tc := ⟨.hbm, 98, rfl⟩
abbrev main_v52 : Ref sig .tc := ⟨.hbm, 99, rfl⟩
abbrev main_v53 : Ref sig .tc := ⟨.hbm, 100, rfl⟩
abbrev main_c_25 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_c_26 : Ref sig .tc := ⟨.hbm, 105, rfl⟩
abbrev main_v57 : Ref sig .tc := ⟨.hbm, 106, rfl⟩
abbrev main_v58 : Ref sig .tc := ⟨.hbm, 107, rfl⟩
abbrev main_c_27 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_c_28 : Ref sig .tc := ⟨.hbm, 115, rfl⟩
abbrev main_v65 : Ref sig .tc := ⟨.hbm, 116, rfl⟩
abbrev main_v66 : Ref sig .tc := ⟨.hbm, 117, rfl⟩
abbrev main_c_29 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_c_30 : Ref sig .tc := ⟨.hbm, 127, rfl⟩
abbrev main_v75 : Ref sig .tc := ⟨.hbm, 128, rfl⟩
abbrev main_v76 : Ref sig .tc := ⟨.hbm, 129, rfl⟩
abbrev main_c_31 : Ref sig .tc := ⟨.hbm, 130, rfl⟩
abbrev main_v77 : Ref sig .tc := ⟨.hbm, 131, rfl⟩
abbrev main_v78 : Ref sig .tc := ⟨.hbm, 132, rfl⟩
abbrev main_c_32 : Ref sig .tc := ⟨.hbm, 133, rfl⟩
abbrev main_call2_v0 : Ref sig .tc := ⟨.hbm, 134, rfl⟩
abbrev main_call2_v1 : Ref sig .tc := ⟨.hbm, 135, rfl⟩
abbrev main_call2_v2 : Ref sig .tc := ⟨.hbm, 136, rfl⟩
abbrev main_call2_v3 : Ref sig .tc := ⟨.hbm, 137, rfl⟩
abbrev main_call2_v4 : Ref sig .tc := ⟨.hbm, 138, rfl⟩
abbrev main_call2_v5 : Ref sig .tc := ⟨.hbm, 139, rfl⟩
abbrev main_call2_v6 : Ref sig .tc := ⟨.hbm, 140, rfl⟩
abbrev main_call2_v7 : Ref sig .tc := ⟨.hbm, 141, rfl⟩
abbrev main_call2_v8 : Ref sig .tc := ⟨.hbm, 142, rfl⟩
abbrev main_call2_c : Ref sig .tc := ⟨.hbm, 143, rfl⟩
abbrev main_call2_v9 : Ref sig .tc := ⟨.hbm, 144, rfl⟩
abbrev main_call2_v10 : Ref sig .tc := ⟨.hbm, 145, rfl⟩
abbrev main_call2_v11 : Ref sig .tc := ⟨.hbm, 146, rfl⟩
abbrev main_call2_c_0 : Ref sig .tc := ⟨.hbm, 147, rfl⟩
abbrev main_call2_v12 : Ref sig .tc := ⟨.hbm, 148, rfl⟩
abbrev main_call2_v13 : Ref sig .tc := ⟨.hbm, 149, rfl⟩
abbrev main_v79 : Ref sig .tc := ⟨.hbm, 150, rfl⟩
abbrev main_c_33 : Ref sig .tc := ⟨.hbm, 151, rfl⟩
abbrev main_v80 : Ref sig .tc := ⟨.hbm, 152, rfl⟩
abbrev main_v81 : Ref sig .tc := ⟨.hbm, 153, rfl⟩
abbrev main_c_34 : Ref sig .tc := ⟨.hbm, 154, rfl⟩
abbrev main_v82 : Ref sig .tc := ⟨.hbm, 155, rfl⟩
abbrev main_v83 : Ref sig .tc := ⟨.hbm, 156, rfl⟩
abbrev main_c_35 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_c_36 : Ref sig .tc := ⟨.hbm, 161, rfl⟩
abbrev main_v87 : Ref sig .tc := ⟨.hbm, 162, rfl⟩
abbrev main_v88 : Ref sig .tc := ⟨.hbm, 163, rfl⟩
abbrev main_c_37 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_c_38 : Ref sig .tc := ⟨.hbm, 171, rfl⟩
abbrev main_v95 : Ref sig .tc := ⟨.hbm, 172, rfl⟩
abbrev main_v96 : Ref sig .tc := ⟨.hbm, 173, rfl⟩
abbrev main_c_39 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_c_40 : Ref sig .tc := ⟨.hbm, 184, rfl⟩
abbrev main_v106 : Ref sig .tc := ⟨.hbm, 185, rfl⟩
abbrev main_v107 : Ref sig .tc := ⟨.hbm, 186, rfl⟩
abbrev main_c_41 : Ref sig .tc := ⟨.hbm, 187, rfl⟩
abbrev main_v108 : Ref sig .tc := ⟨.hbm, 188, rfl⟩
abbrev main_v109 : Ref sig .tc := ⟨.hbm, 189, rfl⟩
abbrev main_c_42 : Ref sig .tc := ⟨.hbm, 190, rfl⟩
abbrev main_call3_v0 : Ref sig .tc := ⟨.hbm, 191, rfl⟩
abbrev main_call3_v1 : Ref sig .tc := ⟨.hbm, 192, rfl⟩
abbrev main_call3_v2 : Ref sig .tc := ⟨.hbm, 193, rfl⟩
abbrev main_call3_v3 : Ref sig .tc := ⟨.hbm, 194, rfl⟩
abbrev main_call3_v4 : Ref sig .tc := ⟨.hbm, 195, rfl⟩
abbrev main_call3_v5 : Ref sig .tc := ⟨.hbm, 196, rfl⟩
abbrev main_call3_v6 : Ref sig .tc := ⟨.hbm, 197, rfl⟩
abbrev main_call3_v7 : Ref sig .tc := ⟨.hbm, 198, rfl⟩
abbrev main_call3_v8 : Ref sig .tc := ⟨.hbm, 199, rfl⟩
abbrev main_call3_c : Ref sig .tc := ⟨.hbm, 200, rfl⟩
abbrev main_call3_v9 : Ref sig .tc := ⟨.hbm, 201, rfl⟩
abbrev main_call3_v10 : Ref sig .tc := ⟨.hbm, 202, rfl⟩
abbrev main_call3_v11 : Ref sig .tc := ⟨.hbm, 203, rfl⟩
abbrev main_call3_c_0 : Ref sig .tc := ⟨.hbm, 204, rfl⟩
abbrev main_call3_v12 : Ref sig .tc := ⟨.hbm, 205, rfl⟩
abbrev main_call3_v13 : Ref sig .tc := ⟨.hbm, 206, rfl⟩
abbrev main_v110 : Ref sig .tc := ⟨.hbm, 207, rfl⟩
abbrev main_c_43 : Ref sig .tc := ⟨.hbm, 208, rfl⟩
abbrev main_v111 : Ref sig .tc := ⟨.hbm, 209, rfl⟩
abbrev main_v112 : Ref sig .tc := ⟨.hbm, 210, rfl⟩
abbrev main_c_44 : Ref sig .tc := ⟨.hbm, 211, rfl⟩
abbrev main_v113 : Ref sig .tc := ⟨.hbm, 212, rfl⟩
abbrev main_v114 : Ref sig .tc := ⟨.hbm, 213, rfl⟩
abbrev main_c_45 : Ref sig .tc := ⟨.hbm, 214, rfl⟩
abbrev main_v115 : Ref sig .tc := ⟨.hbm, 215, rfl⟩
abbrev main_v116 : Ref sig .tc := ⟨.hbm, 216, rfl⟩
abbrev main_v117 : Ref sig .tc := ⟨.hbm, 217, rfl⟩
abbrev main_c_46 : Ref sig .tc := ⟨.hbm, 218, rfl⟩
abbrev main_v118 : Ref sig .tc := ⟨.hbm, 219, rfl⟩
abbrev main_v119 : Ref sig .tc := ⟨.hbm, 220, rfl⟩
abbrev main_c_47 : Ref sig .tc := ⟨.hbm, 221, rfl⟩
abbrev main_v120 : Ref sig .tc := ⟨.hbm, 222, rfl⟩
abbrev main_v121 : Ref sig .tc := ⟨.hbm, 223, rfl⟩
abbrev main_v122 : Ref sig .tc := ⟨.hbm, 224, rfl⟩
abbrev main_v123 : Ref sig .tc := ⟨.hbm, 225, rfl⟩
abbrev main_v124 : Ref sig .tc := ⟨.hbm, 226, rfl⟩
abbrev main_v125 : Ref sig .tc := ⟨.hbm, 227, rfl⟩
abbrev main_c_48 : Ref sig .tc := ⟨.hbm, 228, rfl⟩
abbrev main_v126 : Ref sig .tc := ⟨.hbm, 229, rfl⟩
abbrev main_v127 : Ref sig .tc := ⟨.hbm, 230, rfl⟩
abbrev main_c_49 : Ref sig .tc := ⟨.hbm, 231, rfl⟩
abbrev main_v128 : Ref sig .tc := ⟨.hbm, 232, rfl⟩
abbrev main_v129 : Ref sig .tc := ⟨.hbm, 233, rfl⟩
abbrev main_v130 : Ref sig .tc := ⟨.hbm, 234, rfl⟩
abbrev main_v131 : Ref sig .tc := ⟨.hbm, 235, rfl⟩
abbrev main_v132 : Ref sig .tc := ⟨.hbm, 236, rfl⟩
abbrev main_v133 : Ref sig .tc := ⟨.hbm, 237, rfl⟩
abbrev main_v134 : Ref sig .tc := ⟨.hbm, 238, rfl⟩
abbrev main_v135 : Ref sig .tc := ⟨.hbm, 239, rfl⟩
abbrev main_v136 : Ref sig .tc := ⟨.hbm, 240, rfl⟩
abbrev main_c_50 : Ref sig .tc := ⟨.hbm, 241, rfl⟩
abbrev main_v137 : Ref sig .tc := ⟨.hbm, 242, rfl⟩
abbrev main_v138 : Ref sig .tc := ⟨.hbm, 243, rfl⟩
abbrev main_c_51 : Ref sig .tc := ⟨.hbm, 244, rfl⟩
abbrev main_v139 : Ref sig .tc := ⟨.hbm, 245, rfl⟩
abbrev main_v140 : Ref sig .tc := ⟨.hbm, 246, rfl⟩
abbrev main_c_52 : Ref sig .tc := ⟨.hbm, 247, rfl⟩
abbrev main_call4_v0 : Ref sig .tc := ⟨.hbm, 248, rfl⟩
abbrev main_call4_v1 : Ref sig .tc := ⟨.hbm, 249, rfl⟩
abbrev main_call4_v2 : Ref sig .tc := ⟨.hbm, 250, rfl⟩
abbrev main_call4_v3 : Ref sig .tc := ⟨.hbm, 251, rfl⟩
abbrev main_call4_v4 : Ref sig .tc := ⟨.hbm, 252, rfl⟩
abbrev main_call4_v5 : Ref sig .tc := ⟨.hbm, 253, rfl⟩
abbrev main_call4_v6 : Ref sig .tc := ⟨.hbm, 254, rfl⟩
abbrev main_call4_v7 : Ref sig .tc := ⟨.hbm, 255, rfl⟩
abbrev main_call4_v8 : Ref sig .tc := ⟨.hbm, 256, rfl⟩
abbrev main_call4_c : Ref sig .tc := ⟨.hbm, 257, rfl⟩
abbrev main_call4_v9 : Ref sig .tc := ⟨.hbm, 258, rfl⟩
abbrev main_call4_v10 : Ref sig .tc := ⟨.hbm, 259, rfl⟩
abbrev main_call4_v11 : Ref sig .tc := ⟨.hbm, 260, rfl⟩
abbrev main_call4_c_0 : Ref sig .tc := ⟨.hbm, 261, rfl⟩
abbrev main_call4_v12 : Ref sig .tc := ⟨.hbm, 262, rfl⟩
abbrev main_call4_v13 : Ref sig .tc := ⟨.hbm, 263, rfl⟩
abbrev main_v141 : Ref sig .tc := ⟨.hbm, 264, rfl⟩
abbrev main_c_53 : Ref sig .tc := ⟨.hbm, 265, rfl⟩
abbrev main_v142 : Ref sig .tc := ⟨.hbm, 266, rfl⟩
abbrev main_v143 : Ref sig .tc := ⟨.hbm, 267, rfl⟩
abbrev main_c_54 : Ref sig .tc := ⟨.hbm, 268, rfl⟩
abbrev main_v144 : Ref sig .tc := ⟨.hbm, 269, rfl⟩
abbrev main_v145 : Ref sig .tc := ⟨.hbm, 270, rfl⟩
abbrev main_c_55 : Ref sig .tc := ⟨.hbm, 271, rfl⟩
abbrev main_v146 : Ref sig .tc := ⟨.hbm, 272, rfl⟩
abbrev main_v147 : Ref sig .tc := ⟨.hbm, 273, rfl⟩
abbrev main_v148 : Ref sig .tc := ⟨.hbm, 274, rfl⟩
abbrev main_c_56 : Ref sig .tc := ⟨.hbm, 275, rfl⟩
abbrev main_v149 : Ref sig .tc := ⟨.hbm, 276, rfl⟩
abbrev main_v150 : Ref sig .tc := ⟨.hbm, 277, rfl⟩
abbrev main_c_57 : Ref sig .tc := ⟨.hbm, 278, rfl⟩
abbrev main_v151 : Ref sig .tc := ⟨.hbm, 279, rfl⟩
abbrev main_v152 : Ref sig .tc := ⟨.hbm, 280, rfl⟩
abbrev main_v153 : Ref sig .tc := ⟨.hbm, 281, rfl⟩
abbrev main_v154 : Ref sig .tc := ⟨.hbm, 282, rfl⟩
abbrev main_v155 : Ref sig .tc := ⟨.hbm, 283, rfl⟩
abbrev main_v156 : Ref sig .tc := ⟨.hbm, 284, rfl⟩
abbrev main_c_58 : Ref sig .tc := ⟨.hbm, 285, rfl⟩
abbrev main_v157 : Ref sig .tc := ⟨.hbm, 286, rfl⟩
abbrev main_v158 : Ref sig .tc := ⟨.hbm, 287, rfl⟩
abbrev main_c_59 : Ref sig .tc := ⟨.hbm, 288, rfl⟩
abbrev main_v159 : Ref sig .tc := ⟨.hbm, 289, rfl⟩
abbrev main_v160 : Ref sig .tc := ⟨.hbm, 290, rfl⟩
abbrev main_v161 : Ref sig .tc := ⟨.hbm, 291, rfl⟩
abbrev main_v162 : Ref sig .tc := ⟨.hbm, 292, rfl⟩
abbrev main_v163 : Ref sig .tc := ⟨.hbm, 293, rfl⟩
abbrev main_v164 : Ref sig .tc := ⟨.hbm, 294, rfl⟩
abbrev main_v165 : Ref sig .tc := ⟨.hbm, 295, rfl⟩
abbrev main_v166 : Ref sig .tc := ⟨.hbm, 296, rfl⟩
abbrev main_v167 : Ref sig .tc := ⟨.hbm, 297, rfl⟩
abbrev main_c_60 : Ref sig .tc := ⟨.hbm, 298, rfl⟩
abbrev main_v168 : Ref sig .tc := ⟨.hbm, 299, rfl⟩
abbrev main_v169 : Ref sig .tc := ⟨.hbm, 300, rfl⟩
abbrev main_c_61 : Ref sig .tc := ⟨.hbm, 301, rfl⟩
abbrev main_v170 : Ref sig .tc := ⟨.hbm, 302, rfl⟩
abbrev main_v171 : Ref sig .tc := ⟨.hbm, 303, rfl⟩
abbrev main_c_62 : Ref sig .tc := ⟨.hbm, 304, rfl⟩
abbrev main_call5_v0 : Ref sig .tc := ⟨.hbm, 305, rfl⟩
abbrev main_call5_v1 : Ref sig .tc := ⟨.hbm, 306, rfl⟩
abbrev main_call5_v2 : Ref sig .tc := ⟨.hbm, 307, rfl⟩
abbrev main_call5_v3 : Ref sig .tc := ⟨.hbm, 308, rfl⟩
abbrev main_call5_v4 : Ref sig .tc := ⟨.hbm, 309, rfl⟩
abbrev main_call5_v5 : Ref sig .tc := ⟨.hbm, 310, rfl⟩
abbrev main_call5_v6 : Ref sig .tc := ⟨.hbm, 311, rfl⟩
abbrev main_call5_v7 : Ref sig .tc := ⟨.hbm, 312, rfl⟩
abbrev main_call5_v8 : Ref sig .tc := ⟨.hbm, 313, rfl⟩
abbrev main_call5_c : Ref sig .tc := ⟨.hbm, 314, rfl⟩
abbrev main_call5_v9 : Ref sig .tc := ⟨.hbm, 315, rfl⟩
abbrev main_call5_v10 : Ref sig .tc := ⟨.hbm, 316, rfl⟩
abbrev main_call5_v11 : Ref sig .tc := ⟨.hbm, 317, rfl⟩
abbrev main_call5_c_0 : Ref sig .tc := ⟨.hbm, 318, rfl⟩
abbrev main_call5_v12 : Ref sig .tc := ⟨.hbm, 319, rfl⟩
abbrev main_call5_v13 : Ref sig .tc := ⟨.hbm, 320, rfl⟩
abbrev main_v172 : Ref sig .tc := ⟨.hbm, 321, rfl⟩
abbrev main_c_63 : Ref sig .tc := ⟨.hbm, 322, rfl⟩
abbrev main_v173 : Ref sig .tc := ⟨.hbm, 323, rfl⟩
abbrev main_v174 : Ref sig .tc := ⟨.hbm, 324, rfl⟩
abbrev main_c_64 : Ref sig .tc := ⟨.hbm, 325, rfl⟩
abbrev main_v175 : Ref sig .tc := ⟨.hbm, 326, rfl⟩
abbrev main_v176 : Ref sig .tc := ⟨.hbm, 327, rfl⟩
abbrev main_c_65 : Ref sig .tc := ⟨.hbm, 328, rfl⟩
abbrev main_v177 : Ref sig .tc := ⟨.hbm, 329, rfl⟩
abbrev main_v178 : Ref sig .tc := ⟨.hbm, 330, rfl⟩
abbrev main_v179 : Ref sig .tc := ⟨.hbm, 331, rfl⟩
abbrev main_c_66 : Ref sig .tc := ⟨.hbm, 332, rfl⟩
abbrev main_v180 : Ref sig .tc := ⟨.hbm, 333, rfl⟩
abbrev main_v181 : Ref sig .tc := ⟨.hbm, 334, rfl⟩
abbrev main_c_67 : Ref sig .tc := ⟨.hbm, 335, rfl⟩
abbrev main_v182 : Ref sig .tc := ⟨.hbm, 336, rfl⟩
abbrev main_v183 : Ref sig .tc := ⟨.hbm, 337, rfl⟩
abbrev main_v184 : Ref sig .tc := ⟨.hbm, 338, rfl⟩
abbrev main_v185 : Ref sig .tc := ⟨.hbm, 339, rfl⟩
abbrev main_v186 : Ref sig .tc := ⟨.hbm, 340, rfl⟩
abbrev main_v187 : Ref sig .tc := ⟨.hbm, 341, rfl⟩
abbrev main_c_68 : Ref sig .tc := ⟨.hbm, 342, rfl⟩
abbrev main_v188 : Ref sig .tc := ⟨.hbm, 343, rfl⟩
abbrev main_v189 : Ref sig .tc := ⟨.hbm, 344, rfl⟩
abbrev main_c_69 : Ref sig .tc := ⟨.hbm, 345, rfl⟩
abbrev main_v190 : Ref sig .tc := ⟨.hbm, 346, rfl⟩
abbrev main_v191 : Ref sig .tc := ⟨.hbm, 347, rfl⟩
abbrev main_v192 : Ref sig .tc := ⟨.hbm, 348, rfl⟩
abbrev main_v193 : Ref sig .tc := ⟨.hbm, 349, rfl⟩
abbrev main_v194 : Ref sig .tc := ⟨.hbm, 350, rfl⟩
abbrev main_v195 : Ref sig .tc := ⟨.hbm, 351, rfl⟩
abbrev main_v196 : Ref sig .tc := ⟨.hbm, 352, rfl⟩
abbrev main_v197 : Ref sig .tc := ⟨.hbm, 353, rfl⟩
abbrev main_v198 : Ref sig .tc := ⟨.hbm, 354, rfl⟩
abbrev main_c_70 : Ref sig .tc := ⟨.hbm, 355, rfl⟩
abbrev main_v199 : Ref sig .tc := ⟨.hbm, 356, rfl⟩
abbrev main_v200 : Ref sig .tc := ⟨.hbm, 357, rfl⟩
abbrev main_c_71 : Ref sig .tc := ⟨.hbm, 358, rfl⟩
abbrev main_v201 : Ref sig .tc := ⟨.hbm, 359, rfl⟩
abbrev main_v202 : Ref sig .tc := ⟨.hbm, 360, rfl⟩
abbrev main_c_72 : Ref sig .tc := ⟨.hbm, 361, rfl⟩
abbrev main_call6_v0 : Ref sig .tc := ⟨.hbm, 362, rfl⟩
abbrev main_call6_v1 : Ref sig .tc := ⟨.hbm, 363, rfl⟩
abbrev main_call6_v2 : Ref sig .tc := ⟨.hbm, 364, rfl⟩
abbrev main_call6_v3 : Ref sig .tc := ⟨.hbm, 365, rfl⟩
abbrev main_call6_v4 : Ref sig .tc := ⟨.hbm, 366, rfl⟩
abbrev main_call6_v5 : Ref sig .tc := ⟨.hbm, 367, rfl⟩
abbrev main_call6_v6 : Ref sig .tc := ⟨.hbm, 368, rfl⟩
abbrev main_call6_v7 : Ref sig .tc := ⟨.hbm, 369, rfl⟩
abbrev main_call6_v8 : Ref sig .tc := ⟨.hbm, 370, rfl⟩
abbrev main_call6_c : Ref sig .tc := ⟨.hbm, 371, rfl⟩
abbrev main_call6_v9 : Ref sig .tc := ⟨.hbm, 372, rfl⟩
abbrev main_call6_v10 : Ref sig .tc := ⟨.hbm, 373, rfl⟩
abbrev main_call6_v11 : Ref sig .tc := ⟨.hbm, 374, rfl⟩
abbrev main_call6_c_0 : Ref sig .tc := ⟨.hbm, 375, rfl⟩
abbrev main_call6_v12 : Ref sig .tc := ⟨.hbm, 376, rfl⟩
abbrev main_call6_v13 : Ref sig .tc := ⟨.hbm, 377, rfl⟩
abbrev main_v203 : Ref sig .tc := ⟨.hbm, 378, rfl⟩
abbrev main_c_73 : Ref sig .tc := ⟨.hbm, 379, rfl⟩
abbrev main_v204 : Ref sig .tc := ⟨.hbm, 380, rfl⟩
abbrev main_v205 : Ref sig .tc := ⟨.hbm, 381, rfl⟩
abbrev main_c_74 : Ref sig .tc := ⟨.hbm, 382, rfl⟩
abbrev main_v206 : Ref sig .tc := ⟨.hbm, 383, rfl⟩
abbrev main_v207 : Ref sig .tc := ⟨.hbm, 384, rfl⟩
abbrev main_c_75 : Ref sig .tc := ⟨.hbm, 385, rfl⟩
abbrev main_v208 : Ref sig .tc := ⟨.hbm, 386, rfl⟩
abbrev main_v209 : Ref sig .tc := ⟨.hbm, 387, rfl⟩
abbrev main_v210 : Ref sig .tc := ⟨.hbm, 388, rfl⟩
abbrev main_c_76 : Ref sig .tc := ⟨.hbm, 389, rfl⟩
abbrev main_v211 : Ref sig .tc := ⟨.hbm, 390, rfl⟩
abbrev main_v212 : Ref sig .tc := ⟨.hbm, 391, rfl⟩
abbrev main_c_77 : Ref sig .tc := ⟨.hbm, 392, rfl⟩
abbrev main_v213 : Ref sig .tc := ⟨.hbm, 393, rfl⟩
abbrev main_v214 : Ref sig .tc := ⟨.hbm, 394, rfl⟩
abbrev main_v215 : Ref sig .tc := ⟨.hbm, 395, rfl⟩
abbrev main_v216 : Ref sig .tc := ⟨.hbm, 396, rfl⟩
abbrev main_v217 : Ref sig .tc := ⟨.hbm, 397, rfl⟩
abbrev main_v218 : Ref sig .tc := ⟨.hbm, 398, rfl⟩
abbrev main_c_78 : Ref sig .tc := ⟨.hbm, 399, rfl⟩
abbrev main_v219 : Ref sig .tc := ⟨.hbm, 400, rfl⟩
abbrev main_v220 : Ref sig .tc := ⟨.hbm, 401, rfl⟩
abbrev main_c_79 : Ref sig .tc := ⟨.hbm, 402, rfl⟩
abbrev main_v221 : Ref sig .tc := ⟨.hbm, 403, rfl⟩
abbrev main_v222 : Ref sig .tc := ⟨.hbm, 404, rfl⟩
abbrev main_v223 : Ref sig .tc := ⟨.hbm, 405, rfl⟩
abbrev main_v224 : Ref sig .tc := ⟨.hbm, 406, rfl⟩
abbrev main_v225 : Ref sig .tc := ⟨.hbm, 407, rfl⟩
abbrev main_v226 : Ref sig .tc := ⟨.hbm, 408, rfl⟩
abbrev main_v227 : Ref sig .tc := ⟨.hbm, 409, rfl⟩
abbrev main_v228 : Ref sig .tc := ⟨.hbm, 410, rfl⟩
abbrev main_v229 : Ref sig .tc := ⟨.hbm, 411, rfl⟩
abbrev main_c_80 : Ref sig .tc := ⟨.hbm, 412, rfl⟩
abbrev main_v230 : Ref sig .tc := ⟨.hbm, 413, rfl⟩
abbrev main_v231 : Ref sig .tc := ⟨.hbm, 414, rfl⟩
abbrev main_c_81 : Ref sig .tc := ⟨.hbm, 415, rfl⟩
abbrev main_v232 : Ref sig .tc := ⟨.hbm, 416, rfl⟩
abbrev main_v233 : Ref sig .tc := ⟨.hbm, 417, rfl⟩
abbrev main_c_82 : Ref sig .tc := ⟨.hbm, 418, rfl⟩
abbrev main_call7_v0 : Ref sig .tc := ⟨.hbm, 419, rfl⟩
abbrev main_call7_v1 : Ref sig .tc := ⟨.hbm, 420, rfl⟩
abbrev main_call7_v2 : Ref sig .tc := ⟨.hbm, 421, rfl⟩
abbrev main_call7_v3 : Ref sig .tc := ⟨.hbm, 422, rfl⟩
abbrev main_call7_v4 : Ref sig .tc := ⟨.hbm, 423, rfl⟩
abbrev main_call7_v5 : Ref sig .tc := ⟨.hbm, 424, rfl⟩
abbrev main_call7_v6 : Ref sig .tc := ⟨.hbm, 425, rfl⟩
abbrev main_call7_v7 : Ref sig .tc := ⟨.hbm, 426, rfl⟩
abbrev main_call7_v8 : Ref sig .tc := ⟨.hbm, 427, rfl⟩
abbrev main_call7_c : Ref sig .tc := ⟨.hbm, 428, rfl⟩
abbrev main_call7_v9 : Ref sig .tc := ⟨.hbm, 429, rfl⟩
abbrev main_call7_v10 : Ref sig .tc := ⟨.hbm, 430, rfl⟩
abbrev main_call7_v11 : Ref sig .tc := ⟨.hbm, 431, rfl⟩
abbrev main_call7_c_0 : Ref sig .tc := ⟨.hbm, 432, rfl⟩
abbrev main_call7_v12 : Ref sig .tc := ⟨.hbm, 433, rfl⟩
abbrev main_call7_v13 : Ref sig .tc := ⟨.hbm, 434, rfl⟩
abbrev main_v234 : Ref sig .tc := ⟨.hbm, 435, rfl⟩
abbrev main_c_83 : Ref sig .tc := ⟨.hbm, 436, rfl⟩
abbrev main_v235 : Ref sig .tc := ⟨.hbm, 437, rfl⟩
abbrev main_v236 : Ref sig .tc := ⟨.hbm, 438, rfl⟩
abbrev main_c_84 : Ref sig .tc := ⟨.hbm, 439, rfl⟩
abbrev main_v237 : Ref sig .tc := ⟨.hbm, 440, rfl⟩
abbrev main_v238 : Ref sig .tc := ⟨.hbm, 441, rfl⟩
abbrev main_c_85 : Ref sig .tc := ⟨.hbm, 442, rfl⟩
abbrev main_v239 : Ref sig .tc := ⟨.hbm, 443, rfl⟩
abbrev main_v240 : Ref sig .tc := ⟨.hbm, 444, rfl⟩
abbrev main_v241 : Ref sig .tc := ⟨.hbm, 445, rfl⟩
abbrev main_c_86 : Ref sig .tc := ⟨.hbm, 446, rfl⟩
abbrev main_v242 : Ref sig .tc := ⟨.hbm, 447, rfl⟩
abbrev main_v243 : Ref sig .tc := ⟨.hbm, 448, rfl⟩
abbrev main_c_87 : Ref sig .tc := ⟨.hbm, 449, rfl⟩
abbrev main_v244 : Ref sig .tc := ⟨.hbm, 450, rfl⟩
abbrev main_v245 : Ref sig .tc := ⟨.hbm, 451, rfl⟩
abbrev main_v246 : Ref sig .tc := ⟨.hbm, 452, rfl⟩
abbrev main_v247 : Ref sig .tc := ⟨.hbm, 453, rfl⟩
abbrev main_v248 : Ref sig .tc := ⟨.hbm, 454, rfl⟩
abbrev main_v249 : Ref sig .tc := ⟨.hbm, 455, rfl⟩
abbrev main_c_88 : Ref sig .tc := ⟨.hbm, 456, rfl⟩
abbrev main_v250 : Ref sig .tc := ⟨.hbm, 457, rfl⟩
abbrev main_v251 : Ref sig .tc := ⟨.hbm, 458, rfl⟩
abbrev main_c_89 : Ref sig .tc := ⟨.hbm, 459, rfl⟩
abbrev main_v252 : Ref sig .tc := ⟨.hbm, 460, rfl⟩
abbrev main_v253 : Ref sig .tc := ⟨.hbm, 461, rfl⟩
abbrev main_v254 : Ref sig .tc := ⟨.hbm, 462, rfl⟩
abbrev main_v255 : Ref sig .tc := ⟨.hbm, 463, rfl⟩
abbrev main_v256 : Ref sig .tc := ⟨.hbm, 464, rfl⟩
abbrev main_v257 : Ref sig .tc := ⟨.hbm, 465, rfl⟩
abbrev main_v258 : Ref sig .tc := ⟨.hbm, 466, rfl⟩
abbrev main_v259 : Ref sig .tc := ⟨.hbm, 467, rfl⟩
abbrev main_v260 : Ref sig .tc := ⟨.hbm, 468, rfl⟩
abbrev main_c_90 : Ref sig .tc := ⟨.hbm, 469, rfl⟩
abbrev main_v261 : Ref sig .tc := ⟨.hbm, 470, rfl⟩
abbrev main_v262 : Ref sig .tc := ⟨.hbm, 471, rfl⟩
abbrev main_c_91 : Ref sig .tc := ⟨.hbm, 472, rfl⟩
abbrev main_v263 : Ref sig .tc := ⟨.hbm, 473, rfl⟩
abbrev main_v264 : Ref sig .tc := ⟨.hbm, 474, rfl⟩
abbrev main_c_92 : Ref sig .tc := ⟨.hbm, 475, rfl⟩
abbrev main_call8_v0 : Ref sig .tc := ⟨.hbm, 476, rfl⟩
abbrev main_call8_v1 : Ref sig .tc := ⟨.hbm, 477, rfl⟩
abbrev main_call8_v2 : Ref sig .tc := ⟨.hbm, 478, rfl⟩
abbrev main_call8_v3 : Ref sig .tc := ⟨.hbm, 479, rfl⟩
abbrev main_call8_v4 : Ref sig .tc := ⟨.hbm, 480, rfl⟩
abbrev main_call8_v5 : Ref sig .tc := ⟨.hbm, 481, rfl⟩
abbrev main_call8_v6 : Ref sig .tc := ⟨.hbm, 482, rfl⟩
abbrev main_call8_v7 : Ref sig .tc := ⟨.hbm, 483, rfl⟩
abbrev main_call8_v8 : Ref sig .tc := ⟨.hbm, 484, rfl⟩
abbrev main_call8_c : Ref sig .tc := ⟨.hbm, 485, rfl⟩
abbrev main_call8_v9 : Ref sig .tc := ⟨.hbm, 486, rfl⟩
abbrev main_call8_v10 : Ref sig .tc := ⟨.hbm, 487, rfl⟩
abbrev main_call8_v11 : Ref sig .tc := ⟨.hbm, 488, rfl⟩
abbrev main_call8_c_0 : Ref sig .tc := ⟨.hbm, 489, rfl⟩
abbrev main_call8_v12 : Ref sig .tc := ⟨.hbm, 490, rfl⟩
abbrev main_call8_v13 : Ref sig .tc := ⟨.hbm, 491, rfl⟩
abbrev main_v265 : Ref sig .tc := ⟨.hbm, 492, rfl⟩
abbrev main_c_93 : Ref sig .tc := ⟨.hbm, 493, rfl⟩
abbrev main_v266 : Ref sig .tc := ⟨.hbm, 494, rfl⟩
abbrev main_v267 : Ref sig .tc := ⟨.hbm, 495, rfl⟩
abbrev main_c_94 : Ref sig .tc := ⟨.hbm, 496, rfl⟩
abbrev main_v268 : Ref sig .tc := ⟨.hbm, 497, rfl⟩
abbrev main_v269 : Ref sig .tc := ⟨.hbm, 498, rfl⟩
abbrev main_c_95 : Ref sig .tc := ⟨.hbm, 499, rfl⟩
abbrev main_v270 : Ref sig .tc := ⟨.hbm, 500, rfl⟩
abbrev main_v271 : Ref sig .tc := ⟨.hbm, 501, rfl⟩
abbrev main_v272 : Ref sig .tc := ⟨.hbm, 502, rfl⟩
abbrev main_c_96 : Ref sig .tc := ⟨.hbm, 503, rfl⟩
abbrev main_v273 : Ref sig .tc := ⟨.hbm, 504, rfl⟩
abbrev main_v274 : Ref sig .tc := ⟨.hbm, 505, rfl⟩
abbrev main_c_97 : Ref sig .tc := ⟨.hbm, 506, rfl⟩
abbrev main_v275 : Ref sig .tc := ⟨.hbm, 507, rfl⟩
abbrev main_v276 : Ref sig .tc := ⟨.hbm, 508, rfl⟩
abbrev main_v277 : Ref sig .tc := ⟨.hbm, 509, rfl⟩
abbrev main_v278 : Ref sig .tc := ⟨.hbm, 510, rfl⟩
abbrev main_v279 : Ref sig .tc := ⟨.hbm, 511, rfl⟩
abbrev main_v280 : Ref sig .tc := ⟨.hbm, 512, rfl⟩
abbrev main_c_98 : Ref sig .tc := ⟨.hbm, 513, rfl⟩
abbrev main_v281 : Ref sig .tc := ⟨.hbm, 514, rfl⟩
abbrev main_v282 : Ref sig .tc := ⟨.hbm, 515, rfl⟩
abbrev main_c_99 : Ref sig .tc := ⟨.hbm, 516, rfl⟩
abbrev main_v283 : Ref sig .tc := ⟨.hbm, 517, rfl⟩
abbrev main_v284 : Ref sig .tc := ⟨.hbm, 518, rfl⟩
abbrev main_v285 : Ref sig .tc := ⟨.hbm, 519, rfl⟩
abbrev main_v286 : Ref sig .tc := ⟨.hbm, 520, rfl⟩
abbrev main_v287 : Ref sig .tc := ⟨.hbm, 521, rfl⟩
abbrev main_v288 : Ref sig .tc := ⟨.hbm, 522, rfl⟩
abbrev main_v289 : Ref sig .tc := ⟨.hbm, 523, rfl⟩
abbrev main_v290 : Ref sig .tc := ⟨.hbm, 524, rfl⟩
abbrev main_v291 : Ref sig .tc := ⟨.hbm, 525, rfl⟩
abbrev main_c_100 : Ref sig .tc := ⟨.hbm, 526, rfl⟩
abbrev main_v292 : Ref sig .tc := ⟨.hbm, 527, rfl⟩
abbrev main_v293 : Ref sig .tc := ⟨.hbm, 528, rfl⟩
abbrev main_c_101 : Ref sig .tc := ⟨.hbm, 529, rfl⟩
abbrev main_v294 : Ref sig .tc := ⟨.hbm, 530, rfl⟩
abbrev main_v295 : Ref sig .tc := ⟨.hbm, 531, rfl⟩
abbrev main_c_102 : Ref sig .tc := ⟨.hbm, 532, rfl⟩
abbrev main_call9_v0 : Ref sig .tc := ⟨.hbm, 533, rfl⟩
abbrev main_call9_v1 : Ref sig .tc := ⟨.hbm, 534, rfl⟩
abbrev main_call9_v2 : Ref sig .tc := ⟨.hbm, 535, rfl⟩
abbrev main_call9_v3 : Ref sig .tc := ⟨.hbm, 536, rfl⟩
abbrev main_call9_v4 : Ref sig .tc := ⟨.hbm, 537, rfl⟩
abbrev main_call9_v5 : Ref sig .tc := ⟨.hbm, 538, rfl⟩
abbrev main_call9_v6 : Ref sig .tc := ⟨.hbm, 539, rfl⟩
abbrev main_call9_v7 : Ref sig .tc := ⟨.hbm, 540, rfl⟩
abbrev main_call9_v8 : Ref sig .tc := ⟨.hbm, 541, rfl⟩
abbrev main_call9_c : Ref sig .tc := ⟨.hbm, 542, rfl⟩
abbrev main_call9_v9 : Ref sig .tc := ⟨.hbm, 543, rfl⟩
abbrev main_call9_v10 : Ref sig .tc := ⟨.hbm, 544, rfl⟩
abbrev main_call9_v11 : Ref sig .tc := ⟨.hbm, 545, rfl⟩
abbrev main_call9_c_0 : Ref sig .tc := ⟨.hbm, 546, rfl⟩
abbrev main_call9_v12 : Ref sig .tc := ⟨.hbm, 547, rfl⟩
abbrev main_call9_v13 : Ref sig .tc := ⟨.hbm, 548, rfl⟩
abbrev main_v296 : Ref sig .tc := ⟨.hbm, 549, rfl⟩
abbrev main_c_103 : Ref sig .tc := ⟨.hbm, 550, rfl⟩
abbrev main_v297 : Ref sig .tc := ⟨.hbm, 551, rfl⟩
abbrev main_v298 : Ref sig .tc := ⟨.hbm, 552, rfl⟩
abbrev main_c_104 : Ref sig .tc := ⟨.hbm, 553, rfl⟩
abbrev main_v299 : Ref sig .tc := ⟨.hbm, 554, rfl⟩
abbrev main_v300 : Ref sig .tc := ⟨.hbm, 555, rfl⟩
abbrev main_c_105 : Ref sig .tc := ⟨.hbm, 556, rfl⟩
abbrev main_v301 : Ref sig .tc := ⟨.hbm, 557, rfl⟩
abbrev main_v302 : Ref sig .tc := ⟨.hbm, 558, rfl⟩
abbrev main_v303 : Ref sig .tc := ⟨.hbm, 559, rfl⟩
abbrev main_c_106 : Ref sig .tc := ⟨.hbm, 560, rfl⟩
abbrev main_v304 : Ref sig .tc := ⟨.hbm, 561, rfl⟩
abbrev main_v305 : Ref sig .tc := ⟨.hbm, 562, rfl⟩
abbrev main_c_107 : Ref sig .tc := ⟨.hbm, 563, rfl⟩
abbrev main_v306 : Ref sig .tc := ⟨.hbm, 564, rfl⟩
abbrev main_v307 : Ref sig .tc := ⟨.hbm, 565, rfl⟩
abbrev main_v308 : Ref sig .tc := ⟨.hbm, 566, rfl⟩
abbrev main_v309 : Ref sig .tc := ⟨.hbm, 567, rfl⟩
abbrev main_v310 : Ref sig .tc := ⟨.hbm, 568, rfl⟩
abbrev main_v311 : Ref sig .tc := ⟨.hbm, 569, rfl⟩
abbrev main_c_108 : Ref sig .tc := ⟨.hbm, 570, rfl⟩
abbrev main_v312 : Ref sig .tc := ⟨.hbm, 571, rfl⟩
abbrev main_v313 : Ref sig .tc := ⟨.hbm, 572, rfl⟩
abbrev main_c_109 : Ref sig .tc := ⟨.hbm, 573, rfl⟩
abbrev main_v314 : Ref sig .tc := ⟨.hbm, 574, rfl⟩
abbrev main_v315 : Ref sig .tc := ⟨.hbm, 575, rfl⟩
abbrev main_v316 : Ref sig .tc := ⟨.hbm, 576, rfl⟩
abbrev main_v317 : Ref sig .tc := ⟨.hbm, 577, rfl⟩
abbrev main_v318 : Ref sig .tc := ⟨.hbm, 578, rfl⟩
abbrev main_v319 : Ref sig .tc := ⟨.hbm, 579, rfl⟩
abbrev main_v320 : Ref sig .tc := ⟨.hbm, 580, rfl⟩
abbrev main_v321 : Ref sig .tc := ⟨.hbm, 581, rfl⟩
abbrev main_v322 : Ref sig .tc := ⟨.hbm, 582, rfl⟩
abbrev main_c_110 : Ref sig .tc := ⟨.hbm, 583, rfl⟩
abbrev main_v323 : Ref sig .tc := ⟨.hbm, 584, rfl⟩
abbrev main_v324 : Ref sig .tc := ⟨.hbm, 585, rfl⟩
abbrev main_c_111 : Ref sig .tc := ⟨.hbm, 586, rfl⟩
abbrev main_v325 : Ref sig .tc := ⟨.hbm, 587, rfl⟩
abbrev main_v326 : Ref sig .tc := ⟨.hbm, 588, rfl⟩
abbrev main_c_112 : Ref sig .tc := ⟨.hbm, 589, rfl⟩
abbrev main_call10_v0 : Ref sig .tc := ⟨.hbm, 590, rfl⟩
abbrev main_call10_v1 : Ref sig .tc := ⟨.hbm, 591, rfl⟩
abbrev main_call10_v2 : Ref sig .tc := ⟨.hbm, 592, rfl⟩
abbrev main_call10_v3 : Ref sig .tc := ⟨.hbm, 593, rfl⟩
abbrev main_call10_v4 : Ref sig .tc := ⟨.hbm, 594, rfl⟩
abbrev main_call10_v5 : Ref sig .tc := ⟨.hbm, 595, rfl⟩
abbrev main_call10_v6 : Ref sig .tc := ⟨.hbm, 596, rfl⟩
abbrev main_call10_v7 : Ref sig .tc := ⟨.hbm, 597, rfl⟩
abbrev main_call10_v8 : Ref sig .tc := ⟨.hbm, 598, rfl⟩
abbrev main_call10_c : Ref sig .tc := ⟨.hbm, 599, rfl⟩
abbrev main_call10_v9 : Ref sig .tc := ⟨.hbm, 600, rfl⟩
abbrev main_call10_v10 : Ref sig .tc := ⟨.hbm, 601, rfl⟩
abbrev main_call10_v11 : Ref sig .tc := ⟨.hbm, 602, rfl⟩
abbrev main_call10_c_0 : Ref sig .tc := ⟨.hbm, 603, rfl⟩
abbrev main_call10_v12 : Ref sig .tc := ⟨.hbm, 604, rfl⟩
abbrev main_call10_v13 : Ref sig .tc := ⟨.hbm, 605, rfl⟩
abbrev main_v327 : Ref sig .tc := ⟨.hbm, 606, rfl⟩
abbrev main_c_113 : Ref sig .tc := ⟨.hbm, 607, rfl⟩
abbrev main_v328 : Ref sig .tc := ⟨.hbm, 608, rfl⟩
abbrev main_v329 : Ref sig .tc := ⟨.hbm, 609, rfl⟩
abbrev main_c_114 : Ref sig .tc := ⟨.hbm, 610, rfl⟩
abbrev main_v330 : Ref sig .tc := ⟨.hbm, 611, rfl⟩
abbrev main_v331 : Ref sig .tc := ⟨.hbm, 612, rfl⟩
abbrev main_c_115 : Ref sig .tc := ⟨.hbm, 613, rfl⟩
abbrev main_v332 : Ref sig .tc := ⟨.hbm, 614, rfl⟩
abbrev main_v333 : Ref sig .tc := ⟨.hbm, 615, rfl⟩
abbrev main_v334 : Ref sig .tc := ⟨.hbm, 616, rfl⟩
abbrev main_c_116 : Ref sig .tc := ⟨.hbm, 617, rfl⟩
abbrev main_v335 : Ref sig .tc := ⟨.hbm, 618, rfl⟩
abbrev main_v336 : Ref sig .tc := ⟨.hbm, 619, rfl⟩
abbrev main_c_117 : Ref sig .tc := ⟨.hbm, 620, rfl⟩
abbrev main_v337 : Ref sig .tc := ⟨.hbm, 621, rfl⟩
abbrev main_v338 : Ref sig .tc := ⟨.hbm, 622, rfl⟩
abbrev main_v339 : Ref sig .tc := ⟨.hbm, 623, rfl⟩
abbrev main_v340 : Ref sig .tc := ⟨.hbm, 624, rfl⟩
abbrev main_v341 : Ref sig .tc := ⟨.hbm, 625, rfl⟩
abbrev main_v342 : Ref sig .tc := ⟨.hbm, 626, rfl⟩
abbrev main_c_118 : Ref sig .tc := ⟨.hbm, 627, rfl⟩
abbrev main_v343 : Ref sig .tc := ⟨.hbm, 628, rfl⟩
abbrev main_v344 : Ref sig .tc := ⟨.hbm, 629, rfl⟩
abbrev main_c_119 : Ref sig .tc := ⟨.hbm, 630, rfl⟩
abbrev main_v345 : Ref sig .tc := ⟨.hbm, 631, rfl⟩
abbrev main_v346 : Ref sig .tc := ⟨.hbm, 632, rfl⟩
abbrev main_v347 : Ref sig .tc := ⟨.hbm, 633, rfl⟩
abbrev main_v348 : Ref sig .tc := ⟨.hbm, 634, rfl⟩
abbrev main_v349 : Ref sig .tc := ⟨.hbm, 635, rfl⟩
abbrev main_v350 : Ref sig .tc := ⟨.hbm, 636, rfl⟩
abbrev main_v351 : Ref sig .tc := ⟨.hbm, 637, rfl⟩
abbrev main_v352 : Ref sig .tc := ⟨.hbm, 638, rfl⟩
abbrev main_v353 : Ref sig .tc := ⟨.hbm, 639, rfl⟩
abbrev main_v354 : Ref sig .tc := ⟨.hbm, 640, rfl⟩
abbrev main_v355 : Ref sig .tc := ⟨.hbm, 641, rfl⟩

abbrev nD : Nat := 1
abbrev τ : Topo := Topo.v7x

variable {F : FTy → Type} [FloatOps F]
-- ==== Proof.Kernel.Setup.lean ====
/-
  What the runs of the body share: the condition of its one `scf.if` in closed form over the grid (it is taken at the
  first point only), the staging memrefs and the scratch memrefs as the pipeline passes them, and the region's
  invariant with the six scratch buffers as memrefs owned at some contents.
-/
module

public import proofs.«01_k».proof.Proof.Gen.Kernel.Frame
public import proofs.«01_k».proof.Proof.Gen.Kernel.Loops
public import proofs.«01_k».proof.Proof.Gen.Kernel.Points
public import proofs.«01_k».proof.Proof.Gen.Kernel.Skeleton
public import Idealize.ShloMosaic.Lib.Claim

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 6 = 0 :=
  (fun t => by
    have ht : t.val < 6 := Nat.lt_of_lt_of_eq t.isLt N_0
    have e0 : (grid0.coords t 0).val = t.val / 1 % 6 := Pipeline.Grid.coords_val t 0 (by decide) rfl
    simp only [cond0_0, k0_cond1, e0]
    word_cmp
   : ∀ t : Fin grid0.N, cond0_0 (grid0.coords t) ↔ t.val % 6 = 0)

/-! ## The kernel body on any staging memrefs: a subtype the run finds -/

/-- One staging buffer of output window 4, through which its contents are stated (`View.read_writes_of_cover`: the
    choice does not matter). -/
abbrev VO0_4 : View sig .tc .vmem S192x512 .bf16 := (Memref.whole cc0_stg4_0 : Memref sig .tc .vmem S192x512 .bf16).view
/-- Each window's current staging memref at point `t`, spelled as the pipeline passes it (`bodyAt0`), and its wholeness. -/
abbrev ms0_0 (t : Fin cfg0.N) : Memref sig .tc .vmem S192x14592 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1460x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S114x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S114x295 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S192x512 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S57x192x256 .bf16 := Memref.whole cc0_scratch0
abbrev scM0_1 : Memref sig .tc .vmem S120x3072 .i32 := Memref.whole cc0_scratch1
abbrev scM0_2 : Memref sig .tc .vmem S120x512 .f32 := Memref.whole cc0_scratch2
abbrev scM0_3 : Memref sig .tc .vmem S120x512 .i32 := Memref.whole cc0_scratch3
abbrev scM0_4 : Memref sig .tc .vmem S120x512 .i32 := Memref.whole cc0_scratch4
abbrev scM0_5 : Memref sig .tc .vmem S120x512 .i32 := Memref.whole cc0_scratch5
/-- The scratch `arg6` the kernel carries between points, as a view: what it holds is stated through it. -/
abbrev VS0_0 : View sig .tc .vmem S57x192x256 .bf16 := scM0_0.view
/-- The scratch `arg7` the kernel carries between points, as a view: what it holds is stated through it. -/
abbrev VS0_1 : View sig .tc .vmem S120x3072 .i32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Body

end
-- ==== Proof.Kernel.Rest.lean ====
/-
  The body after its preparation: the loop over the superblocks, the last superblock with the tail, and the store of
  the result.  It reads the packed weights, the permuted input and the four prepared tables and writes nothing but
  the result's staging buffer.
-/
module

public import proofs.«01_k».proof.Proof.Kernel.Setup

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (c : Dev nD) (i : grid0.Coords)
  (arg1 : Memref sig .tc .vmem S192x14592 .bf16) (harg1 : arg1.IsWhole)
  (arg2 : Memref sig .tc .vmem S1460x512 .i32) (harg2 : arg2.IsWhole)
  (arg3 : Memref sig .tc .vmem S114x512 .bf16) (harg3 : arg3.IsWhole)
  (arg4 : Memref sig .tc .vmem S114x295 .i32) (harg4 : arg4.IsWhole)
  (arg5 : Memref sig .tc .vmem S192x512 .bf16) (harg5 : arg5.IsWhole)
  (arg6 : Memref sig .tc .vmem S57x192x256 .bf16) (harg6 : arg6.IsWhole)
  (arg7 : Memref sig .tc .vmem S120x3072 .i32) (harg7 : arg7.IsWhole)
  (arg8 : Memref sig .tc .vmem S120x512 .f32) (harg8 : arg8.IsWhole)
  (arg9 : Memref sig .tc .vmem S120x512 .i32) (harg9 : arg9.IsWhole)
  (arg10 : Memref sig .tc .vmem S120x512 .i32) (harg10 : arg10.IsWhole)
  (arg11 : Memref sig .tc .vmem S120x512 .i32) (harg11 : arg11.IsWhole)

/-- The body's program after its first part (`k0_part106`, the preparation). -/
noncomputable def bodyRest (cst : F .f32) : Prog (TpuEff nD τ sig (Elt F) Λ₀ .tc) PUnit := do
  let ⟨v35, v42, v46, v50, v63, v66, v70, c1102594416_i32⟩ : Σ' (v35 : FVec F S192x512 .f32) (v42 : IVec S8x512 32) (v46 : IVec S8x512 32) (v50 : IVec S8x512 32) (v63 : FVec F S16x512 .bf16) (v66 : IVec S8x512 32) (v70 : FVec F S16x512 .bf16), BitVec 32 ← k0_part107 i arg1 harg1 arg2 harg2 arg3 harg3 arg4 harg4 arg5 harg5 arg6 harg6 arg7 harg7 arg8 harg8 arg9 harg9 arg10 harg10 arg11 harg11 cst
  let ⟨v76, v89, v102, v115⟩ : Σ' (v76 : FVec F S16x512 .bf16) (v89 : FVec F S16x512 .bf16) (v102 : FVec F S16x512 .bf16), FVec F S16x512 .bf16 ← k0_part108 i arg1 harg1 arg2 harg2 arg3 harg3 arg4 harg4 arg5 harg5 arg6 harg6 arg7 harg7 arg8 harg8 arg9 harg9 arg10 harg10 arg11 harg11 v42 v46 v50 v66 v70 c1102594416_i32
  let ⟨v122, v126, v130, v151, v156⟩ : Σ' (v122 : IVec S8x512 32) (v126 : IVec S8x512 32) (v130 : IVec S8x512 32) (v151 : FVec F S16x512 .bf16), FVec F S16x512 .bf16 ← k0_part109 i arg1 harg1 arg2 harg2 arg3 harg3 arg4 harg4 arg5 harg5 arg6 harg6 arg7 harg7 arg8 harg8 arg9 harg9 arg10 harg10 arg11 harg11
  let ⟨v157, v184, v194, v197⟩ : Σ' (v157 : FVec F S16x512 .bf16) (v184 : FVec F S16x512 .bf16) (v194 : IVec S8x512 32), FVec F S16x512 .f32 ← k0_part110 i arg1 harg1 arg2 harg2 arg3 harg3 arg4 harg4 arg5 harg5 arg6 harg6 arg7 harg7 arg8 harg8 arg9 harg9 arg10 harg10 arg11 harg11 v122 v151 v156
  let ⟨v211, v229, v240, c1102594416_i32_86⟩ : Σ' (v211 : FVec F S16x512 .bf16) (v229 : IVec S8x512 32) (v240 : FVec F S16x512 .bf16), BitVec 32 ← k0_part111 i arg1 harg1 arg2 harg2 arg3 harg3 arg4 harg4 arg5 harg5 arg6 harg6 arg7 harg7 arg8 harg8 arg9 harg9 arg10 harg10 arg11 harg11 v126 v194 v197
  let ⟨v246, v281, v284⟩ : Σ' (v246 : FVec F S16x512 .bf16) (v281 : FVec F S16x512 .bf16), Vec F S8x512 .i32 ← k0_part112 i arg1 harg1 arg2 harg2 arg3 harg3 arg4 harg4 arg5 harg5 arg6 harg6 arg7 harg7 arg8 harg8 arg9 harg9 arg10 harg10 arg11 harg11 v126 v130 v229 v240 c1102594416_i32_86
  let ⟨v292, v296, v309, v322, v325⟩ : Σ' (v292 : IVec S8x512 32) (v296 : IVec S8x512 32) (v309 : FVec F S16x512 .bf16) (v322 : FVec F S16x512 .bf16), IVec S8x512 32 ← k0_part113 i arg1 harg1 arg2 harg2 arg3 harg3 arg4 harg4 arg5 harg5 arg6 harg6 arg7 harg7 arg8 harg8 arg9 harg9 arg10 harg10 arg11 harg11 v284
  let ⟨v335, v348, v361, v364, v368, c5_i32_136⟩ : Σ' (v335 : FVec F S16x512 .bf16) (v348 : FVec F S16x512 .bf16) (v361 : FVec F S16x512 .bf16) (v364 : Vec F S8x512 .i32) (v368 : IVec S8x512 32), BitVec 32 ← k0_part114 i arg1 harg1 arg2 harg2 arg3 harg3 arg4 harg4 arg5 harg5 arg6 harg6 arg7 harg7 arg8 harg8 arg9 harg9 arg10 harg10 arg11 harg11 v292 v296 v325
  let ⟨v372, v376, v403, v406, v409, v410⟩ : Σ' (v372 : IVec S8x512 32) (v376 : IVec S8x512 32) (v403 : FVec F S16x512 .bf16) (v406 : IVec S8x512 32) (v409 : IVec S8x512 32), IVec S8x512 32 ← k0_part115 i arg1 harg1 arg2 harg2 arg3 harg3 arg4 harg4 arg5 harg5 arg6 harg6 arg7 harg7 arg8 harg8 arg9 harg9 arg10 harg10 arg11 harg11 v364 v368 c5_i32_136
  let ⟨v438, v441, v444, v445, v450, v452, c1_i32_169⟩ : Σ' (v438 : FVec F S16x512 .bf16) (v441 : IVec S8x512 32) (v444 : IVec S8x512 32) (v445 : IVec S8x512 32) (v450 : IVec S8x512 32) (v452 : IVec S8x512 1), BitVec 32 ← k0_part116 i arg1 harg1 arg2 harg2 arg3 harg3 arg4 harg4 arg5 harg5 arg6 harg6 arg7 harg7 arg8 harg8 arg9 harg9 arg10 harg10 arg11 harg11 v368 v406 v409 v410
  let ⟨v473, v491, v494⟩ : Σ' (v473 : FVec F S16x512 .bf16) (v491 : IVec S8x512 32), FVec F S16x512 .f32 ← k0_part117 i arg1 harg1 arg2 harg2 arg3 harg3 arg4 harg4 arg5 harg5 arg6 harg6 arg7 harg7 arg8 harg8 arg9 harg9 arg10 harg10 arg11 harg11 v372 v441 v444 v445 v450 v452 c1_i32_169
  let ⟨v508, v526, v537, v538⟩ : Σ' (v508 : FVec F S16x512 .bf16) (v526 : IVec S8x512 32) (v537 : FVec F S16x512 .bf16), IVec S8x512 32 ← k0_part118 i arg1 harg1 arg2 harg2 arg3 harg3 arg4 harg4 arg5 harg5 arg6 harg6 arg7 harg7 arg8 harg8 arg9 harg9 arg10 harg10 arg11 harg11 v372 v491 v494
  let ⟨v543, v548, v555, v559, v563, v566, v569, v570, v575, v577, v578⟩ : Σ' (v543 : FVec F S16x512 .bf16) (v548 : FVec F S192x512 .f32) (v555 : IVec S8x512 32) (v559 : IVec S8x512 32) (v563 : IVec S8x512 32) (v566 : IVec S8x512 32) (v569 : IVec S8x512 32) (v570 : IVec S8x512 32) (v575 : IVec S8x512 32) (v577 : IVec S8x512 1), IVec S8x512 32 ← k0_part119 i arg1 harg1 arg2 harg2 arg3 harg3 arg4 harg4 arg5 harg5 arg6 harg6 arg7 harg7 arg8 harg8 arg9 harg9 arg10 harg10 arg11 harg11 v35 v63 v76 v89 v102 v115 v157 v184 v211 v246 v281 v309 v322 v335 v348 v361 v376 v403 v526 v537 v538
  let ⟨v598, v616, v619, v620⟩ : Σ' (v598 : FVec F S16x512 .bf16) (v616 : IVec S8x512 32) (v619 : FVec F S16x512 .f32), Vec F S1x512 .f32 ← k0_part120 i arg1 harg1 arg2 harg2 arg3 harg3 arg4 harg4 arg5 harg5 arg6 harg6 arg7 harg7 arg8 harg8 arg9 harg9 arg10 harg10 arg11 harg11 v555 v566 v569 v570 v575 v577 v578
  let ⟨v633, v651, v662, v664⟩ : Σ' (v633 : FVec F S16x512 .bf16) (v651 : IVec S8x512 32) (v662 : FVec F S16x512 .bf16), IVec S8x512 32 ← k0_part121 i arg1 harg1 arg2 harg2 arg3 harg3 arg4 harg4 arg5 harg5 arg6 harg6 arg7 harg7 arg8 harg8 arg9 harg9 arg10 harg10 arg11 harg11 v555 v559 v616 v619 v620
  let ⟨v668, v703, v706⟩ : Σ' (v668 : FVec F S16x512 .bf16) (v703 : FVec F S16x512 .bf16), IVec S8x512 32 ← k0_part122 i arg1 harg1 arg2 harg2 arg3 harg3 arg4 harg4 arg5 harg5 arg6 harg6 arg7 harg7 arg8 harg8 arg9 harg9 arg10 harg10 arg11 harg11 v559 v651 v662 v664
  let ⟨v730, v737, v741, v745, v748⟩ : Σ' (v730 : FVec F S16x512 .bf16) (v737 : IVec S8x512 32) (v741 : IVec S8x512 32) (v745 : IVec S8x512 32), IVec S8x512 32 ← k0_part123 i arg1 harg1 arg2 harg2 arg3 harg3 arg4 harg4 arg5 harg5 arg6 harg6 arg7 harg7 arg8 harg8 arg9 harg9 arg10 harg10 arg11 harg11 v563 v706
  let ⟨v758, v771, v784, v787, v791, c1102594416_i32_302⟩ : Σ' (v758 : FVec F S16x512 .bf16) (v771 : FVec F S16x512 .bf16) (v784 : FVec F S16x512 .bf16) (v787 : IVec S8x512 32) (v791 : FVec F S16x512 .bf16), BitVec 32 ← k0_part124 i arg1 harg1 arg2 harg2 arg3 harg3 arg4 harg4 arg5 harg5 arg6 harg6 arg7 harg7 arg8 harg8 arg9 harg9 arg10 harg10 arg11 harg11 v737 v741 v748
  let ⟨v797, v810, v813, v837⟩ : Σ' (v797 : FVec F S16x512 .bf16) (v810 : FVec F S16x512 .bf16) (v813 : IVec S8x512 32), IVec S8x512 32 ← k0_part125 i arg1 harg1 arg2 harg2 arg3 harg3 arg4 harg4 arg5 harg5 arg6 harg6 arg7 harg7 arg8 harg8 arg9 harg9 arg10 harg10 arg11 harg11 v741 v745 v787 v791 c1102594416_i32_302
  let v879 : FVec F S16x512 .bf16 ← k0_part126 i arg1 harg1 arg2 harg2 arg3 harg3 arg4 harg4 arg5 harg5 arg6 harg6 arg7 harg7 arg8 harg8 arg9 harg9 arg10 harg10 arg11 harg11 v813 v837
  let ⟨v884, v887, v911, v920, v922⟩ : Σ' (v884 : FVec F S16x512 .bf16) (v887 : IVec S8x512 32) (v911 : IVec S8x512 32) (v920 : IVec S8x512 32), IVec S8x512 1 ← k0_part127 i arg1 harg1 arg2 harg2 arg3 harg3 arg4 harg4 arg5 harg5 arg6 harg6 arg7 harg7 arg8 harg8 arg9 harg9 arg10 harg10 arg11 harg11 v879
  let v964 : FVec F S192x512 .bf16 ← k0_part128 i arg1 harg1 arg2 harg2 arg3 harg3 arg4 harg4 arg5 harg5 arg6 harg6 arg7 harg7 arg8 harg8 arg9 harg9 arg10 harg10 arg11 harg11 v438 v473 v508 v543 v548 v598 v633 v668 v703 v730 v758 v771 v784 v797 v810 v884 v887 v911 v920 v922
  let v965 : Vec F S192x512 .bf16 ← Prog.lift (.load arg5 (Rect.unit (s := S192x512) ![0, 0] S192x512.size inb_S192x512_S192x512_0_0).toLoadRect (View.loadsAt_vmem h_S192x512))
  Prog.lift (.store arg5 (Rect.unit (s := S192x512) ![0, 0] S192x512.size inb_S192x512_S192x512_0_0) v964 Finset.univ (View.stores_vmem h_S192x512 (harg5.storeExact_slice rfl _ packedbf16_S192x512_S192x512_0_0) (fun _ => rfl)) (.inl rfl))
  pure ⟨⟩

set_option maxRecDepth 65536 in
/-- The body is its preparation followed by `bodyRest`. -/
theorem body_eq : cc0_gptq_w3_linear (F := F) i arg1 harg1 arg2 harg2 arg3 harg3 arg4 harg4 arg5 harg5 arg6 harg6 arg7 harg7 arg8 harg8 arg9 harg9 arg10 harg10 arg11 harg11
    = (k0_part106 (F := F) i arg1 harg1 arg2 harg2 arg3 harg3 arg4 harg4 arg5 harg5 arg6 harg6 arg7 harg7 arg8 harg8 arg9 harg9 arg10 harg10 arg11 harg11 >>= fun cst => bodyRest (F := F) i arg1 harg1 arg2 harg2 arg3 harg3 arg4 harg4 arg5 harg5 arg6 harg6 arg7 harg7 arg8 harg8 arg9 harg9 arg10 harg10 arg11 harg11 cst) := rfl

set_option maxHeartbeats 4000000 in
/-- `bodyRest` on whole memrefs at any contents: it ends with everything it reads as it was and with the pieces `L`
    — the witness the run finds — written into the result's buffer. -/
noncomputable def restRun (cst : F .f32)
    (x1 : Vec F S1460x512 .i32) (xp : Vec F S57x192x256 .bf16) (s : Vec F S120x512 .f32) (za : Vec F S120x512 .i32) (zb : Vec F S120x512 .i32) (zt : Vec F S120x512 .i32) :
    { L : List (View.Piece (Elt F) S192x512 .bf16) // ∀ (E : Set ℕ) (K : PUnit → sProp 𝕄),
        iprop(owns (c : Thread nD τ) arg2 fullShare x1 ∗ owns (c : Thread nD τ) arg6 fullShare xp ∗ owns (c : Thread nD τ) arg8 fullShare s ∗ owns (c : Thread nD τ) arg9 fullShare za ∗ owns (c : Thread nD τ) arg10 fullShare zb ∗ owns (c : Thread nD τ) arg11 fullShare zt ∗ (∃ d, owns (c : Thread nD τ) arg5 fullShare d)
            ∗ (iprop(owns (c : Thread nD τ) arg2 fullShare x1 ∗ owns (c : Thread nD τ) arg6 fullShare xp ∗ owns (c : Thread nD τ) arg8 fullShare s ∗ owns (c : Thread nD τ) arg9 fullShare za ∗ owns (c : Thread nD τ) arg10 fullShare zb ∗ owns (c : Thread nD τ) arg11 fullShare zt ∗ (∃ f, arg5.view.loc (c : Thread nD τ) ↦[arg5.view.set]{fullShare} arg5.view.writes (Elt F) f L)) -∗ K ⟨⟩))
          ⊢ wp frame (wpE (defs₀ (F := F)) Variants.none c none) E (bodyRest i arg1 harg1 arg2 harg2 arg3 harg3 arg4 harg4 arg5 harg5 arg6 harg6 arg7 harg7 arg8 harg8 arg9 harg9 arg10 harg10 arg11 harg11 cst) K } := by
  refine ⟨?_, fun E K => ?run⟩
  case run =>
    unfold bodyRest
    simp only [k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton]
    unfold owns
    iintro ⟨⟨%f_arg2, %hf_arg2, H_arg2⟩, ⟨%f_arg6, %hf_arg6, H_arg6⟩, ⟨%f_arg8, %hf_arg8, H_arg8⟩, ⟨%f_arg9, %hf_arg9, H_arg9⟩, ⟨%f_arg10, %hf_arg10, H_arg10⟩, ⟨%f_arg11, %hf_arg11, H_arg11⟩, ⟨%d5, %f5, -, H5⟩, Hk⟩
    obtain rfl := harg2.eq_unread hf_arg2; obtain rfl := harg6.eq_unread hf_arg6; obtain rfl := harg8.eq_unread hf_arg8; obtain rfl := harg9.eq_unread hf_arg9; obtain rfl := harg10.eq_unread hf_arg10; obtain rfl := harg11.eq_unread hf_arg11
    sl_exec
    sl_step
    iapply Hk
    isplitl [H_arg2]
    · iexists _; isplitr; · ipureintro; exact harg2.read_unread _
      iexact H_arg2
    isplitl [H_arg6]
    · iexists _; isplitr; · ipureintro; exact harg6.read_unread _
      iexact H_arg6
    isplitl [H_arg8]
    · iexists _; isplitr; · ipureintro; exact harg8.read_unread _
      iexact H_arg8
    isplitl [H_arg9]
    · iexists _; isplitr; · ipureintro; exact harg9.read_unread _
      iexact H_arg9
    isplitl [H_arg10]
    · iexists _; isplitr; · ipureintro; exact harg10.read_unread _
      iexact H_arg10
    isplitl [H_arg11]
    · iexists _; isplitr; · ipureintro; exact harg11.read_unread _
      iexact H_arg11
    iexists _; iexact H5

end Cert.Kernel.Body

end
-- ==== Proof.Kernel.PrefA.lean ====
/-
  The body's preparation at the first grid point.
-/
module

public import proofs.«01_k».proof.Proof.Kernel.Setup

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (c : Dev nD) (i : grid0.Coords)
  (arg1 : Memref sig .tc .vmem S192x14592 .bf16) (harg1 : arg1.IsWhole)
  (arg2 : Memref sig .tc .vmem S1460x512 .i32) (harg2 : arg2.IsWhole)
  (arg3 : Memref sig .tc .vmem S114x512 .bf16) (harg3 : arg3.IsWhole)
  (arg4 : Memref sig .tc .vmem S114x295 .i32) (harg4 : arg4.IsWhole)
  (arg5 : Memref sig .tc .vmem S192x512 .bf16) (harg5 : arg5.IsWhole)
  (arg6 : Memref sig .tc .vmem S57x192x256 .bf16) (harg6 : arg6.IsWhole)
  (arg7 : Memref sig .tc .vmem S120x3072 .i32) (harg7 : arg7.IsWhole)
  (arg8 : Memref sig .tc .vmem S120x512 .f32) (harg8 : arg8.IsWhole)
  (arg9 : Memref sig .tc .vmem S120x512 .i32) (harg9 : arg9.IsWhole)
  (arg10 : Memref sig .tc .vmem S120x512 .i32) (harg10 : arg10.IsWhole)
  (arg11 : Memref sig .tc .vmem S120x512 .i32) (harg11 : arg11.IsWhole)

set_option maxHeartbeats 4000000 in
/-- The body's preparation (`k0_part106`) at the first point — the `scf.if` taken: the input is permuted into `arg6`, the zeros unpacked into `arg7` — on whole memrefs at any contents: it ends with
    what it only reads as it was, and with the pieces it stores — the witnesses the run finds — written over what the
    other scratch buffers held. -/
noncomputable def prefA (hc : cond0_0 i)
    (x0 : Vec F S192x14592 .bf16) (x2 : Vec F S114x512 .bf16) (x3 : Vec F S114x295 .i32) (xp : Vec F S57x192x256 .bf16) (z : Vec F S120x3072 .i32) (s : Vec F S120x512 .f32) (za : Vec F S120x512 .i32) (zb : Vec F S120x512 .i32) (zt : Vec F S120x512 .i32) :
    Σ' (L_arg6 : List (View.Piece (Elt F) S57x192x256 .bf16)), Σ' (L_arg7 : List (View.Piece (Elt F) S120x3072 .i32)), Σ' (L_arg8 : List (View.Piece (Elt F) S120x512 .f32)), Σ' (L_arg9 : List (View.Piece (Elt F) S120x512 .i32)), Σ' (L_arg10 : List (View.Piece (Elt F) S120x512 .i32)), { L_arg11 : List (View.Piece (Elt F) S120x512 .i32) //
      ∀ (E : Set ℕ) (K : F .f32 → sProp 𝕄),
        iprop(owns (c : Thread nD τ) arg1 fullShare x0 ∗ owns (c : Thread nD τ) arg3 fullShare x2 ∗ owns (c : Thread nD τ) arg4 fullShare x3 ∗ owns (c : Thread nD τ) arg6 fullShare xp ∗ owns (c : Thread nD τ) arg7 fullShare z ∗ owns (c : Thread nD τ) arg8 fullShare s ∗ owns (c : Thread nD τ) arg9 fullShare za ∗ owns (c : Thread nD τ) arg10 fullShare zb ∗ owns (c : Thread nD τ) arg11 fullShare zt
            ∗ (iprop(owns (c : Thread nD τ) arg1 fullShare x0 ∗ owns (c : Thread nD τ) arg3 fullShare x2 ∗ owns (c : Thread nD τ) arg4 fullShare x3 ∗ (arg6.view.loc (c : Thread nD τ) ↦[arg6.view.set]{fullShare} arg6.view.writes (Elt F) (harg6.unread xp) L_arg6) ∗ (arg7.view.loc (c : Thread nD τ) ↦[arg7.view.set]{fullShare} arg7.view.writes (Elt F) (harg7.unread z) L_arg7) ∗ (arg8.view.loc (c : Thread nD τ) ↦[arg8.view.set]{fullShare} arg8.view.writes (Elt F) (harg8.unread s) L_arg8) ∗ (arg9.view.loc (c : Thread nD τ) ↦[arg9.view.set]{fullShare} arg9.view.writes (Elt F) (harg9.unread za) L_arg9) ∗ (arg10.view.loc (c : Thread nD τ) ↦[arg10.view.set]{fullShare} arg10.view.writes (Elt F) (harg10.unread zb) L_arg10) ∗ (arg11.view.loc (c : Thread nD τ) ↦[arg11.view.set]{fullShare} arg11.view.writes (Elt F) (harg11.unread zt) L_arg11)) -∗ K (Scalar.ofBits .f32 0x00000000#32)))
          ⊢ wp frame (wpE (defs₀ (F := F)) Variants.none c none) E (k0_part106 i arg1 harg1 arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [k0_part106_eq_skeleton]; unfold k0_part106_skel
    simp only [k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f_arg1, %hf_arg1, H_arg1⟩, ⟨%f_arg3, %hf_arg3, H_arg3⟩, ⟨%f_arg4, %hf_arg4, H_arg4⟩, ⟨%f_arg6, %hf_arg6, H_arg6⟩, ⟨%f_arg7, %hf_arg7, H_arg7⟩, ⟨%f_arg8, %hf_arg8, H_arg8⟩, ⟨%f_arg9, %hf_arg9, H_arg9⟩, ⟨%f_arg10, %hf_arg10, H_arg10⟩, ⟨%f_arg11, %hf_arg11, H_arg11⟩, Hk⟩
    obtain rfl := harg1.eq_unread hf_arg1; obtain rfl := harg3.eq_unread hf_arg3; obtain rfl := harg4.eq_unread hf_arg4; obtain rfl := harg6.eq_unread hf_arg6; obtain rfl := harg7.eq_unread hf_arg7; obtain rfl := harg8.eq_unread hf_arg8; obtain rfl := harg9.eq_unread hf_arg9; obtain rfl := harg10.eq_unread hf_arg10; obtain rfl := harg11.eq_unread hf_arg11
    sl_exec (disch := first | sl_exact hc)
    sl_step
    iapply Hk
    isplitl [H_arg1]
    · iexists _; isplitr; · ipureintro; exact harg1.read_unread _
      iexact H_arg1
    isplitl [H_arg3]
    · iexists _; isplitr; · ipureintro; exact harg3.read_unread _
      iexact H_arg3
    isplitl [H_arg4]
    · iexists _; isplitr; · ipureintro; exact harg4.read_unread _
      iexact H_arg4
    isplitl [H_arg6]; · iexact H_arg6
    isplitl [H_arg7]; · iexact H_arg7
    isplitl [H_arg8]; · iexact H_arg8
    isplitl [H_arg9]; · iexact H_arg9
    isplitl [H_arg10]; · iexact H_arg10
    iexact H_arg11

end Cert.Kernel.Body

end
-- ==== Proof.Kernel.PrefB.lean ====
/-
  The body's preparation at the grid points after the first.
-/
module

public import proofs.«01_k».proof.Proof.Kernel.Setup

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (c : Dev nD) (i : grid0.Coords)
  (arg1 : Memref sig .tc .vmem S192x14592 .bf16) (harg1 : arg1.IsWhole)
  (arg2 : Memref sig .tc .vmem S1460x512 .i32) (harg2 : arg2.IsWhole)
  (arg3 : Memref sig .tc .vmem S114x512 .bf16) (harg3 : arg3.IsWhole)
  (arg4 : Memref sig .tc .vmem S114x295 .i32) (harg4 : arg4.IsWhole)
  (arg5 : Memref sig .tc .vmem S192x512 .bf16) (harg5 : arg5.IsWhole)
  (arg6 : Memref sig .tc .vmem S57x192x256 .bf16) (harg6 : arg6.IsWhole)
  (arg7 : Memref sig .tc .vmem S120x3072 .i32) (harg7 : arg7.IsWhole)
  (arg8 : Memref sig .tc .vmem S120x512 .f32) (harg8 : arg8.IsWhole)
  (arg9 : Memref sig .tc .vmem S120x512 .i32) (harg9 : arg9.IsWhole)
  (arg10 : Memref sig .tc .vmem S120x512 .i32) (harg10 : arg10.IsWhole)
  (arg11 : Memref sig .tc .vmem S120x512 .i32) (harg11 : arg11.IsWhole)

set_option maxHeartbeats 4000000 in
/-- The body's preparation (`k0_part106`) at a later point — the `scf.if` not taken — on whole memrefs at any contents: it ends with
    what it only reads as it was, and with the pieces it stores — the witnesses the run finds — written over what the
    other scratch buffers held. -/
noncomputable def prefB (hc : ¬cond0_0 i)
    (x2 : Vec F S114x512 .bf16) (z : Vec F S120x3072 .i32) (s : Vec F S120x512 .f32) (za : Vec F S120x512 .i32) (zb : Vec F S120x512 .i32) (zt : Vec F S120x512 .i32) :
    Σ' (L_arg8 : List (View.Piece (Elt F) S120x512 .f32)), Σ' (L_arg9 : List (View.Piece (Elt F) S120x512 .i32)), Σ' (L_arg10 : List (View.Piece (Elt F) S120x512 .i32)), { L_arg11 : List (View.Piece (Elt F) S120x512 .i32) //
      ∀ (E : Set ℕ) (K : F .f32 → sProp 𝕄),
        iprop(owns (c : Thread nD τ) arg3 fullShare x2 ∗ owns (c : Thread nD τ) arg7 fullShare z ∗ owns (c : Thread nD τ) arg8 fullShare s ∗ owns (c : Thread nD τ) arg9 fullShare za ∗ owns (c : Thread nD τ) arg10 fullShare zb ∗ owns (c : Thread nD τ) arg11 fullShare zt
            ∗ (iprop(owns (c : Thread nD τ) arg3 fullShare x2 ∗ owns (c : Thread nD τ) arg7 fullShare z ∗ (arg8.view.loc (c : Thread nD τ) ↦[arg8.view.set]{fullShare} arg8.view.writes (Elt F) (harg8.unread s) L_arg8) ∗ (arg9.view.loc (c : Thread nD τ) ↦[arg9.view.set]{fullShare} arg9.view.writes (Elt F) (harg9.unread za) L_arg9) ∗ (arg10.view.loc (c : Thread nD τ) ↦[arg10.view.set]{fullShare} arg10.view.writes (Elt F) (harg10.unread zb) L_arg10) ∗ (arg11.view.loc (c : Thread nD τ) ↦[arg11.view.set]{fullShare} arg11.view.writes (Elt F) (harg11.unread zt) L_arg11)) -∗ K (Scalar.ofBits .f32 0x00000000#32)))
          ⊢ wp frame (wpE (defs₀ (F := F)) Variants.none c none) E (k0_part106 i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [k0_part106_eq_skeleton]; unfold k0_part106_skel

    unfold owns
    iintro ⟨⟨%f_arg3, %hf_arg3, H_arg3⟩, ⟨%f_arg7, %hf_arg7, H_arg7⟩, ⟨%f_arg8, %hf_arg8, H_arg8⟩, ⟨%f_arg9, %hf_arg9, H_arg9⟩, ⟨%f_arg10, %hf_arg10, H_arg10⟩, ⟨%f_arg11, %hf_arg11, H_arg11⟩, Hk⟩
    obtain rfl := harg3.eq_unread hf_arg3; obtain rfl := harg7.eq_unread hf_arg7; obtain rfl := harg8.eq_unread hf_arg8; obtain rfl := harg9.eq_unread hf_arg9; obtain rfl := harg10.eq_unread hf_arg10; obtain rfl := harg11.eq_unread hf_arg11
    sl_exec (disch := first | sl_exact hc)
    sl_step
    delta prefB.sl.cst
    iapply Hk
    isplitl [H_arg3]
    · iexists _; isplitr; · ipureintro; exact harg3.read_unread _
      iexact H_arg3
    isplitl [H_arg7]
    · iexists _; isplitr; · ipureintro; exact harg7.read_unread _
      iexact H_arg7
    isplitl [H_arg8]; · iexact H_arg8
    isplitl [H_arg9]; · iexact H_arg9
    isplitl [H_arg10]; · iexact H_arg10
    iexact H_arg11

end Cert.Kernel.Body

end
-- ==== Proof.Kernel.BodyAny.lean ====
/-
  The body at any grid point and on any contents: it hands every memref back, the four inputs as they were.  All a frame
  claim asks of it.
-/
module

public import proofs.«01_k».proof.Proof.Kernel.Rest
public import proofs.«01_k».proof.Proof.Kernel.PrefA
public import proofs.«01_k».proof.Proof.Kernel.PrefB

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (c : Dev nD) (i : grid0.Coords)
  (arg1 : Memref sig .tc .vmem S192x14592 .bf16) (harg1 : arg1.IsWhole)
  (arg2 : Memref sig .tc .vmem S1460x512 .i32) (harg2 : arg2.IsWhole)
  (arg3 : Memref sig .tc .vmem S114x512 .bf16) (harg3 : arg3.IsWhole)
  (arg4 : Memref sig .tc .vmem S114x295 .i32) (harg4 : arg4.IsWhole)
  (arg5 : Memref sig .tc .vmem S192x512 .bf16) (harg5 : arg5.IsWhole)
  (arg6 : Memref sig .tc .vmem S57x192x256 .bf16) (harg6 : arg6.IsWhole)
  (arg7 : Memref sig .tc .vmem S120x3072 .i32) (harg7 : arg7.IsWhole)
  (arg8 : Memref sig .tc .vmem S120x512 .f32) (harg8 : arg8.IsWhole)
  (arg9 : Memref sig .tc .vmem S120x512 .i32) (harg9 : arg9.IsWhole)
  (arg10 : Memref sig .tc .vmem S120x512 .i32) (harg10 : arg10.IsWhole)
  (arg11 : Memref sig .tc .vmem S120x512 .i32) (harg11 : arg11.IsWhole)

/-- The body on whole memrefs: the inputs' at `x0 … x3`, the output's and the scratch at anything. It ends with the
    inputs as they were and the others at something. -/
theorem body_any (x0 : Vec F S192x14592 .bf16) (x1 : Vec F S1460x512 .i32) (x2 : Vec F S114x512 .bf16) (x3 : Vec F S114x295 .i32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) Set.univ (cc0_gptq_w3_linear i arg1 harg1 arg2 harg2 arg3 harg3 arg4 harg4 arg5 harg5 arg6 harg6 arg7 harg7 arg8 harg8 arg9 harg9 arg10 harg10 arg11 harg11) K := by
  rw [body_eq, wp_bind_eq]
  iintro ⟨H1, H2, H3, H4, ⟨%d5, H5⟩, ⟨%d6, H6⟩, ⟨%d7, H7⟩, ⟨%d8, H8⟩, ⟨%d9, H9⟩, ⟨%d10, H10⟩, ⟨%d11, H11⟩, Hk⟩
  by_cases hc : cond0_0 i
  · iapply ((prefA c i arg1 harg1 arg2 harg2 arg3 harg3 arg4 harg4 arg5 harg5 arg6 harg6 arg7 harg7 arg8 harg8 arg9 harg9 arg10 harg10 arg11 harg11 hc x0 x2 x3 d6 d7 d8 d9 d10 d11).2.2.2.2.2.2 Set.univ _)
    isplitl [H1]; · iexact H1
    isplitl [H3]; · iexact H3
    isplitl [H4]; · iexact H4
    isplitl [H6]; · iexact H6
    isplitl [H7]; · iexact H7
    isplitl [H8]; · iexact H8
    isplitl [H9]; · iexact H9
    isplitl [H10]; · iexact H10
    isplitl [H11]; · iexact H11
    iintro ⟨H1, H3, H4, H6, H7, H8, H9, H10, H11⟩
    iapply ((restRun c i arg1 harg1 arg2 harg2 arg3 harg3 arg4 harg4 arg5 harg5 arg6 harg6 arg7 harg7 arg8 harg8 arg9 harg9 arg10 harg10 arg11 harg11 _ x1 _ _ _ _ _).2 Set.univ _)
    isplitl [H2]; · iexact H2
    isplitl [H6]
    · unfold owns; iexists _; isplitr
      swap; · iexact H6
      ipureintro; rfl
    isplitl [H8]
    · unfold owns; iexists _; isplitr
      swap; · iexact H8
      ipureintro; rfl
    isplitl [H9]
    · unfold owns; iexists _; isplitr
      swap; · iexact H9
      ipureintro; rfl
    isplitl [H10]
    · unfold owns; iexists _; isplitr
      swap; · iexact H10
      ipureintro; rfl
    isplitl [H11]
    · unfold owns; iexists _; isplitr
      swap; · iexact H11
      ipureintro; rfl
    isplitl [H5]; · iexists _; iexact H5
    iintro ⟨H2, H6, H8, H9, H10, H11, ⟨%f5, H5⟩⟩
    iapply Hk
    isplitl [H1]; · iexact H1
    isplitl [H2]; · iexact H2
    isplitl [H3]; · iexact H3
    isplitl [H4]; · iexact H4
    isplitl [H5]
    · iexists _; unfold owns; iexists _; isplitr
      swap; · iexact H5
      ipureintro; rfl
    isplitl [H6]
    · iexists _; iexact H6
    isplitl [H7]
    · iexists _; unfold owns; iexists _; isplitr
      swap; · iexact H7
      ipureintro; rfl
    isplitl [H8]
    · iexists _; iexact H8
    isplitl [H9]
    · iexists _; iexact H9
    isplitl [H10]
    · iexists _; iexact H10
    iexists _; iexact H11
  · iapply ((prefB c i arg1 harg1 arg2 harg2 arg3 harg3 arg4 harg4 arg5 harg5 arg6 harg6 arg7 harg7 arg8 harg8 arg9 harg9 arg10 harg10 arg11 harg11 hc x2 d7 d8 d9 d10 d11).2.2.2.2 Set.univ _)
    isplitl [H3]; · iexact H3
    isplitl [H7]; · iexact H7
    isplitl [H8]; · iexact H8
    isplitl [H9]; · iexact H9
    isplitl [H10]; · iexact H10
    isplitl [H11]; · iexact H11
    iintro ⟨H3, H7, H8, H9, H10, H11⟩
    iapply ((restRun c i arg1 harg1 arg2 harg2 arg3 harg3 arg4 harg4 arg5 harg5 arg6 harg6 arg7 harg7 arg8 harg8 arg9 harg9 arg10 harg10 arg11 harg11 _ x1 d6 _ _ _ _).2 Set.univ _)
    isplitl [H2]; · iexact H2
    isplitl [H6]; · iexact H6
    isplitl [H8]
    · unfold owns; iexists _; isplitr
      swap; · iexact H8
      ipureintro; rfl
    isplitl [H9]
    · unfold owns; iexists _; isplitr
      swap; · iexact H9
      ipureintro; rfl
    isplitl [H10]
    · unfold owns; iexists _; isplitr
      swap; · iexact H10
      ipureintro; rfl
    isplitl [H11]
    · unfold owns; iexists _; isplitr
      swap; · iexact H11
      ipureintro; rfl
    isplitl [H5]; · iexists _; iexact H5
    iintro ⟨H2, H6, H8, H9, H10, H11, ⟨%f5, H5⟩⟩
    iapply Hk
    isplitl [H1]; · iexact H1
    isplitl [H2]; · iexact H2
    isplitl [H3]; · iexact H3
    isplitl [H4]; · iexact H4
    isplitl [H5]
    · iexists _; unfold owns; iexists _; isplitr
      swap; · iexact H5
      ipureintro; rfl
    isplitl [H6]
    · iexists _; iexact H6
    isplitl [H7]
    · iexists _; iexact H7
    isplitl [H8]
    · iexists _; iexact H8
    isplitl [H9]
    · iexists _; iexact H9
    isplitl [H10]
    · iexists _; iexact H10
    iexists _; iexact H11

end Cert.Kernel.Body

end
-- ==== Proof.Kernel.FrameAny.lean ====
/-
  The frame claim, for any values of the floats: the body hands every staging buffer and every scratch buffer back at any
  grid point (BodyAny.lean), so the run ends, the argument arrays end as they began and every counter ends at zero.
  Windows 1, 2 and 4 (weights, scales, result) overhang their arrays at the last point; what the result holds is not
  stated here (window 4 is forgotten).
-/
module

public import proofs.«01_k».proof.Proof.Kernel.BodyAny

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them; after the body each input's buffer holds its block; the result's
    is not named; the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0#32 : BitVec 32)) (iblk m c 1 t)
    | ⟨2, _⟩ => win0_2.fill (grid0.coords t) (fun _ => Scalar.ofBits .bf16 0#16) (iblk m c 2 t)
    | ⟨3, _⟩ => iblk m c 3 t
    | ⟨4, _⟩ => fun _ => Scalar.ofBits .bf16 0#16
  Φ _ := Pipeline.ΦA spec0 c
  q _ := fullShare
  owed _ := 0

/-- Window 4's contents are not named. -/
def fgt (w : Fin cfg0.W) : Bool := w.val == 4

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t
    = win0_1.fill (grid0.coords t) (fun _ => (0#32 : BitVec 32)) (iblk m c 1 t) := by dsimp only [dats]
theorem after_2 (c : Dev nD) (t : Fin cfg0.N) : (dats m 0 c).after 2 t
    = win0_2.fill (grid0.coords t) (fun _ => Scalar.ofBits .bf16 0#16) (iblk m c 2 t) := by dsimp only [dats]
theorem after_3 (c : Dev nD) (t : Fin cfg0.N) : (dats m 0 c).after 3 t = iblk m c 3 t := by dsimp only [dats]

/-- What the body finds in the inputs' buffers: their blocks, past an array's end anything. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) :
    (dats m 0 c).before 1 t d = win0_1.fill (grid0.coords t) d (iblk m c 1 t) := by
  unfold Dat.before; rw [if_pos (fetch0_1 t)]; rfl
theorem before_2 (c : Dev nD) (t : Fin cfg0.N) (d) :
    (dats m 0 c).before 2 t d = win0_2.fill (grid0.coords t) d (iblk m c 2 t) := by
  unfold Dat.before; rw [if_pos (fetch0_2 t)]; rfl
theorem before_3 (c : Dev nD) (t : Fin cfg0.N) (d) : (dats m 0 c).before 3 t d = iblk m c 3 t :=
  before0_3_of m (dats m 0 c) (A_eq m c 3) (after_3 m c) t d

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) :
    BodyObligationLoose (dats (F := F) m 0 c) (defs₀ (F := F)) Variants.none () Set.univ fgt := fun t => by
  rw [bigSep_W0, bigSep_W0, defs₀_row]
  simp only [show fgt 0 = false from rfl, show fgt 1 = false from rfl, show fgt 2 = false from rfl,
    show fgt 3 = false from rfl, show fgt 4 = true from rfl]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA0_eq]
  iintro ⟨⟨⟨HS0, HS1, HS2, HS3, HS4, HS5⟩, Hg⟩, Ho, ⟨%d0, H0⟩, ⟨%d1, H1⟩, ⟨%d2, H2⟩, ⟨%d3, H3⟩, H4⟩
  rw [before_0 m c t d0, before_1 m c t d1, before_2 m c t d2, before_3 m c t d3]
  iapply (body_any (F := F) c (grid0.coords t) _ _ _ _ _ _ _ _ _ _ _ _ _ _ _ _ _ _ _ _ _ _
    (iblk m c 0 t) (win0_1.fill (grid0.coords t) d1 (iblk m c 1 t)) (win0_2.fill (grid0.coords t) d2 (iblk m c 2 t)) (iblk m c 3 t) _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]
  · change _ ⊢ owns (c : Thread nD τ) (ms0_0 t) fullShare ((dats m 0 c).after 0 t)
    rw [after_0]
  isplitl [H1]
  · iexists d1
    change _ ⊢ owns (c : Thread nD τ) (ms0_1 t) fullShare (win0_1.fill (grid0.coords t) d1 (win0_1.cut (grid0.coords t) ((dats m 0 c).after 1 t)))
    rw [after_1, win0_1.cut_fill]
  isplitl [H2]
  · iexists d2
    change _ ⊢ owns (c : Thread nD τ) (ms0_2 t) fullShare (win0_2.fill (grid0.coords t) d2 (win0_2.cut (grid0.coords t) ((dats m 0 c).after 2 t)))
    rw [after_2, win0_2.cut_fill]
  isplitl [H3]
  · change _ ⊢ owns (c : Thread nD τ) (ms0_3 t) fullShare ((dats m 0 c).after 3 t)
    rw [after_3]
  iexact H4

-- the launch theorem's implicit arguments are found by unifying its conclusion with this one, which takes unfolding plain
-- definitions in a metavariable's type
set_option backward.isDefEq.respectTransparency.types false in
/-- The run: every input array ends as the region found it, and every counter ends at zero. -/
theorem run_main : θ_run defs (onTc (τ := τ) (main (F := F))) (s₀ m ρ)
    (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hΦ := fun _ _ => rfl)

/-- The frame claim: the argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨((h.1 c).2 main_arg0 (Pipeline.mem_restRefs_of main_arg0 (by decide) (by decide))).trans (V_main_arg0 m c),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c))⟩, h.2⟩) (run_main m ρ)

end Cert.Kernel.Body

end
-- ==== Proof.KernelIdeal.Setup.lean ====
/-
  What the runs of the body share: the condition of its one `scf.if` in closed form over the grid (it is taken at the
  first point only), the staging memrefs and the scratch memrefs as the pipeline passes them, and the region's
  invariant with the six scratch buffers as memrefs owned at some contents.
-/
module

public import proofs.«01_k».proof.Proof.Gen.KernelIdeal.Frame
public import proofs.«01_k».proof.Proof.Gen.KernelIdeal.Loops
public import proofs.«01_k».proof.Proof.Gen.KernelIdeal.Points
public import proofs.«01_k».proof.Proof.Gen.KernelIdeal.Skeleton
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 6 = 0 :=
  (fun t => by
    have ht : t.val < 6 := Nat.lt_of_lt_of_eq t.isLt N_0
    have e0 : (grid0.coords t 0).val = t.val / 1 % 6 := Pipeline.Grid.coords_val t 0 (by decide) rfl
    simp only [cond0_0, k0_cond1, e0]
    word_cmp
   : ∀ t : Fin grid0.N, cond0_0 (grid0.coords t) ↔ t.val % 6 = 0)

/-! ## The kernel body on any staging memrefs: a subtype the run finds -/

/-- One staging buffer of output window 4, through which its contents are stated (`View.read_writes_of_cover`: the
    choice does not matter). -/
abbrev VO0_4 : View sig .tc .vmem S192x512 .bf16 := (Memref.whole cc0_stg4_0 : Memref sig .tc .vmem S192x512 .bf16).view
/-- Each window's current staging memref at point `t`, spelled as the pipeline passes it (`bodyAt0`), and its wholeness. -/
abbrev ms0_0 (t : Fin cfg0.N) : Memref sig .tc .vmem S192x14592 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1460x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S114x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S114x295 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S192x512 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S57x192x256 .bf16 := Memref.whole cc0_scratch0
abbrev scM0_1 : Memref sig .tc .vmem S120x3072 .i32 := Memref.whole cc0_scratch1
abbrev scM0_2 : Memref sig .tc .vmem S120x512 .f32 := Memref.whole cc0_scratch2
abbrev scM0_3 : Memref sig .tc .vmem S120x512 .i32 := Memref.whole cc0_scratch3
abbrev scM0_4 : Memref sig .tc .vmem S120x512 .i32 := Memref.whole cc0_scratch4
abbrev scM0_5 : Memref sig .tc .vmem S120x512 .i32 := Memref.whole cc0_scratch5
/-- The scratch `arg6` the kernel carries between points, as a view: what it holds is stated through it. -/
abbrev VS0_0 : View sig .tc .vmem S57x192x256 .bf16 := scM0_0.view
/-- The scratch `arg7` the kernel carries between points, as a view: what it holds is stated through it. -/
abbrev VS0_1 : View sig .tc .vmem S120x3072 .i32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Body

end
-- ==== Proof.KernelIdeal.Rest.lean ====
/-
  The body after its preparation: the loop over the superblocks, the last superblock with the tail, and the store of
  the result.  It reads the packed weights, the permuted input and the four prepared tables and writes nothing but
  the result's staging buffer.
-/
module

public import proofs.«01_k».proof.Proof.KernelIdeal.Setup

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (c : Dev nD) (i : grid0.Coords)
  (arg1 : Memref sig .tc .vmem S192x14592 .bf16) (harg1 : arg1.IsWhole)
  (arg2 : Memref sig .tc .vmem S1460x512 .i32) (harg2 : arg2.IsWhole)
  (arg3 : Memref sig .tc .vmem S114x512 .bf16) (harg3 : arg3.IsWhole)
  (arg4 : Memref sig .tc .vmem S114x295 .i32) (harg4 : arg4.IsWhole)
  (arg5 : Memref sig .tc .vmem S192x512 .bf16) (harg5 : arg5.IsWhole)
  (arg6 : Memref sig .tc .vmem S57x192x256 .bf16) (harg6 : arg6.IsWhole)
  (arg7 : Memref sig .tc .vmem S120x3072 .i32) (harg7 : arg7.IsWhole)
  (arg8 : Memref sig .tc .vmem S120x512 .f32) (harg8 : arg8.IsWhole)
  (arg9 : Memref sig .tc .vmem S120x512 .i32) (harg9 : arg9.IsWhole)
  (arg10 : Memref sig .tc .vmem S120x512 .i32) (harg10 : arg10.IsWhole)
  (arg11 : Memref sig .tc .vmem S120x512 .i32) (harg11 : arg11.IsWhole)

/-- The body's program after its first part (`k0_part106`, the preparation). -/
noncomputable def bodyRest (cst : F .f32) : Prog (TpuEff nD τ sig (Elt F) Λ₀ .tc) PUnit := do
  let ⟨v35, v42, v46, v50, v63, v66, v70, c1102594416_i32⟩ : Σ' (v35 : FVec F S192x512 .f32) (v42 : IVec S8x512 32) (v46 : IVec S8x512 32) (v50 : IVec S8x512 32) (v63 : FVec F S16x512 .bf16) (v66 : IVec S8x512 32) (v70 : FVec F S16x512 .bf16), BitVec 32 ← k0_part107 i arg1 harg1 arg2 harg2 arg3 harg3 arg4 harg4 arg5 harg5 arg6 harg6 arg7 harg7 arg8 harg8 arg9 harg9 arg10 harg10 arg11 harg11 cst
  let ⟨v76, v89, v102, v115⟩ : Σ' (v76 : FVec F S16x512 .bf16) (v89 : FVec F S16x512 .bf16) (v102 : FVec F S16x512 .bf16), FVec F S16x512 .bf16 ← k0_part108 i arg1 harg1 arg2 harg2 arg3 harg3 arg4 harg4 arg5 harg5 arg6 harg6 arg7 harg7 arg8 harg8 arg9 harg9 arg10 harg10 arg11 harg11 v42 v46 v50 v66 v70 c1102594416_i32
  let ⟨v122, v126, v130, v151, v156⟩ : Σ' (v122 : IVec S8x512 32) (v126 : IVec S8x512 32) (v130 : IVec S8x512 32) (v151 : FVec F S16x512 .bf16), FVec F S16x512 .bf16 ← k0_part109 i arg1 harg1 arg2 harg2 arg3 harg3 arg4 harg4 arg5 harg5 arg6 harg6 arg7 harg7 arg8 harg8 arg9 harg9 arg10 harg10 arg11 harg11
  let ⟨v157, v184, v194, v197⟩ : Σ' (v157 : FVec F S16x512 .bf16) (v184 : FVec F S16x512 .bf16) (v194 : IVec S8x512 32), FVec F S16x512 .f32 ← k0_part110 i arg1 harg1 arg2 harg2 arg3 harg3 arg4 harg4 arg5 harg5 arg6 harg6 arg7 harg7 arg8 harg8 arg9 harg9 arg10 harg10 arg11 harg11 v122 v151 v156
  let ⟨v211, v229, v240, c1102594416_i32_86⟩ : Σ' (v211 : FVec F S16x512 .bf16) (v229 : IVec S8x512 32) (v240 : FVec F S16x512 .bf16), BitVec 32 ← k0_part111 i arg1 harg1 arg2 harg2 arg3 harg3 arg4 harg4 arg5 harg5 arg6 harg6 arg7 harg7 arg8 harg8 arg9 harg9 arg10 harg10 arg11 harg11 v126 v194 v197
  let ⟨v246, v281, v284⟩ : Σ' (v246 : FVec F S16x512 .bf16) (v281 : FVec F S16x512 .bf16), Vec F S8x512 .i32 ← k0_part112 i arg1 harg1 arg2 harg2 arg3 harg3 arg4 harg4 arg5 harg5 arg6 harg6 arg7 harg7 arg8 harg8 arg9 harg9 arg10 harg10 arg11 harg11 v126 v130 v229 v240 c1102594416_i32_86
  let ⟨v292, v296, v309, v322, v325⟩ : Σ' (v292 : IVec S8x512 32) (v296 : IVec S8x512 32) (v309 : FVec F S16x512 .bf16) (v322 : FVec F S16x512 .bf16), IVec S8x512 32 ← k0_part113 i arg1 harg1 arg2 harg2 arg3 harg3 arg4 harg4 arg5 harg5 arg6 harg6 arg7 harg7 arg8 harg8 arg9 harg9 arg10 harg10 arg11 harg11 v284
  let ⟨v335, v348, v361, v364, v368, c5_i32_136⟩ : Σ' (v335 : FVec F S16x512 .bf16) (v348 : FVec F S16x512 .bf16) (v361 : FVec F S16x512 .bf16) (v364 : Vec F S8x512 .i32) (v368 : IVec S8x512 32), BitVec 32 ← k0_part114 i arg1 harg1 arg2 harg2 arg3 harg3 arg4 harg4 arg5 harg5 arg6 harg6 arg7 harg7 arg8 harg8 arg9 harg9 arg10 harg10 arg11 harg11 v292 v296 v325
  let ⟨v372, v376, v403, v406, v409, v410⟩ : Σ' (v372 : IVec S8x512 32) (v376 : IVec S8x512 32) (v403 : FVec F S16x512 .bf16) (v406 : IVec S8x512 32) (v409 : IVec S8x512 32), IVec S8x512 32 ← k0_part115 i arg1 harg1 arg2 harg2 arg3 harg3 arg4 harg4 arg5 harg5 arg6 harg6 arg7 harg7 arg8 harg8 arg9 harg9 arg10 harg10 arg11 harg11 v364 v368 c5_i32_136
  let ⟨v438, v441, v444, v445, v450, v452, c1_i32_169⟩ : Σ' (v438 : FVec F S16x512 .bf16) (v441 : IVec S8x512 32) (v444 : IVec S8x512 32) (v445 : IVec S8x512 32) (v450 : IVec S8x512 32) (v452 : IVec S8x512 1), BitVec 32 ← k0_part116 i arg1 harg1 arg2 harg2 arg3 harg3 arg4 harg4 arg5 harg5 arg6 harg6 arg7 harg7 arg8 harg8 arg9 harg9 arg10 harg10 arg11 harg11 v368 v406 v409 v410
  let ⟨v473, v491, v494⟩ : Σ' (v473 : FVec F S16x512 .bf16) (v491 : IVec S8x512 32), FVec F S16x512 .f32 ← k0_part117 i arg1 harg1 arg2 harg2 arg3 harg3 arg4 harg4 arg5 harg5 arg6 harg6 arg7 harg7 arg8 harg8 arg9 harg9 arg10 harg10 arg11 harg11 v372 v441 v444 v445 v450 v452 c1_i32_169
  let ⟨v508, v526, v537, v538⟩ : Σ' (v508 : FVec F S16x512 .bf16) (v526 : IVec S8x512 32) (v537 : FVec F S16x512 .bf16), IVec S8x512 32 ← k0_part118 i arg1 harg1 arg2 harg2 arg3 harg3 arg4 harg4 arg5 harg5 arg6 harg6 arg7 harg7 arg8 harg8 arg9 harg9 arg10 harg10 arg11 harg11 v372 v491 v494
  let ⟨v543, v548, v555, v559, v563, v566, v569, v570, v575, v577, v578⟩ : Σ' (v543 : FVec F S16x512 .bf16) (v548 : FVec F S192x512 .f32) (v555 : IVec S8x512 32) (v559 : IVec S8x512 32) (v563 : IVec S8x512 32) (v566 : IVec S8x512 32) (v569 : IVec S8x512 32) (v570 : IVec S8x512 32) (v575 : IVec S8x512 32) (v577 : IVec S8x512 1), IVec S8x512 32 ← k0_part119 i arg1 harg1 arg2 harg2 arg3 harg3 arg4 harg4 arg5 harg5 arg6 harg6 arg7 harg7 arg8 harg8 arg9 harg9 arg10 harg10 arg11 harg11 v35 v63 v76 v89 v102 v115 v157 v184 v211 v246 v281 v309 v322 v335 v348 v361 v376 v403 v526 v537 v538
  let ⟨v598, v616, v619, v620⟩ : Σ' (v598 : FVec F S16x512 .bf16) (v616 : IVec S8x512 32) (v619 : FVec F S16x512 .f32), Vec F S1x512 .f32 ← k0_part120 i arg1 harg1 arg2 harg2 arg3 harg3 arg4 harg4 arg5 harg5 arg6 harg6 arg7 harg7 arg8 harg8 arg9 harg9 arg10 harg10 arg11 harg11 v555 v566 v569 v570 v575 v577 v578
  let ⟨v633, v651, v662, v664⟩ : Σ' (v633 : FVec F S16x512 .bf16) (v651 : IVec S8x512 32) (v662 : FVec F S16x512 .bf16), IVec S8x512 32 ← k0_part121 i arg1 harg1 arg2 harg2 arg3 harg3 arg4 harg4 arg5 harg5 arg6 harg6 arg7 harg7 arg8 harg8 arg9 harg9 arg10 harg10 arg11 harg11 v555 v559 v616 v619 v620
  let ⟨v668, v703, v706⟩ : Σ' (v668 : FVec F S16x512 .bf16) (v703 : FVec F S16x512 .bf16), IVec S8x512 32 ← k0_part122 i arg1 harg1 arg2 harg2 arg3 harg3 arg4 harg4 arg5 harg5 arg6 harg6 arg7 harg7 arg8 harg8 arg9 harg9 arg10 harg10 arg11 harg11 v559 v651 v662 v664
  let ⟨v730, v737, v741, v745, v748⟩ : Σ' (v730 : FVec F S16x512 .bf16) (v737 : IVec S8x512 32) (v741 : IVec S8x512 32) (v745 : IVec S8x512 32), IVec S8x512 32 ← k0_part123 i arg1 harg1 arg2 harg2 arg3 harg3 arg4 harg4 arg5 harg5 arg6 harg6 arg7 harg7 arg8 harg8 arg9 harg9 arg10 harg10 arg11 harg11 v563 v706
  let ⟨v758, v771, v784, v787, v791, c1102594416_i32_302⟩ : Σ' (v758 : FVec F S16x512 .bf16) (v771 : FVec F S16x512 .bf16) (v784 : FVec F S16x512 .bf16) (v787 : IVec S8x512 32) (v791 : FVec F S16x512 .bf16), BitVec 32 ← k0_part124 i arg1 harg1 arg2 harg2 arg3 harg3 arg4 harg4 arg5 harg5 arg6 harg6 arg7 harg7 arg8 harg8 arg9 harg9 arg10 harg10 arg11 harg11 v737 v741 v748
  let ⟨v797, v810, v813, v837⟩ : Σ' (v797 : FVec F S16x512 .bf16) (v810 : FVec F S16x512 .bf16) (v813 : IVec S8x512 32), IVec S8x512 32 ← k0_part125 i arg1 harg1 arg2 harg2 arg3 harg3 arg4 harg4 arg5 harg5 arg6 harg6 arg7 harg7 arg8 harg8 arg9 harg9 arg10 harg10 arg11 harg11 v741 v745 v787 v791 c1102594416_i32_302
  let v879 : FVec F S16x512 .bf16 ← k0_part126 i arg1 harg1 arg2 harg2 arg3 harg3 arg4 harg4 arg5 harg5 arg6 harg6 arg7 harg7 arg8 harg8 arg9 harg9 arg10 harg10 arg11 harg11 v813 v837
  let ⟨v884, v887, v911, v920, v922⟩ : Σ' (v884 : FVec F S16x512 .bf16) (v887 : IVec S8x512 32) (v911 : IVec S8x512 32) (v920 : IVec S8x512 32), IVec S8x512 1 ← k0_part127 i arg1 harg1 arg2 harg2 arg3 harg3 arg4 harg4 arg5 harg5 arg6 harg6 arg7 harg7 arg8 harg8 arg9 harg9 arg10 harg10 arg11 harg11 v879
  let v964 : FVec F S192x512 .bf16 ← k0_part128 i arg1 harg1 arg2 harg2 arg3 harg3 arg4 harg4 arg5 harg5 arg6 harg6 arg7 harg7 arg8 harg8 arg9 harg9 arg10 harg10 arg11 harg11 v438 v473 v508 v543 v548 v598 v633 v668 v703 v730 v758 v771 v784 v797 v810 v884 v887 v911 v920 v922
  let v965 : Vec F S192x512 .bf16 ← Prog.lift (.load arg5 (Rect.unit (s := S192x512) ![0, 0] S192x512.size inb_S192x512_S192x512_0_0).toLoadRect (View.loadsAt_vmem h_S192x512))
  Prog.lift (.store arg5 (Rect.unit (s := S192x512) ![0, 0] S192x512.size inb_S192x512_S192x512_0_0) v964 Finset.univ (View.stores_vmem h_S192x512 (harg5.storeExact_slice rfl _ packedbf16_S192x512_S192x512_0_0) (fun _ => rfl)) (.inl rfl))
  pure ⟨⟩

set_option maxRecDepth 65536 in
/-- The body is its preparation followed by `bodyRest`. -/
theorem body_eq : cc0_gptq_w3_linear (F := F) i arg1 harg1 arg2 harg2 arg3 harg3 arg4 harg4 arg5 harg5 arg6 harg6 arg7 harg7 arg8 harg8 arg9 harg9 arg10 harg10 arg11 harg11
    = (k0_part106 (F := F) i arg1 harg1 arg2 harg2 arg3 harg3 arg4 harg4 arg5 harg5 arg6 harg6 arg7 harg7 arg8 harg8 arg9 harg9 arg10 harg10 arg11 harg11 >>= fun cst => bodyRest (F := F) i arg1 harg1 arg2 harg2 arg3 harg3 arg4 harg4 arg5 harg5 arg6 harg6 arg7 harg7 arg8 harg8 arg9 harg9 arg10 harg10 arg11 harg11 cst) := rfl

set_option maxHeartbeats 4000000 in
/-- `bodyRest` on whole memrefs at any contents: it ends with everything it reads as it was and with the pieces `L`
    — the witness the run finds — written into the result's buffer. -/
noncomputable def restRun (cst : F .f32)
    (x1 : Vec F S1460x512 .i32) (xp : Vec F S57x192x256 .bf16) (s : Vec F S120x512 .f32) (za : Vec F S120x512 .i32) (zb : Vec F S120x512 .i32) (zt : Vec F S120x512 .i32) :
    { L : List (View.Piece (Elt F) S192x512 .bf16) // ∀ (E : Set ℕ) (K : PUnit → sProp 𝕄),
        iprop(owns (c : Thread nD τ) arg2 fullShare x1 ∗ owns (c : Thread nD τ) arg6 fullShare xp ∗ owns (c : Thread nD τ) arg8 fullShare s ∗ owns (c : Thread nD τ) arg9 fullShare za ∗ owns (c : Thread nD τ) arg10 fullShare zb ∗ owns (c : Thread nD τ) arg11 fullShare zt ∗ (∃ d, owns (c : Thread nD τ) arg5 fullShare d)
            ∗ (iprop(owns (c : Thread nD τ) arg2 fullShare x1 ∗ owns (c : Thread nD τ) arg6 fullShare xp ∗ owns (c : Thread nD τ) arg8 fullShare s ∗ owns (c : Thread nD τ) arg9 fullShare za ∗ owns (c : Thread nD τ) arg10 fullShare zb ∗ owns (c : Thread nD τ) arg11 fullShare zt ∗ (∃ f, arg5.view.loc (c : Thread nD τ) ↦[arg5.view.set]{fullShare} arg5.view.writes (Elt F) f L)) -∗ K ⟨⟩))
          ⊢ wp frame (wpE (defs₀ (F := F)) Variants.none c none) E (bodyRest i arg1 harg1 arg2 harg2 arg3 harg3 arg4 harg4 arg5 harg5 arg6 harg6 arg7 harg7 arg8 harg8 arg9 harg9 arg10 harg10 arg11 harg11 cst) K } := by
  refine ⟨?_, fun E K => ?run⟩
  case run =>
    unfold bodyRest
    simp only [k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton]
    unfold owns
    iintro ⟨⟨%f_arg2, %hf_arg2, H_arg2⟩, ⟨%f_arg6, %hf_arg6, H_arg6⟩, ⟨%f_arg8, %hf_arg8, H_arg8⟩, ⟨%f_arg9, %hf_arg9, H_arg9⟩, ⟨%f_arg10, %hf_arg10, H_arg10⟩, ⟨%f_arg11, %hf_arg11, H_arg11⟩, ⟨%d5, %f5, -, H5⟩, Hk⟩
    obtain rfl := harg2.eq_unread hf_arg2; obtain rfl := harg6.eq_unread hf_arg6; obtain rfl := harg8.eq_unread hf_arg8; obtain rfl := harg9.eq_unread hf_arg9; obtain rfl := harg10.eq_unread hf_arg10; obtain rfl := harg11.eq_unread hf_arg11
    sl_exec
    sl_step
    iapply Hk
    isplitl [H_arg2]
    · iexists _; isplitr; · ipureintro; exact harg2.read_unread _
      iexact H_arg2
    isplitl [H_arg6]
    · iexists _; isplitr; · ipureintro; exact harg6.read_unread _
      iexact H_arg6
    isplitl [H_arg8]
    · iexists _; isplitr; · ipureintro; exact harg8.read_unread _
      iexact H_arg8
    isplitl [H_arg9]
    · iexists _; isplitr; · ipureintro; exact harg9.read_unread _
      iexact H_arg9
    isplitl [H_arg10]
    · iexists _; isplitr; · ipureintro; exact harg10.read_unread _
      iexact H_arg10
    isplitl [H_arg11]
    · iexists _; isplitr; · ipureintro; exact harg11.read_unread _
      iexact H_arg11
    iexists _; iexact H5

end Cert.KernelIdeal.Body

end
-- ==== Proof.KernelIdeal.PrefA.lean ====
/-
  The body's preparation at the first grid point.
-/
module

public import proofs.«01_k».proof.Proof.KernelIdeal.Setup

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (c : Dev nD) (i : grid0.Coords)
  (arg1 : Memref sig .tc .vmem S192x14592 .bf16) (harg1 : arg1.IsWhole)
  (arg2 : Memref sig .tc .vmem S1460x512 .i32) (harg2 : arg2.IsWhole)
  (arg3 : Memref sig .tc .vmem S114x512 .bf16) (harg3 : arg3.IsWhole)
  (arg4 : Memref sig .tc .vmem S114x295 .i32) (harg4 : arg4.IsWhole)
  (arg5 : Memref sig .tc .vmem S192x512 .bf16) (harg5 : arg5.IsWhole)
  (arg6 : Memref sig .tc .vmem S57x192x256 .bf16) (harg6 : arg6.IsWhole)
  (arg7 : Memref sig .tc .vmem S120x3072 .i32) (harg7 : arg7.IsWhole)
  (arg8 : Memref sig .tc .vmem S120x512 .f32) (harg8 : arg8.IsWhole)
  (arg9 : Memref sig .tc .vmem S120x512 .i32) (harg9 : arg9.IsWhole)
  (arg10 : Memref sig .tc .vmem S120x512 .i32) (harg10 : arg10.IsWhole)
  (arg11 : Memref sig .tc .vmem S120x512 .i32) (harg11 : arg11.IsWhole)

set_option maxHeartbeats 4000000 in
/-- The body's preparation (`k0_part106`) at the first point — the `scf.if` taken: the input is permuted into `arg6`, the zeros unpacked into `arg7` — on whole memrefs at any contents: it ends with
    what it only reads as it was, and with the pieces it stores — the witnesses the run finds — written over what the
    other scratch buffers held. -/
noncomputable def prefA (hc : cond0_0 i)
    (x0 : Vec F S192x14592 .bf16) (x2 : Vec F S114x512 .bf16) (x3 : Vec F S114x295 .i32) (xp : Vec F S57x192x256 .bf16) (z : Vec F S120x3072 .i32) (s : Vec F S120x512 .f32) (za : Vec F S120x512 .i32) (zb : Vec F S120x512 .i32) (zt : Vec F S120x512 .i32) :
    Σ' (L_arg6 : List (View.Piece (Elt F) S57x192x256 .bf16)), Σ' (L_arg7 : List (View.Piece (Elt F) S120x3072 .i32)), Σ' (L_arg8 : List (View.Piece (Elt F) S120x512 .f32)), Σ' (L_arg9 : List (View.Piece (Elt F) S120x512 .i32)), Σ' (L_arg10 : List (View.Piece (Elt F) S120x512 .i32)), { L_arg11 : List (View.Piece (Elt F) S120x512 .i32) //
      ∀ (E : Set ℕ) (K : F .f32 → sProp 𝕄),
        iprop(owns (c : Thread nD τ) arg1 fullShare x0 ∗ owns (c : Thread nD τ) arg3 fullShare x2 ∗ owns (c : Thread nD τ) arg4 fullShare x3 ∗ owns (c : Thread nD τ) arg6 fullShare xp ∗ owns (c : Thread nD τ) arg7 fullShare z ∗ owns (c : Thread nD τ) arg8 fullShare s ∗ owns (c : Thread nD τ) arg9 fullShare za ∗ owns (c : Thread nD τ) arg10 fullShare zb ∗ owns (c : Thread nD τ) arg11 fullShare zt
            ∗ (iprop(owns (c : Thread nD τ) arg1 fullShare x0 ∗ owns (c : Thread nD τ) arg3 fullShare x2 ∗ owns (c : Thread nD τ) arg4 fullShare x3 ∗ (arg6.view.loc (c : Thread nD τ) ↦[arg6.view.set]{fullShare} arg6.view.writes (Elt F) (harg6.unread xp) L_arg6) ∗ (arg7.view.loc (c : Thread nD τ) ↦[arg7.view.set]{fullShare} arg7.view.writes (Elt F) (harg7.unread z) L_arg7) ∗ (arg8.view.loc (c : Thread nD τ) ↦[arg8.view.set]{fullShare} arg8.view.writes (Elt F) (harg8.unread s) L_arg8) ∗ (arg9.view.loc (c : Thread nD τ) ↦[arg9.view.set]{fullShare} arg9.view.writes (Elt F) (harg9.unread za) L_arg9) ∗ (arg10.view.loc (c : Thread nD τ) ↦[arg10.view.set]{fullShare} arg10.view.writes (Elt F) (harg10.unread zb) L_arg10) ∗ (arg11.view.loc (c : Thread nD τ) ↦[arg11.view.set]{fullShare} arg11.view.writes (Elt F) (harg11.unread zt) L_arg11)) -∗ K (Scalar.ofBits .f32 0x00000000#32)))
          ⊢ wp frame (wpE (defs₀ (F := F)) Variants.none c none) E (k0_part106 i arg1 harg1 arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [k0_part106_eq_skeleton]; unfold k0_part106_skel
    simp only [k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f_arg1, %hf_arg1, H_arg1⟩, ⟨%f_arg3, %hf_arg3, H_arg3⟩, ⟨%f_arg4, %hf_arg4, H_arg4⟩, ⟨%f_arg6, %hf_arg6, H_arg6⟩, ⟨%f_arg7, %hf_arg7, H_arg7⟩, ⟨%f_arg8, %hf_arg8, H_arg8⟩, ⟨%f_arg9, %hf_arg9, H_arg9⟩, ⟨%f_arg10, %hf_arg10, H_arg10⟩, ⟨%f_arg11, %hf_arg11, H_arg11⟩, Hk⟩
    obtain rfl := harg1.eq_unread hf_arg1; obtain rfl := harg3.eq_unread hf_arg3; obtain rfl := harg4.eq_unread hf_arg4; obtain rfl := harg6.eq_unread hf_arg6; obtain rfl := harg7.eq_unread hf_arg7; obtain rfl := harg8.eq_unread hf_arg8; obtain rfl := harg9.eq_unread hf_arg9; obtain rfl := harg10.eq_unread hf_arg10; obtain rfl := harg11.eq_unread hf_arg11
    sl_exec (disch := first | sl_exact hc)
    sl_step
    iapply Hk
    isplitl [H_arg1]
    · iexists _; isplitr; · ipureintro; exact harg1.read_unread _
      iexact H_arg1
    isplitl [H_arg3]
    · iexists _; isplitr; · ipureintro; exact harg3.read_unread _
      iexact H_arg3
    isplitl [H_arg4]
    · iexists _; isplitr; · ipureintro; exact harg4.read_unread _
      iexact H_arg4
    isplitl [H_arg6]; · iexact H_arg6
    isplitl [H_arg7]; · iexact H_arg7
    isplitl [H_arg8]; · iexact H_arg8
    isplitl [H_arg9]; · iexact H_arg9
    isplitl [H_arg10]; · iexact H_arg10
    iexact H_arg11

end Cert.KernelIdeal.Body

end
-- ==== Proof.KernelIdeal.PrefB.lean ====
/-
  The body's preparation at the grid points after the first.
-/
module

public import proofs.«01_k».proof.Proof.KernelIdeal.Setup

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (c : Dev nD) (i : grid0.Coords)
  (arg1 : Memref sig .tc .vmem S192x14592 .bf16) (harg1 : arg1.IsWhole)
  (arg2 : Memref sig .tc .vmem S1460x512 .i32) (harg2 : arg2.IsWhole)
  (arg3 : Memref sig .tc .vmem S114x512 .bf16) (harg3 : arg3.IsWhole)
  (arg4 : Memref sig .tc .vmem S114x295 .i32) (harg4 : arg4.IsWhole)
  (arg5 : Memref sig .tc .vmem S192x512 .bf16) (harg5 : arg5.IsWhole)
  (arg6 : Memref sig .tc .vmem S57x192x256 .bf16) (harg6 : arg6.IsWhole)
  (arg7 : Memref sig .tc .vmem S120x3072 .i32) (harg7 : arg7.IsWhole)
  (arg8 : Memref sig .tc .vmem S120x512 .f32) (harg8 : arg8.IsWhole)
  (arg9 : Memref sig .tc .vmem S120x512 .i32) (harg9 : arg9.IsWhole)
  (arg10 : Memref sig .tc .vmem S120x512 .i32) (harg10 : arg10.IsWhole)
  (arg11 : Memref sig .tc .vmem S120x512 .i32) (harg11 : arg11.IsWhole)

set_option maxHeartbeats 4000000 in
/-- The body's preparation (`k0_part106`) at a later point — the `scf.if` not taken — on whole memrefs at any contents: it ends with
    what it only reads as it was, and with the pieces it stores — the witnesses the run finds — written over what the
    other scratch buffers held. -/
noncomputable def prefB (hc : ¬cond0_0 i)
    (x2 : Vec F S114x512 .bf16) (z : Vec F S120x3072 .i32) (s : Vec F S120x512 .f32) (za : Vec F S120x512 .i32) (zb : Vec F S120x512 .i32) (zt : Vec F S120x512 .i32) :
    Σ' (L_arg8 : List (View.Piece (Elt F) S120x512 .f32)), Σ' (L_arg9 : List (View.Piece (Elt F) S120x512 .i32)), Σ' (L_arg10 : List (View.Piece (Elt F) S120x512 .i32)), { L_arg11 : List (View.Piece (Elt F) S120x512 .i32) //
      ∀ (E : Set ℕ) (K : F .f32 → sProp 𝕄),
        iprop(owns (c : Thread nD τ) arg3 fullShare x2 ∗ owns (c : Thread nD τ) arg7 fullShare z ∗ owns (c : Thread nD τ) arg8 fullShare s ∗ owns (c : Thread nD τ) arg9 fullShare za ∗ owns (c : Thread nD τ) arg10 fullShare zb ∗ owns (c : Thread nD τ) arg11 fullShare zt
            ∗ (iprop(owns (c : Thread nD τ) arg3 fullShare x2 ∗ owns (c : Thread nD τ) arg7 fullShare z ∗ (arg8.view.loc (c : Thread nD τ) ↦[arg8.view.set]{fullShare} arg8.view.writes (Elt F) (harg8.unread s) L_arg8) ∗ (arg9.view.loc (c : Thread nD τ) ↦[arg9.view.set]{fullShare} arg9.view.writes (Elt F) (harg9.unread za) L_arg9) ∗ (arg10.view.loc (c : Thread nD τ) ↦[arg10.view.set]{fullShare} arg10.view.writes (Elt F) (harg10.unread zb) L_arg10) ∗ (arg11.view.loc (c : Thread nD τ) ↦[arg11.view.set]{fullShare} arg11.view.writes (Elt F) (harg11.unread zt) L_arg11)) -∗ K (Scalar.ofBits .f32 0x00000000#32)))
          ⊢ wp frame (wpE (defs₀ (F := F)) Variants.none c none) E (k0_part106 i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [k0_part106_eq_skeleton]; unfold k0_part106_skel

    unfold owns
    iintro ⟨⟨%f_arg3, %hf_arg3, H_arg3⟩, ⟨%f_arg7, %hf_arg7, H_arg7⟩, ⟨%f_arg8, %hf_arg8, H_arg8⟩, ⟨%f_arg9, %hf_arg9, H_arg9⟩, ⟨%f_arg10, %hf_arg10, H_arg10⟩, ⟨%f_arg11, %hf_arg11, H_arg11⟩, Hk⟩
    obtain rfl := harg3.eq_unread hf_arg3; obtain rfl := harg7.eq_unread hf_arg7; obtain rfl := harg8.eq_unread hf_arg8; obtain rfl := harg9.eq_unread hf_arg9; obtain rfl := harg10.eq_unread hf_arg10; obtain rfl := harg11.eq_unread hf_arg11
    sl_exec (disch := first | sl_exact hc)
    sl_step
    delta prefB.sl.cst
    iapply Hk
    isplitl [H_arg3]
    · iexists _; isplitr; · ipureintro; exact harg3.read_unread _
      iexact H_arg3
    isplitl [H_arg7]
    · iexists _; isplitr; · ipureintro; exact harg7.read_unread _
      iexact H_arg7
    isplitl [H_arg8]; · iexact H_arg8
    isplitl [H_arg9]; · iexact H_arg9
    isplitl [H_arg10]; · iexact H_arg10
    iexact H_arg11

end Cert.KernelIdeal.Body

end
-- ==== Proof.KernelIdeal.BodyAny.lean ====
/-
  The body at any grid point and on any contents: it hands every memref back, the four inputs as they were.  All a frame
  claim asks of it.
-/
module

public import proofs.«01_k».proof.Proof.KernelIdeal.Rest
public import proofs.«01_k».proof.Proof.KernelIdeal.PrefA
public import proofs.«01_k».proof.Proof.KernelIdeal.PrefB

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (c : Dev nD) (i : grid0.Coords)
  (arg1 : Memref sig .tc .vmem S192x14592 .bf16) (harg1 : arg1.IsWhole)
  (arg2 : Memref sig .tc .vmem S1460x512 .i32) (harg2 : arg2.IsWhole)
  (arg3 : Memref sig .tc .vmem S114x512 .bf16) (harg3 : arg3.IsWhole)
  (arg4 : Memref sig .tc .vmem S114x295 .i32) (harg4 : arg4.IsWhole)
  (arg5 : Memref sig .tc .vmem S192x512 .bf16) (harg5 : arg5.IsWhole)
  (arg6 : Memref sig .tc .vmem S57x192x256 .bf16) (harg6 : arg6.IsWhole)
  (arg7 : Memref sig .tc .vmem S120x3072 .i32) (harg7 : arg7.IsWhole)
  (arg8 : Memref sig .tc .vmem S120x512 .f32) (harg8 : arg8.IsWhole)
  (arg9 : Memref sig .tc .vmem S120x512 .i32) (harg9 : arg9.IsWhole)
  (arg10 : Memref sig .tc .vmem S120x512 .i32) (harg10 : arg10.IsWhole)
  (arg11 : Memref sig .tc .vmem S120x512 .i32) (harg11 : arg11.IsWhole)

/-- The body on whole memrefs: the inputs' at `x0 … x3`, the output's and the scratch at anything. It ends with the
    inputs as they were and the others at something. -/
theorem body_any (x0 : Vec F S192x14592 .bf16) (x1 : Vec F S1460x512 .i32) (x2 : Vec F S114x512 .bf16) (x3 : Vec F S114x295 .i32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) Set.univ (cc0_gptq_w3_linear i arg1 harg1 arg2 harg2 arg3 harg3 arg4 harg4 arg5 harg5 arg6 harg6 arg7 harg7 arg8 harg8 arg9 harg9 arg10 harg10 arg11 harg11) K := by
  rw [body_eq, wp_bind_eq]
  iintro ⟨H1, H2, H3, H4, ⟨%d5, H5⟩, ⟨%d6, H6⟩, ⟨%d7, H7⟩, ⟨%d8, H8⟩, ⟨%d9, H9⟩, ⟨%d10, H10⟩, ⟨%d11, H11⟩, Hk⟩
  by_cases hc : cond0_0 i
  · iapply ((prefA c i arg1 harg1 arg2 harg2 arg3 harg3 arg4 harg4 arg5 harg5 arg6 harg6 arg7 harg7 arg8 harg8 arg9 harg9 arg10 harg10 arg11 harg11 hc x0 x2 x3 d6 d7 d8 d9 d10 d11).2.2.2.2.2.2 Set.univ _)
    isplitl [H1]; · iexact H1
    isplitl [H3]; · iexact H3
    isplitl [H4]; · iexact H4
    isplitl [H6]; · iexact H6
    isplitl [H7]; · iexact H7
    isplitl [H8]; · iexact H8
    isplitl [H9]; · iexact H9
    isplitl [H10]; · iexact H10
    isplitl [H11]; · iexact H11
    iintro ⟨H1, H3, H4, H6, H7, H8, H9, H10, H11⟩
    iapply ((restRun c i arg1 harg1 arg2 harg2 arg3 harg3 arg4 harg4 arg5 harg5 arg6 harg6 arg7 harg7 arg8 harg8 arg9 harg9 arg10 harg10 arg11 harg11 _ x1 _ _ _ _ _).2 Set.univ _)
    isplitl [H2]; · iexact H2
    isplitl [H6]
    · unfold owns; iexists _; isplitr
      swap; · iexact H6
      ipureintro; rfl
    isplitl [H8]
    · unfold owns; iexists _; isplitr
      swap; · iexact H8
      ipureintro; rfl
    isplitl [H9]
    · unfold owns; iexists _; isplitr
      swap; · iexact H9
      ipureintro; rfl
    isplitl [H10]
    · unfold owns; iexists _; isplitr
      swap; · iexact H10
      ipureintro; rfl
    isplitl [H11]
    · unfold owns; iexists _; isplitr
      swap; · iexact H11
      ipureintro; rfl
    isplitl [H5]; · iexists _; iexact H5
    iintro ⟨H2, H6, H8, H9, H10, H11, ⟨%f5, H5⟩⟩
    iapply Hk
    isplitl [H1]; · iexact H1
    isplitl [H2]; · iexact H2
    isplitl [H3]; · iexact H3
    isplitl [H4]; · iexact H4
    isplitl [H5]
    · iexists _; unfold owns; iexists _; isplitr
      swap; · iexact H5
      ipureintro; rfl
    isplitl [H6]
    · iexists _; iexact H6
    isplitl [H7]
    · iexists _; unfold owns; iexists _; isplitr
      swap; · iexact H7
      ipureintro; rfl
    isplitl [H8]
    · iexists _; iexact H8
    isplitl [H9]
    · iexists _; iexact H9
    isplitl [H10]
    · iexists _; iexact H10
    iexists _; iexact H11
  · iapply ((prefB c i arg1 harg1 arg2 harg2 arg3 harg3 arg4 harg4 arg5 harg5 arg6 harg6 arg7 harg7 arg8 harg8 arg9 harg9 arg10 harg10 arg11 harg11 hc x2 d7 d8 d9 d10 d11).2.2.2.2 Set.univ _)
    isplitl [H3]; · iexact H3
    isplitl [H7]; · iexact H7
    isplitl [H8]; · iexact H8
    isplitl [H9]; · iexact H9
    isplitl [H10]; · iexact H10
    isplitl [H11]; · iexact H11
    iintro ⟨H3, H7, H8, H9, H10, H11⟩
    iapply ((restRun c i arg1 harg1 arg2 harg2 arg3 harg3 arg4 harg4 arg5 harg5 arg6 harg6 arg7 harg7 arg8 harg8 arg9 harg9 arg10 harg10 arg11 harg11 _ x1 d6 _ _ _ _).2 Set.univ _)
    isplitl [H2]; · iexact H2
    isplitl [H6]; · iexact H6
    isplitl [H8]
    · unfold owns; iexists _; isplitr
      swap; · iexact H8
      ipureintro; rfl
    isplitl [H9]
    · unfold owns; iexists _; isplitr
      swap; · iexact H9
      ipureintro; rfl
    isplitl [H10]
    · unfold owns; iexists _; isplitr
      swap; · iexact H10
      ipureintro; rfl
    isplitl [H11]
    · unfold owns; iexists _; isplitr
      swap; · iexact H11
      ipureintro; rfl
    isplitl [H5]; · iexists _; iexact H5
    iintro ⟨H2, H6, H8, H9, H10, H11, ⟨%f5, H5⟩⟩
    iapply Hk
    isplitl [H1]; · iexact H1
    isplitl [H2]; · iexact H2
    isplitl [H3]; · iexact H3
    isplitl [H4]; · iexact H4
    isplitl [H5]
    · iexists _; unfold owns; iexists _; isplitr
      swap; · iexact H5
      ipureintro; rfl
    isplitl [H6]
    · iexists _; iexact H6
    isplitl [H7]
    · iexists _; iexact H7
    isplitl [H8]
    · iexists _; iexact H8
    isplitl [H9]
    · iexists _; iexact H9
    isplitl [H10]
    · iexists _; iexact H10
    iexists _; iexact H11

end Cert.KernelIdeal.Body

end
-- ==== Proof.KernelIdeal.FrameAny.lean ====
/-
  The frame claim, for any values of the floats: the body hands every staging buffer and every scratch buffer back at any
  grid point (BodyAny.lean), so the run ends, the argument arrays end as they began and every counter ends at zero.
  Windows 1, 2 and 4 (weights, scales, result) overhang their arrays at the last point; what the result holds is not
  stated here (window 4 is forgotten).
-/
module

public import proofs.«01_k».proof.Proof.KernelIdeal.BodyAny

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them; after the body each input's buffer holds its block; the result's
    is not named; the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0#32 : BitVec 32)) (iblk m c 1 t)
    | ⟨2, _⟩ => win0_2.fill (grid0.coords t) (fun _ => Scalar.ofBits .bf16 0#16) (iblk m c 2 t)
    | ⟨3, _⟩ => iblk m c 3 t
    | ⟨4, _⟩ => fun _ => Scalar.ofBits .bf16 0#16
  Φ _ := Pipeline.ΦA spec0 c
  q _ := fullShare
  owed _ := 0

/-- Window 4's contents are not named. -/
def fgt (w : Fin cfg0.W) : Bool := w.val == 4

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t
    = win0_1.fill (grid0.coords t) (fun _ => (0#32 : BitVec 32)) (iblk m c 1 t) := by dsimp only [dats]
theorem after_2 (c : Dev nD) (t : Fin cfg0.N) : (dats m 0 c).after 2 t
    = win0_2.fill (grid0.coords t) (fun _ => Scalar.ofBits .bf16 0#16) (iblk m c 2 t) := by dsimp only [dats]
theorem after_3 (c : Dev nD) (t : Fin cfg0.N) : (dats m 0 c).after 3 t = iblk m c 3 t := by dsimp only [dats]

/-- What the body finds in the inputs' buffers: their blocks, past an array's end anything. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) :
    (dats m 0 c).before 1 t d = win0_1.fill (grid0.coords t) d (iblk m c 1 t) := by
  unfold Dat.before; rw [if_pos (fetch0_1 t)]; rfl
theorem before_2 (c : Dev nD) (t : Fin cfg0.N) (d) :
    (dats m 0 c).before 2 t d = win0_2.fill (grid0.coords t) d (iblk m c 2 t) := by
  unfold Dat.before; rw [if_pos (fetch0_2 t)]; rfl
theorem before_3 (c : Dev nD) (t : Fin cfg0.N) (d) : (dats m 0 c).before 3 t d = iblk m c 3 t :=
  before0_3_of m (dats m 0 c) (A_eq m c 3) (after_3 m c) t d

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) :
    BodyObligationLoose (dats (F := F) m 0 c) (defs₀ (F := F)) Variants.none () Set.univ fgt := fun t => by
  rw [bigSep_W0, bigSep_W0, defs₀_row]
  simp only [show fgt 0 = false from rfl, show fgt 1 = false from rfl, show fgt 2 = false from rfl,
    show fgt 3 = false from rfl, show fgt 4 = true from rfl]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA0_eq]
  iintro ⟨⟨⟨HS0, HS1, HS2, HS3, HS4, HS5⟩, Hg⟩, Ho, ⟨%d0, H0⟩, ⟨%d1, H1⟩, ⟨%d2, H2⟩, ⟨%d3, H3⟩, H4⟩
  rw [before_0 m c t d0, before_1 m c t d1, before_2 m c t d2, before_3 m c t d3]
  iapply (body_any (F := F) c (grid0.coords t) _ _ _ _ _ _ _ _ _ _ _ _ _ _ _ _ _ _ _ _ _ _
    (iblk m c 0 t) (win0_1.fill (grid0.coords t) d1 (iblk m c 1 t)) (win0_2.fill (grid0.coords t) d2 (iblk m c 2 t)) (iblk m c 3 t) _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]
  · change _ ⊢ owns (c : Thread nD τ) (ms0_0 t) fullShare ((dats m 0 c).after 0 t)
    rw [after_0]
  isplitl [H1]
  · iexists d1
    change _ ⊢ owns (c : Thread nD τ) (ms0_1 t) fullShare (win0_1.fill (grid0.coords t) d1 (win0_1.cut (grid0.coords t) ((dats m 0 c).after 1 t)))
    rw [after_1, win0_1.cut_fill]
  isplitl [H2]
  · iexists d2
    change _ ⊢ owns (c : Thread nD τ) (ms0_2 t) fullShare (win0_2.fill (grid0.coords t) d2 (win0_2.cut (grid0.coords t) ((dats m 0 c).after 2 t)))
    rw [after_2, win0_2.cut_fill]
  isplitl [H3]
  · change _ ⊢ owns (c : Thread nD τ) (ms0_3 t) fullShare ((dats m 0 c).after 3 t)
    rw [after_3]
  iexact H4

-- the launch theorem's implicit arguments are found by unifying its conclusion with this one, which takes unfolding plain
-- definitions in a metavariable's type
set_option backward.isDefEq.respectTransparency.types false in
/-- The run: every input array ends as the region found it, and every counter ends at zero. -/
theorem run_main : θ_run defs (onTc (τ := τ) (main (F := F))) (s₀ m ρ)
    (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hΦ := fun _ _ => rfl)

/-- The frame claim: the argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨((h.1 c).2 main_arg0 (Pipeline.mem_restRefs_of main_arg0 (by decide) (by decide))).trans (V_main_arg0 m c),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c))⟩, h.2⟩) (run_main m ρ)

end Cert.KernelIdeal.Body

end
-- ==== Proof.KernelIdeal.Chunk.lean ====
/-
  One chunk of the dequantized weights: sixteen rows, cut from eight packed words, as the kernel's operations spell it.
  A slab is eight rows of packed words; a word holds ten three-bit fields, and chunk `i` of a slab reads fields `i` and `i + 5`
  of each of its words. Slab `q` of a superblock starts at row `80 q` of the superblock, whose groups are 128 rows.
-/
module

public import proofs.«01_k».proof.Proof.KernelIdeal.Setup

@[expose] public section

noncomputable section

namespace Cert.KernelIdeal.Body

open Cert.KernelIdeal Cert.KernelIdeal.Gen
open Idealize.ShloMosaic Idealize.ShloMosaic.TcCoe Idealize.ShloMosaic.Tactic

variable {F : FTy → Type} [FloatOps F]

/-- The words of a slab, moved so that fields `i` and `i + 5` lie where the mask of chunk `i` reads them, with the exponent
    bits of two bf16 numbers laid over. -/
def moved (i : ℕ) (w : IVec S8x512 32) : IVec S8x512 32 :=
  match i with
  | 0 => ori (shli w (broadcast S8x512 1#32)) (broadcast S8x512 1132479360#32)
  | 1 => ori (shli w (broadcast S8x512 1#32)) (broadcast S8x512 1132479360#32)
  | 2 => ori (shrui w (broadcast S8x512 5#32)) (broadcast S8x512 1132479360#32)
  | 3 => ori (shrui w (broadcast S8x512 5#32)) (broadcast S8x512 1132479360#32)
  | _ => ori (shrui w (broadcast S8x512 8#32)) (broadcast S8x512 1132479360#32)

/-- Whether chunk `i` keeps its fields at the low end of the mantissas (variant A) or three bits higher (variant B). -/
def isA (i : ℕ) : Bool :=
  match i with
  | 0 => true
  | 2 => true
  | _ => false

/-- The mask of a variant. -/
def maskOf (a : Bool) : BitVec 32 :=
  match a with
  | true => 1124549262#32
  | false => 1102594416#32

/-- A row of a table, repeated over eight rows. -/
def spreadI (v : Vec F S1x512 .i32) : IVec S8x512 32 :=
  broadcastTo S8x512 (shapeCast S1x512 v shapeCasts_S1x512_S1x512) broadcasts_S1x512_S8x512

/-- A row of the scale table, repeated over sixteen rows. -/
def spreadF (v : Vec F S1x512 .f32) : FVec F S16x512 .f32 :=
  broadcastTo S16x512 (shapeCast S1x512 v shapeCasts_S1x512_S1x512) broadcasts_S1x512_S16x512

/-- How many rows of slab `q` come before the next group starts. -/
def bound (q : ℕ) : ℕ := (80 * q / 128 + 1) * 128 - 80 * q

/-- The first word of the slab whose low field of chunk `i` is in the next group. -/
def sLo (q i : ℕ) : ℕ := (bound q + 9 - i) / 10

/-- The same for the high field. -/
def sHi (q i : ℕ) : ℕ := (bound q + 4 - i) / 10

/-- The packed zeros of the sixteen rows of a chunk: two halves in each word, of a group `a` and the next `b`. -/
def zmix (q i : ℕ) (a b : IVec S8x512 32) : IVec S8x512 32 :=
  match Nat.ble 80 (bound q), Nat.beq (sLo q i) (sHi q i) with
  | true, _ => a
  | false, true => select (cmpi .sge (iota .tc S8x512 32 [0] iota_S8x512_d0_w32) (broadcast S8x512 (BitVec.ofNat 32 (sLo q i)))) b a
  | false, false =>
    select (cmpi .sge (iota .tc S8x512 32 [0] iota_S8x512_d0_w32) (broadcast S8x512 (BitVec.ofNat 32 (sLo q i)))) b
      (select (cmpi .sge (iota .tc S8x512 32 [0] iota_S8x512_d0_w32) (broadcast S8x512 (BitVec.ofNat 32 (sHi q i))))
        (ori (andi a (broadcast S8x512 65535#32)) (andi b (broadcast S8x512 4294901760#32))) a)

/-- The scales of the sixteen rows of a chunk. -/
def smix (q i : ℕ) (a b : FVec F S16x512 .f32) : FVec F S16x512 .bf16 :=
  match Nat.ble 80 (bound q) with
  | true => truncf .bf16 a bitsLt_bf16_f32
  | false => truncf .bf16 (select (cmpi .sge (iota .tc S16x512 32 [0] iota_S16x512_d0_w32) (broadcast S16x512 (BitVec.ofNat 32 (sLo q i + sHi q i)))) b a) bitsLt_bf16_f32

/-- Eight words read as sixteen bf16 numbers. -/
def halves (v : IVec S8x512 32) : FVec F S16x512 .bf16 :=
  bitcastToFloat .bf16 (bitcast S16x512 16 v bitcasts_S8x512_w32_S16x512_w16)

/-- Chunk `i` of slab `q`: codes minus zeros, times scales. -/
def chunk (q i : ℕ) (w : IVec S8x512 32) (za zb : Vec F S1x512 .i32) (sa sb : Vec F S1x512 .f32) : FVec F S16x512 .bf16 :=
  mulf (subf (halves (andi (moved i w) (broadcast S8x512 (maskOf (isA i))))) (halves (zmix q i (spreadI za) (spreadI zb))))
    (smix q i (spreadF sa) (spreadF sb))

/-- Sixteen chunks laid end to end. -/
def sixteen (f : Fin 16 → FVec F S16x512 .bf16) : FVec F S256x512 .bf16 :=
  concatenate S256x512 0 [⟨S16x512, f 0⟩, ⟨S16x512, f 1⟩, ⟨S16x512, f 2⟩, ⟨S16x512, f 3⟩, ⟨S16x512, f 4⟩, ⟨S16x512, f 5⟩,
    ⟨S16x512, f 6⟩, ⟨S16x512, f 7⟩, ⟨S16x512, f 8⟩, ⟨S16x512, f 9⟩, ⟨S16x512, f 10⟩, ⟨S16x512, f 11⟩, ⟨S16x512, f 12⟩,
    ⟨S16x512, f 13⟩, ⟨S16x512, f 14⟩, ⟨S16x512, f 15⟩]
    concatenates_S16x512_S16x512_S16x512_S16x512_S16x512_S16x512_S16x512_S16x512_S16x512_S16x512_S16x512_S16x512_S16x512_S16x512_S16x512_S16x512_S256x512_d0

/-- One matmul: a tile of the permuted input times sixteen chunks, added to the accumulator. -/
def tile (acc : FVec F S192x512 .f32) (x : Vec F S1x192x256 .bf16) (f : Fin 16 → FVec F S16x512 .bf16) : FVec F S192x512 .f32 :=
  addf acc (matmul dot_S192x256_S256x512_S192x512_1_0_0_1_n_n none (shapeCast S192x256 x shapeCasts_S1x192x256_S192x256) (sixteen f)
    (constant S192x512 .f32 0x00000000#32))

end Cert.KernelIdeal.Body

end
-- ==== Proof.KernelIdeal.Codes.lean ====
/-
  Three-bit codes laid into the mantissa of a bf16 number, over the reals: the number they spell is a power of two plus the code.
-/
module

public import proofs.«01_k».proof.Proof.KernelIdeal.Chunk
public import Idealize.ShloMosaic.Lib.Pointwise
public import Idealize.ShloMosaic.Lib.BitcastPair
public import Idealize.ShloMosaic.PureOps.Ideal.Laws

@[expose] public section

noncomputable section

namespace Cert.KernelIdeal.Body

open Cert.KernelIdeal Cert.KernelIdeal.Gen
open Idealize.ShloMosaic Idealize.ShloMosaic.TcCoe Idealize.ShloMosaic.Tactic

/-- The sixteen bits of half `h` of a word: the low half is half 0. -/
def half (w : BitVec 32) (h : ℕ) : BitVec 16 := w.extractLsb' (16 * h) 16

/-- Sixteen bits as the bf16 number they spell. -/
def bf (b : BitVec 16) : EReal := Ideal.ofBits .bf16 b

/-- Field `j` of a packed word. -/
def field (w : BitVec 32) (j : ℕ) : BitVec 3 := w.extractLsb' (3 * j) 3

/-- A code under an exponent: variant A or B, half 0 or 1. -/
def coded (a : Bool) (h : ℕ) (u : BitVec 3) : BitVec 16 :=
  match a, h with
  | true, 0 => 0x4280#16 ||| (u.setWidth 16 <<< 1)
  | true, _ => 0x4300#16 ||| u.setWidth 16
  | false, 0 => 0x4100#16 ||| (u.setWidth 16 <<< 4)
  | false, _ => 0x4180#16 ||| (u.setWidth 16 <<< 3)

/-- What the exponent alone spells. -/
def bias (a : Bool) (h : ℕ) : ℕ :=
  match a, h with
  | true, 0 => 64
  | true, _ => 128
  | false, 0 => 8
  | false, _ => 16

theorem bit3_cases (u : BitVec 3) : u = 0#3 ∨ u = 1#3 ∨ u = 2#3 ∨ u = 3#3 ∨ u = 4#3 ∨ u = 5#3 ∨ u = 6#3 ∨ u = 7#3 := by
  revert u; decide

/-- A code under an exponent is the exponent's number plus the code. -/
theorem bf_coded (a : Bool) (h : ℕ) (hh : h < 2) (u : BitVec 3) : bf (coded a h u) = (((bias a h + u.toNat : ℕ) : ℝ) : EReal) := by
  rcases bit3_cases u with rfl | rfl | rfl | rfl | rfl | rfl | rfl | rfl <;> interval_cases h <;> cases a <;>
    simp [bf, coded, bias, Ideal.ofBits, Ideal.ieee] <;> norm_num <;> (rw [← EReal.coe_mul]; norm_num)

/-- A word moved for chunk `i`, one word. -/
def movedW (i : ℕ) (w : BitVec 32) : BitVec 32 :=
  match i with
  | 0 => (w <<< 1) ||| 1132479360#32
  | 1 => (w <<< 1) ||| 1132479360#32
  | 2 => (w >>> 5) ||| 1132479360#32
  | 3 => (w >>> 5) ||| 1132479360#32
  | _ => (w >>> 8) ||| 1132479360#32

/-- The mask of chunk `i` leaves, in half `h` of the moved word, field `i + 5 h`. -/
theorem half_moved (i : ℕ) (hi : i < 5) (h : ℕ) (hh : h < 2) (w : BitVec 32) :
    half (movedW i w &&& maskOf (isA i)) h = coded (isA i) h (field w (i + 5 * h)) := by
  apply BitVec.eq_of_getLsbD_eq
  intro j hj
  interval_cases i <;> interval_cases h <;> interval_cases j <;>
    simp [half, movedW, maskOf, isA, coded, field]

/-- The packed zero of a variant: what multiplication and addition of the kernel make of a zero. -/
def packed (a : Bool) (z : BitVec 32) : BitVec 32 :=
  match a with
  | true => z * 65538#32 + 1124090496#32
  | false => z * 524304#32 + 1098924288#32

theorem half_packed (a : Bool) (h : ℕ) (hh : h < 2) (u : BitVec 3) : half (packed a (u.setWidth 32)) h = coded a h u := by
  rcases bit3_cases u with rfl | rfl | rfl | rfl | rfl | rfl | rfl | rfl <;> interval_cases h <;> cases a <;> decide

/-- The low half of one word joined to the high half of another. -/
theorem half_join (a b : BitVec 32) (h : ℕ) (hh : h < 2) :
    half ((a &&& 65535#32) ||| (b &&& 4294901760#32)) h = if h = 0 then half a 0 else half b 1 := by
  apply BitVec.eq_of_getLsbD_eq
  intro j hj
  interval_cases h <;> interval_cases j <;> simp [half]

/-- Half words of a vector of words, as the numbers they spell. -/
theorem halves_apply (v : IVec S8x512 32) (p : Fin 16) (n : Fin 512) :
    halves (F := Ideal) v (ix2 p n) = bf (half (v (ix2 ⟨p.val / 2, by omega⟩ n)) (p.val % 2)) := by
  unfold halves
  simp only [pointwise]
  rw [bitcast_32_16]
  have e : (bitcasts_S8x512_w32_S16x512_w16.srcIdx (ix2 p n) (S16x512.row (ix2 p n) / 2) (fun a ha => by
      have := bitcasts_S8x512_w32_S16x512_w16.pos_lt (ix2 p n) 0 (by decide) a ha; omega)) = ix2 ⟨p.val / 2, by omega⟩ n := by
    funext a; fin_cases a <;> rfl
  unfold bf half
  rw [e]
  rfl

end Cert.KernelIdeal.Body

end
-- ==== Proof.KernelIdeal.ChunkValue.lean ====
/-
  What one chunk and one tile of the kernel compute over the reals, at an index.
-/
module

public import proofs.«01_k».proof.Proof.KernelIdeal.Codes
public import Idealize.ShloMosaic.Lib.Pipeline.Value

@[expose] public section

noncomputable section

namespace Cert.KernelIdeal.Body

open Cert.KernelIdeal Cert.KernelIdeal.Gen
open Idealize.ShloMosaic Idealize.ShloMosaic.TcCoe Idealize.ShloMosaic.Tactic

/-- One dequantized weight: code minus zero, times scale. -/
def dq (c z : BitVec 3) (s : EReal) : EReal := (((c.toNat : ℝ) - (z.toNat : ℝ) : ℝ) : EReal) * s

/-- The signed comparison of two small numbers. -/
theorem sge_small : ∀ s : Fin 16, ∀ t : Fin 32, IntOp.cmpi CmpIPredicate.sge (BitVec.ofNat 32 s.val) (BitVec.ofNat 32 t.val) = if t.val ≤ s.val then 1#1 else 0#1 := by
  decide

theorem select_sge {e : EltTy} (x y : Elt Ideal e) (s t : ℕ) (hs : s < 16) (ht : t < 32) :
    Scalar.select (IntOp.cmpi CmpIPredicate.sge (BitVec.ofNat 32 s) (BitVec.ofNat 32 t)) x y = if t ≤ s then x else y := by
  rw [sge_small ⟨s, hs⟩ ⟨t, ht⟩]
  by_cases h : t ≤ s
  · simp only [h, if_true]; rfl
  · simp only [h, if_false]; rfl

theorem bound_lo (q : Fin 16) (h : Nat.ble 80 (bound q.val) = false) : bound q.val < 80 := by
  by_contra hc
  rw [Nat.ble_eq_true_of_le (by omega)] at h
  cases h

theorem bound_pos (q : Fin 16) : 16 ≤ bound q.val := by revert q; decide

/-- Which of the two zeros a half of a word carries. -/
theorem half_zmix (q : Fin 16) (i : Fin 5) (a b : IVec S8x512 32) (p : Fin 16) (n : Fin 512) :
    half (zmix q.val i.val a b (ix2 ⟨p.val / 2, by omega⟩ n)) (p.val % 2)
      = if bound q.val ≤ 5 * p.val + i.val then half (b (ix2 ⟨p.val / 2, by omega⟩ n)) (p.val % 2) else half (a (ix2 ⟨p.val / 2, by omega⟩ n)) (p.val % 2) := by
  have hp := bound_pos q
  unfold zmix
  cases h : Nat.ble 80 (bound q.val)
  · have hb := bound_lo q h
    cases h' : Nat.beq (sLo q.val i.val) (sHi q.val i.val)
    · simp only [pointwise]
      rw [show (List.foldl (fun n_1 a => n_1 * ![8, 512] a + ((ix2 (⟨p.val / 2, by omega⟩ : Fin 8) n : S8x512.Idx) a).val) 0 [0]) = p.val / 2 from by simp]
      rw [select_sge (e := .i32) _ _ _ _ (by omega) (by unfold sLo; omega), select_sge (e := .i32) _ _ _ _ (by omega) (by unfold sHi; omega)]
      unfold sLo sHi
      split
      · rw [if_pos (by omega)]
      · split
        · show half ((_ &&& 65535#32) ||| (_ &&& 4294901760#32)) _ = _
          rw [half_join _ _ _ (by omega)]
          rcases Nat.mod_two_eq_zero_or_one p.val with e | e <;> rw [e]
          · rw [if_pos rfl, if_neg (by omega)]
          · rw [if_neg (by decide), if_pos (by omega)]
        · rw [if_neg (by omega)]
    · have he : sLo q.val i.val = sHi q.val i.val := Nat.eq_of_beq_eq_true h'
      simp only [pointwise]
      rw [show (List.foldl (fun n_1 a => n_1 * ![8, 512] a + ((ix2 (⟨p.val / 2, by omega⟩ : Fin 8) n : S8x512.Idx) a).val) 0 [0]) = p.val / 2 from by simp]
      rw [select_sge (e := .i32) _ _ _ _ (by omega) (by unfold sLo; omega)]
      unfold sLo sHi at he
      unfold sLo
      split
      · rw [if_pos (by omega)]
      · rw [if_neg (by omega)]
  · have hb : 80 ≤ bound q.val := Nat.le_of_ble_eq_true h
    rw [if_neg (by omega)]

/-- Which of the two scales a row carries. -/
theorem smix_apply (q : Fin 16) (i : Fin 5) (a b : FVec Ideal S16x512 .f32) (p : Fin 16) (n : Fin 512) :
    smix q.val i.val a b (ix2 p n) = if bound q.val ≤ 5 * p.val + i.val then b (ix2 p n) else a (ix2 p n) := by
  have hp := bound_pos q
  unfold smix
  cases h : Nat.ble 80 (bound q.val)
  · have hb := bound_lo q h
    simp only [pointwise]
    rw [show (List.foldl (fun n_1 a => n_1 * ![16, 512] a + ((ix2 p n : S16x512.Idx) a).val) 0 [0]) = p.val from by simp]
    refine (select_sge (e := .f32) _ _ _ _ (by omega) (by unfold sLo sHi; omega)).trans ?_
    unfold sLo sHi
    split
    · rw [if_pos (by omega)]
    · rw [if_neg (by omega)]
  · have hb : 80 ≤ bound q.val := Nat.le_of_ble_eq_true h
    simp only [pointwise]
    rw [if_neg (by omega)]

theorem moved_apply (i : Fin 5) (a : IVec S8x512 32) (s : Fin 8) (n : Fin 512) :
    (andi (moved i.val a) (broadcast S8x512 (maskOf (isA i.val)))) (ix2 s n) = movedW i.val (a (ix2 s n)) &&& maskOf (isA i.val) := by
  fin_cases i <;> rfl

theorem spreadI_apply (v : Vec Ideal S1x512 .i32) (s : Fin 8) (n : Fin 512) : spreadI (F := Ideal) v (ix2 s n) = v (ix2 0 n) := by
  unfold spreadI
  simp only [pointwise]
  rfl

theorem spreadF_apply (v : Vec Ideal S1x512 .f32) (s : Fin 16) (n : Fin 512) : spreadF (F := Ideal) v (ix2 s n) = v (ix2 0 n) := by
  unfold spreadF
  simp only [pointwise]
  rfl

/-- Two numbers with the same exponent: the exponents cancel. -/
theorem bf_sub (a : Bool) (h : ℕ) (hh : h < 2) (c z : BitVec 3) (s : EReal) :
    (bf (coded a h c) - bf (coded a h z)) * s = dq c z s := by
  rw [bf_coded a h hh, bf_coded a h hh, ← EReal.coe_sub]
  unfold dq
  rw [show ((bias a h + c.toNat : ℕ) : ℝ) - ((bias a h + z.toNat : ℕ) : ℝ) = (c.toNat : ℝ) - (z.toNat : ℝ) from by push_cast; ring]

/-- A chunk at an index. -/
theorem chunk_apply (q : Fin 16) (i : Fin 5) (w : IVec S8x512 32) (za zb : Vec Ideal S1x512 .i32) (sa sb : Vec Ideal S1x512 .f32)
    (p : Fin 16) (n : Fin 512) (a b : BitVec 3) (ha : za (ix2 0 n) = packed (isA i.val) (a.setWidth 32))
    (hb : bound q.val < 80 → zb (ix2 0 n) = packed (isA i.val) (b.setWidth 32)) :
    chunk q.val i.val w za zb sa sb (ix2 p n)
      = if bound q.val ≤ 5 * p.val + i.val then dq (field (w (ix2 ⟨p.val / 2, by omega⟩ n)) (i.val + 5 * (p.val % 2))) b (sb (ix2 0 n))
        else dq (field (w (ix2 ⟨p.val / 2, by omega⟩ n)) (i.val + 5 * (p.val % 2))) a (sa (ix2 0 n)) := by
  unfold chunk
  show (halves _ (ix2 p n) - halves _ (ix2 p n)) * smix _ _ _ _ (ix2 p n) = _
  rw [halves_apply, halves_apply, half_zmix, smix_apply, moved_apply, half_moved _ i.isLt _ (by omega), spreadI_apply, spreadI_apply, spreadF_apply, spreadF_apply]
  split
  · rw [hb (by omega), half_packed _ _ (by omega), bf_sub _ _ (by omega)]
  · rw [ha, half_packed _ _ (by omega), bf_sub _ _ (by omega)]

/-- Row `l` of sixteen chunks is row `l % 16` of chunk `l / 16`. -/
theorem sixteen_apply (f : Fin 16 → FVec Ideal S16x512 .bf16) (l : Fin 256) (n : Fin 512) :
    sixteen f (ix2 l n) = f ⟨l.val / 16, by omega⟩ (ix2 ⟨l.val % 16, by omega⟩ n) := by
  unfold sixteen
  refine concatenate_ofFn_apply (t := S256x512) (s₁ := S16x512) 0 f
    concatenates_S16x512_S16x512_S16x512_S16x512_S16x512_S16x512_S16x512_S16x512_S16x512_S16x512_S16x512_S16x512_S16x512_S16x512_S16x512_S16x512_S256x512_d0
    rfl 16 rfl (ix2 l n) ⟨l.val / 16, by omega⟩ rfl (ix2 ⟨l.val % 16, by omega⟩ n) ?_ ?_
  · rfl
  · intro a ha; fin_cases a
    · exact absurd rfl ha
    · rfl

/-- A tile added to the accumulator, at an index. -/
theorem tile_apply (acc : FVec Ideal S192x512 .f32) (x : Vec Ideal S1x192x256 .bf16) (f : Fin 16 → FVec Ideal S16x512 .bf16) (b : Fin 192) (n : Fin 512) :
    tile acc x f (ix2 b n) = acc (ix2 b n) + ∑ l : Fin 256, x (ix3 0 b l) * f ⟨l.val / 16, by omega⟩ (ix2 ⟨l.val % 16, by omega⟩ n) := by
  unfold tile
  simp only [pointwise]
  rw [zero_add]
  simp only [sixteen_apply]

end Cert.KernelIdeal.Body

end
-- ==== Proof.KernelIdeal.TripEq.lean ====
/-
  One trip of the matmul loop, as five tiles of sixteen chunks each.
-/
module

public import proofs.«01_k».proof.Proof.KernelIdeal.Chunk

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable {F : FTy → Type} [FloatOps F]

theorem off7_inb : ∀ k : Fin k0_t2_loop.trips, ∀ (r : Fin 10), ∀ a, (k0_off7 k (BitVec.ofNat 32 r.val)) a + S1x512.size a ≤ S120x512.size a := by
  decide +kernel

variable (arg2 : Memref sig .tc .vmem S1460x512 .i32) (arg6 : Memref sig .tc .vmem S57x192x256 .bf16)
  (arg8 : Memref sig .tc .vmem S120x512 .f32) (arg9 : Memref sig .tc .vmem S120x512 .i32) (arg10 : Memref sig .tc .vmem S120x512 .i32)
  (X2 : BufTy.Contents (Elt F) arg2.view.ty) (X6 : BufTy.Contents (Elt F) arg6.view.ty) (X8 : BufTy.Contents (Elt F) arg8.view.ty)
  (X9 : BufTy.Contents (Elt F) arg9.view.ty) (X10 : BufTy.Contents (Elt F) arg10.view.ty)

/-- The row `r` of groups of superblock `k` in a table. -/
def rowAt {e : EltTy} (m : Memref sig .tc .vmem S120x512 e) (X : BufTy.Contents (Elt F) m.view.ty) (k : Fin k0_t2_loop.trips) (r : Fin 10) :
    Vec F S1x512 e :=
  View.readAt (Elt F) m.view (Rect.unit (s := S120x512) (k0_off6 k (BitVec.ofNat 32 r.val)) S1x512.size (k0_off6_inb k r)).toLoadRect X

/-- The row after it. -/
def rowAfter {e : EltTy} (m : Memref sig .tc .vmem S120x512 e) (X : BufTy.Contents (Elt F) m.view.ty) (k : Fin k0_t2_loop.trips) (r : Fin 10) :
    Vec F S1x512 e :=
  View.readAt (Elt F) m.view (Rect.unit (s := S120x512) (k0_off7 k (BitVec.ofNat 32 r.val)) S1x512.size (off7_inb k r)).toLoadRect X

/-- Chunk `i` of slab `q` of superblock `k`. -/
def chunkAt (k : Fin k0_t2_loop.trips) (q : Fin 16) (i : ℕ) : FVec F S16x512 .bf16 :=
  chunk q.val i (View.readAt (Elt F) arg2.view (Rect.unit (s := S1460x512) (k0_off5 k (BitVec.ofNat 32 q.val)) S8x512.size (k0_off5_inb k q)).toLoadRect X2)
    (match isA i with | true => rowAt arg9 X9 k ⟨80 * q.val / 128, by omega⟩ | false => rowAt arg10 X10 k ⟨80 * q.val / 128, by omega⟩)
    (match isA i with | true => rowAfter arg9 X9 k ⟨80 * q.val / 128, by omega⟩ | false => rowAfter arg10 X10 k ⟨80 * q.val / 128, by omega⟩)
    (rowAt arg8 X8 k ⟨80 * q.val / 128, by omega⟩) (rowAfter arg8 X8 k ⟨80 * q.val / 128, by omega⟩)

/-- Tile `t` of superblock `k` added to an accumulator. -/
def tileAt (k : Fin k0_t2_loop.trips) (t : Fin 5) (acc : FVec F S192x512 .f32) : FVec F S192x512 .f32 :=
  tile acc (View.readAt (Elt F) arg6.view (Rect.unit (s := S57x192x256) (k0_off8 k (BitVec.ofNat 32 t.val)) S1x192x256.size (k0_off8_inb k t)).toLoadRect X6)
    fun a => chunkAt arg2 arg8 arg9 arg10 X2 X8 X9 X10 k ⟨(16 * t.val + a.val) / 5, by omega⟩ ((16 * t.val + a.val) % 5)

set_option maxHeartbeats 4000000 in
theorem trip_eq (𝒱 : Variants) (c : Dev nD) (bd : Option 𝒱.V) (i : grid0.Coords) (arg1 : Memref sig .tc .vmem S192x14592 .bf16) (harg1 : arg1.IsWhole)
    (harg2 : arg2.IsWhole) (arg3 : Memref sig .tc .vmem S114x512 .bf16) (harg3 : arg3.IsWhole) (arg4 : Memref sig .tc .vmem S114x295 .i32) (harg4 : arg4.IsWhole)
    (arg5 : Memref sig .tc .vmem S192x512 .bf16) (harg5 : arg5.IsWhole) (harg6 : arg6.IsWhole) (arg7 : Memref sig .tc .vmem S120x3072 .i32) (harg7 : arg7.IsWhole)
    (harg8 : arg8.IsWhole) (harg9 : arg9.IsWhole) (harg10 : arg10.IsWhole) (arg11 : Memref sig .tc .vmem S120x512 .i32) (harg11 : arg11.IsWhole) (cst : F .f32)
    (k : Fin k0_t2_loop.trips) (acc : FVec F S192x512 .f32) :
    tripR_k0_t2 (F := F) 𝒱 c bd i arg1 harg1 arg2 harg2 arg3 harg3 arg4 harg4 arg5 harg5 arg6 harg6 arg7 harg7 arg8 harg8 arg9 harg9 arg10 harg10 arg11 harg11 cst X2 X6 X8 X9 X10 k acc
      = tileAt arg2 arg6 arg8 arg9 arg10 X2 X6 X8 X9 X10 k 4 (tileAt arg2 arg6 arg8 arg9 arg10 X2 X6 X8 X9 X10 k 3
          (tileAt arg2 arg6 arg8 arg9 arg10 X2 X6 X8 X9 X10 k 2 (tileAt arg2 arg6 arg8 arg9 arg10 X2 X6 X8 X9 X10 k 1
            (tileAt arg2 arg6 arg8 arg9 arg10 X2 X6 X8 X9 X10 k 0 acc)))) := by
  unfold tripR_k0_t2 trip_k0_t2
  rfl

end Cert.KernelIdeal.Body

end
-- ==== Proof.KernelIdeal.RestEq.lean ====
/-
  What the body stores: the accumulator the matmul loop leaves, two more tiles, rounded.
-/
module

public import proofs.«01_k».proof.Proof.KernelIdeal.TripEq
public import proofs.«01_k».proof.Proof.KernelIdeal.Rest

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable {F : FTy → Type} [FloatOps F]

/-- The numbers of the eight word-rows of a half of the tail. -/
def tailP (b : BitVec 32) : IVec S8x512 32 := addi (broadcast S8x512 b) (iota .tc S8x512 32 [0] iota_S8x512_d0_w32)

/-- The packed word a row of the tail is in: its number divided by five, rounded down. -/
def tailWord (b : BitVec 32) : IVec S8x512 32 :=
  select (andi
      (cmpi .ne (subi (extui 32 (cmpi .sgt (tailP b) (broadcast S8x512 0#32)) natLt_1_32) (extui 32 (cmpi .slt (tailP b) (broadcast S8x512 0#32)) natLt_1_32))
        (broadcast S8x512 (Scalar.subi (Scalar.extui (Scalar.cmpi .sgt 5#32 0#32)) (Scalar.extui (Scalar.cmpi .slt 5#32 0#32)))))
      (cmpi .ne (remsi (tailP b) (broadcast S8x512 5#32)) (broadcast S8x512 0#32)))
    (subi (divsi (tailP b) (broadcast S8x512 5#32)) (broadcast S8x512 1#32)) (divsi (tailP b) (broadcast S8x512 5#32))

/-- The two fields of a row of the tail, at the low end. -/
def tailField (b : BitVec 32) (w0 w1 w2 w3 : Vec F S1x512 .i32) : IVec S8x512 32 :=
  shrui (select (cmpi .eq (tailWord b) (broadcast S8x512 0#32)) (spreadI w0)
      (select (cmpi .eq (tailWord b) (broadcast S8x512 1#32)) (spreadI w1)
        (select (cmpi .eq (tailWord b) (broadcast S8x512 2#32)) (spreadI w2) (spreadI w3))))
    (muli (subi (tailP b) (muli (tailWord b) (broadcast S8x512 5#32))) (broadcast S8x512 6#32))

/-- A chunk of the tail. -/
def tailChunk (b : BitVec 32) (w0 w1 w2 w3 z : Vec F S1x512 .i32) (s : Vec F S1x512 .f32) : FVec F S16x512 .bf16 :=
  mulf (subf (halves (ori (ori (andi (tailField b w0 w1 w2 w3) (broadcast S8x512 7#32)) (shli (andi (tailField b w0 w1 w2 w3) (broadcast S8x512 56#32)) (broadcast S8x512 13#32)))
      (broadcast S8x512 1124090624#32))) (halves (spreadI z))) (truncf .bf16 (spreadF s) bitsLt_bf16_f32)

variable (arg2 : Memref sig .tc .vmem S1460x512 .i32) (arg6 : Memref sig .tc .vmem S57x192x256 .bf16)
  (arg8 : Memref sig .tc .vmem S120x512 .f32) (arg9 : Memref sig .tc .vmem S120x512 .i32) (arg10 : Memref sig .tc .vmem S120x512 .i32)
  (arg11 : Memref sig .tc .vmem S120x512 .i32)
  (X2 : BufTy.Contents (Elt F) arg2.view.ty) (X6 : BufTy.Contents (Elt F) arg6.view.ty) (X8 : BufTy.Contents (Elt F) arg8.view.ty)
  (X9 : BufTy.Contents (Elt F) arg9.view.ty) (X10 : BufTy.Contents (Elt F) arg10.view.ty) (X11 : BufTy.Contents (Elt F) arg11.view.ty)

theorem lit_inb (g : ℕ) (h : g < 120) : ∀ a, (![g, 0] : Fin 2 → ℕ) a + S1x512.size a ≤ S120x512.size a := by
  intro a; fin_cases a
  · show g + 1 ≤ 120; omega
  · show 0 + 512 ≤ 512; omega

theorem litW_inb (r : ℕ) (h : r < 1460) : ∀ a, (![r, 0] : Fin 2 → ℕ) a + S1x512.size a ≤ S1460x512.size a := by
  intro a; fin_cases a
  · show r + 1 ≤ 1460; omega
  · show 0 + 512 ≤ 512; omega

theorem litS_inb (r : ℕ) (h : r + 8 ≤ 1460) : ∀ a, (![r, 0] : Fin 2 → ℕ) a + S8x512.size a ≤ S1460x512.size a := by
  intro a; fin_cases a
  · show r + 8 ≤ 1460; omega
  · show 0 + 512 ≤ 512; omega

theorem litX_inb (r : ℕ) (h : r < 57) : ∀ a, (![r, 0, 0] : Fin 3 → ℕ) a + S1x192x256.size a ≤ S57x192x256.size a := by
  intro a; fin_cases a
  · show r + 1 ≤ 57; omega
  · show 0 + 192 ≤ 192; omega
  · show 0 + 256 ≤ 256; omega

/-- Row `g` of a table. -/
def rowLit {e : EltTy} (m : Memref sig .tc .vmem S120x512 e) (X : BufTy.Contents (Elt F) m.view.ty) (g : ℕ) (h : g < 120) : Vec F S1x512 e :=
  View.readAt (Elt F) m.view (Rect.unit (s := S120x512) ![g, 0] S1x512.size (lit_inb g h)).toLoadRect X

/-- Row `r` of the packed words. -/
def wordLit (r : ℕ) (h : r < 1460) : Vec F S1x512 .i32 :=
  View.readAt (Elt F) arg2.view (Rect.unit (s := S1460x512) ![r, 0] S1x512.size (litW_inb r h)).toLoadRect X2

/-- The chunks after the loop: those of six slabs, then two of the tail. -/
def chunkLast (m : Fin 32) : FVec F S16x512 .bf16 :=
  if h : m.val < 30 then
    chunk (m.val / 5) (m.val % 5)
      (View.readAt (Elt F) arg2.view (Rect.unit (s := S1460x512) ![1408 + 8 * (m.val / 5), 0] S8x512.size (litS_inb _ (by omega))).toLoadRect X2)
      (match isA (m.val % 5) with | true => rowLit arg9 X9 (110 + 80 * (m.val / 5) / 128) (by omega) | false => rowLit arg10 X10 (110 + 80 * (m.val / 5) / 128) (by omega))
      (match isA (m.val % 5) with | true => rowLit arg9 X9 (110 + 80 * (m.val / 5) / 128 + 1) (by omega) | false => rowLit arg10 X10 (110 + 80 * (m.val / 5) / 128 + 1) (by omega))
      (rowLit arg8 X8 (110 + 80 * (m.val / 5) / 128) (by omega)) (rowLit arg8 X8 (110 + 80 * (m.val / 5) / 128 + 1) (by omega))
  else tailChunk (BitVec.ofNat 32 (8 * (m.val - 30))) (wordLit arg2 X2 1456 (by decide)) (wordLit arg2 X2 1457 (by decide)) (wordLit arg2 X2 1458 (by decide)) (wordLit arg2 X2 1459 (by decide))
    (rowLit arg11 X11 113 (by decide)) (rowLit arg8 X8 113 (by decide))

/-- The two tiles after the loop. -/
def tileLast (t : Fin 2) (acc : FVec F S192x512 .f32) : FVec F S192x512 .f32 :=
  tile acc (View.readAt (Elt F) arg6.view (Rect.unit (s := S57x192x256) ![55 + t.val, 0, 0] S1x192x256.size (litX_inb _ (by omega))).toLoadRect X6)
    fun a => chunkLast arg2 arg8 arg9 arg10 arg11 X2 X8 X9 X10 X11 ⟨16 * t.val + a.val, by omega⟩

set_option maxHeartbeats 4000000 in
theorem rest_eq (c : Dev nD) (i : grid0.Coords) (arg1 : Memref sig .tc .vmem S192x14592 .bf16) (harg1 : arg1.IsWhole)
    (harg2 : arg2.IsWhole) (arg3 : Memref sig .tc .vmem S114x512 .bf16) (harg3 : arg3.IsWhole) (arg4 : Memref sig .tc .vmem S114x295 .i32) (harg4 : arg4.IsWhole)
    (arg5 : Memref sig .tc .vmem S192x512 .bf16) (harg5 : arg5.IsWhole) (harg6 : arg6.IsWhole) (arg7 : Memref sig .tc .vmem S120x3072 .i32) (harg7 : arg7.IsWhole)
    (harg8 : arg8.IsWhole) (harg9 : arg9.IsWhole) (harg10 : arg10.IsWhole) (harg11 : arg11.IsWhole) (cst : F .f32)
    (x1 : Vec F S1460x512 .i32) (xp : Vec F S57x192x256 .bf16) (s : Vec F S120x512 .f32) (za zb zt : Vec F S120x512 .i32) :
    (restRun c i arg1 harg1 arg2 harg2 arg3 harg3 arg4 harg4 arg5 harg5 arg6 harg6 arg7 harg7 arg8 harg8 arg9 harg9 arg10 harg10 arg11 harg11 cst x1 xp s za zb zt).1
      = [⟨Rect.unit ![0, 0] ![192, 512] inb_S192x512_S192x512_0_0,
          truncf .bf16 (tileLast arg2 arg6 arg8 arg9 arg10 arg11 (harg2.unread x1) (harg6.unread xp) (harg8.unread s) (harg9.unread za) (harg10.unread zb) (harg11.unread zt) 1
            (tileLast arg2 arg6 arg8 arg9 arg10 arg11 (harg2.unread x1) (harg6.unread xp) (harg8.unread s) (harg9.unread za) (harg10.unread zb) (harg11.unread zt) 0
              (st_k0_t2 (F := F) Variants.none c none i arg1 harg1 arg2 harg2 arg3 harg3 arg4 harg4 arg5 harg5 arg6 harg6 arg7 harg7 arg8 harg8 arg9 harg9 arg10 harg10 arg11 harg11 cst
                (harg2.unread x1) (harg6.unread xp) (harg8.unread s) (harg9.unread za) (harg10.unread zb) (k0_pay431 cst) 11))) bitsLt_bf16_f32⟩] := by
  unfold restRun
  rfl

end Cert.KernelIdeal.Body

end
-- ==== Proof.KernelIdeal.PermEq.lean ====
/-
  The pieces the first grid point stores into the buffer of the permuted input, in closed form.
-/
module

public import proofs.«01_k».proof.Proof.KernelIdeal.PrefA

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable {F : FTy → Type} [FloatOps F]

/-- The positions of the 128 lanes of a store, from `o` on. -/
def posV (o : BitVec 32) : IVec S192x128 32 := addi (broadcast S192x128 o) (iota .tc S192x128 32 [1] iota_S192x128_d1_w32)

/-- Division rounded down. -/
def fdivV (x : IVec S192x128 32) (d : BitVec 32) : IVec S192x128 32 :=
  select (andi
      (cmpi .ne (subi (extui 32 (cmpi .sgt x (broadcast S192x128 0#32)) natLt_1_32) (extui 32 (cmpi .slt x (broadcast S192x128 0#32)) natLt_1_32))
        (broadcast S192x128 (Scalar.subi (Scalar.extui (Scalar.cmpi .sgt d 0#32)) (Scalar.extui (Scalar.cmpi .slt d 0#32)))))
      (cmpi .ne (remsi x (broadcast S192x128 d)) (broadcast S192x128 0#32)))
    (subi (divsi x (broadcast S192x128 d)) (broadcast S192x128 1#32)) (divsi x (broadcast S192x128 d))

/-- A position's place in its slab. -/
def inSlabV (o : BitVec 32) : IVec S192x128 32 := subi (posV o) (muli (fdivV (posV o) 80#32) (broadcast S192x128 80#32))

/-- Where the input element of a position lies. -/
def srcV (o : BitVec 32) : IVec S192x128 32 :=
  addi (addi (muli (fdivV (posV o) 80#32) (broadcast S192x128 80#32))
      (muli (subi (inSlabV o) (muli (fdivV (inSlabV o) 16#32) (broadcast S192x128 16#32))) (broadcast S192x128 5#32)))
    (fdivV (inSlabV o) 16#32)

/-- The same after the last superblock: positions of the tail stay. -/
def srcTailV (o : BitVec 32) : IVec S192x128 32 := select (cmpi .sge (posV o) (broadcast S192x128 480#32)) (posV o) (srcV o)

/-- 128, as the remainder's divisor. -/
def lanes : BitVec 32 := Scalar.select (Scalar.cmpi .eq 128#32 0#32) 1#32 128#32

/-- The remainder by 128, never negative. -/
def laneV (x : IVec S192x128 32) : IVec S192x128 32 :=
  select (andi (xori (cmpi .slt (remsi x (broadcast S192x128 lanes)) (broadcast S192x128 0#32))
        (broadcastTo S192x128 (broadcast S192x128 (Scalar.cmpi .slt lanes 0#32)) broadcasts_S192x128_S192x128))
      (cmpi .ne (remsi x (broadcast S192x128 lanes)) (broadcast S192x128 0#32)))
    (addi (remsi x (broadcast S192x128 lanes)) (broadcast S192x128 lanes)) (remsi x (broadcast S192x128 lanes))

/-- The lanes of 128 columns picked by a source. -/
def gath (src : IVec S192x128 32) (x : Vec F S192x128 .bf16) : FVec F S192x128 .f32 :=
  dynamicGather 1 (extf .f32 (shapeCast S192x128 x shapeCasts_S192x128_S192x128) bitsLt_bf16_f32)
    (shapeCast S192x128 (shapeCast S192x128x1
      (select (cmpi .slt (laneV src) (broadcast S192x128 0#32)) (addi (laneV src) (broadcast S192x128 128#32)) (laneV src))
      shapeCasts_S192x128_S192x128x1) shapeCasts_S192x128x1_S192x128)

/-- Those lanes where the source is in columns `u`, another vector elsewhere. -/
def pick (src : IVec S192x128 32) (u : BitVec 32) (x : Vec F S192x128 .bf16) (out : FVec F S192x128 .f32) : FVec F S192x128 .f32 :=
  select (cmpi .eq (fdivV src 128#32) (broadcast S192x128 u)) (gath src x) out

/-- The stored vector. -/
def stored (x : FVec F S192x128 .f32) : FVec F S1x192x128 .bf16 :=
  shapeCast S1x192x128 (truncf .bf16 x bitsLt_bf16_f32) shapeCasts_S192x128_S1x192x128

/-- The vector stored for 128 positions from `128 * pos` on, of five vectors of columns. -/
def perm (ld : Fin 5 → Vec F S192x128 .bf16) (pos : ℕ) : FVec F S1x192x128 .bf16 :=
  match pos with
  | 0 => stored (pick (srcV 0#32) 1#32 (ld 1) (gath (srcV 0#32) (ld 0)))
  | 1 => stored (pick (srcV 128#32) 2#32 (ld 2) (pick (srcV 128#32) 1#32 (ld 1) (gath (srcV 128#32) (ld 0))))
  | 2 => stored (pick (srcV 256#32) 3#32 (ld 3) (pick (srcV 256#32) 2#32 (ld 2) (gath (srcV 256#32) (ld 1))))
  | 3 => stored (pick (srcV 384#32) 4#32 (ld 4) (pick (srcV 384#32) 3#32 (ld 3) (gath (srcV 384#32) (ld 2))))
  | _ => stored (pick (srcV 512#32) 4#32 (ld 4) (gath (srcV 512#32) (ld 3)))

/-- The same after the last superblock. -/
def permTail (ld : Fin 5 → Vec F S192x128 .bf16) (pos : ℕ) : FVec F S1x192x128 .bf16 :=
  match pos with
  | 0 => stored (pick (srcTailV 0#32) 1#32 (ld 1) (gath (srcTailV 0#32) (ld 0)))
  | 1 => stored (pick (srcTailV 128#32) 2#32 (ld 2) (pick (srcTailV 128#32) 1#32 (ld 1) (gath (srcTailV 128#32) (ld 0))))
  | 2 => stored (pick (srcTailV 256#32) 3#32 (ld 3) (pick (srcTailV 256#32) 2#32 (ld 2) (gath (srcTailV 256#32) (ld 1))))
  | _ => stored (pick (srcTailV 384#32) 3#32 (ld 3) (gath (srcTailV 384#32) (ld 2)))

variable (i : grid0.Coords) (hc : cond0_0 i) (arg1 : Memref sig .tc .vmem S192x14592 .bf16) (X1 : BufTy.Contents (Elt F) arg1.view.ty)

/-- 128 columns of the input in superblock `k`. -/
def colsAt (k : Fin k0_t1_loop.trips) (h : Fin 2) (u : Fin 5) : Vec F S192x128 .bf16 :=
  View.readAt (Elt F) arg1.view (Rect.unit (s := S192x14592) (k0_off1 k (BitVec.ofNat 32 (5 * h.val)) (BitVec.ofNat 32 u.val)) S192x128.size (k0_off1_inb i k hc h u)).toLoadRect X1

theorem colsLast_inb (u : ℕ) (h : u < 4) : ∀ a, (![0, 14080 + 128 * u] : Fin 2 → ℕ) a + S192x128.size a ≤ S192x14592.size a := by
  intro a; fin_cases a
  · show 0 + 192 ≤ 192; omega
  · show 14080 + 128 * u + 128 ≤ 14592; omega

/-- 128 columns of the input after the last superblock; there are four such. -/
def colsLast (u : Fin 5) : Vec F S192x128 .bf16 :=
  View.readAt (Elt F) arg1.view (Rect.unit (s := S192x14592) ![0, 14080 + 128 * min u.val 3] S192x128.size (colsLast_inb _ (by omega))).toLoadRect X1

theorem tileLit_inb (t : ℕ) (h : t < 57) (j : ℕ) (hj : j < 2) : ∀ a, (![t, 0, 128 * j] : Fin 3 → ℕ) a + S1x192x128.size a ≤ S57x192x256.size a := by
  intro a; fin_cases a
  · show t + 1 ≤ 57; omega
  · show 0 + 192 ≤ 192; omega
  · show 128 * j + 128 ≤ 256; omega

/-- The piece of 128 positions after the last superblock. -/
def lastPiece (v : Fin 4) : View.Piece (Elt F) S57x192x256 .bf16 :=
  ⟨Rect.unit (s := S57x192x256) ![55 + v.val / 2, 0, 128 * (v.val % 2)] S1x192x128.size (tileLit_inb _ (by omega) _ (by omega)), permTail (colsLast arg1 X1) v.val⟩

/-- The two pieces of a tile. -/
def tilePieces (k : Fin k0_t1_loop.trips) (t : Fin 5) : List (View.Piece (Elt F) S57x192x256 .bf16) :=
  [⟨Rect.unit (k0_off3 k (BitVec.ofNat 32 t.val)) S1x192x128.size (k0_off3_inb i k hc t),
      perm (colsAt i hc arg1 X1 k ⟨(2 * t.val + 1) / 5, by omega⟩) ((2 * t.val + 1) % 5)⟩,
   ⟨Rect.unit (k0_off2 k (BitVec.ofNat 32 t.val)) S1x192x128.size (k0_off2_inb i k hc t),
      perm (colsAt i hc arg1 X1 k ⟨(2 * t.val) / 5, by omega⟩) ((2 * t.val) % 5)⟩]

set_option maxHeartbeats 4000000 in
theorem tripL_eq (𝒱 : Variants) (c : Dev nD) (bd : Option 𝒱.V)   (harg1 : arg1.IsWhole)
    (arg2 : Memref sig .tc .vmem S1460x512 .i32) (harg2 : arg2.IsWhole) (arg3 : Memref sig .tc .vmem S114x512 .bf16) (harg3 : arg3.IsWhole) (arg4 : Memref sig .tc .vmem S114x295 .i32) (harg4 : arg4.IsWhole)
    (arg5 : Memref sig .tc .vmem S192x512 .bf16) (harg5 : arg5.IsWhole) (arg6 : Memref sig .tc .vmem S57x192x256 .bf16) (harg6 : arg6.IsWhole) (arg7 : Memref sig .tc .vmem S120x3072 .i32) (harg7 : arg7.IsWhole)
    (arg8 : Memref sig .tc .vmem S120x512 .f32) (harg8 : arg8.IsWhole) (arg9 : Memref sig .tc .vmem S120x512 .i32) (harg9 : arg9.IsWhole) (arg10 : Memref sig .tc .vmem S120x512 .i32) (harg10 : arg10.IsWhole) (arg11 : Memref sig .tc .vmem S120x512 .i32) (harg11 : arg11.IsWhole)
    (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 hc X1 k
      = tilePieces i hc arg1 X1 k 4 ++ (tilePieces i hc arg1 X1 k 3 ++ (tilePieces i hc arg1 X1 k 2 ++ (tilePieces i hc arg1 X1 k 1 ++ tilePieces i hc arg1 X1 k 0))) := by
  unfold tripL_k0_t1 trip_k0_t1
  rfl

set_option maxHeartbeats 4000000 in
theorem prefA_x (c : Dev nD) (harg1 : arg1.IsWhole)
    (arg2 : Memref sig .tc .vmem S1460x512 .i32) (harg2 : arg2.IsWhole) (arg3 : Memref sig .tc .vmem S114x512 .bf16) (harg3 : arg3.IsWhole) (arg4 : Memref sig .tc .vmem S114x295 .i32) (harg4 : arg4.IsWhole)
    (arg5 : Memref sig .tc .vmem S192x512 .bf16) (harg5 : arg5.IsWhole) (arg6 : Memref sig .tc .vmem S57x192x256 .bf16) (harg6 : arg6.IsWhole) (arg7 : Memref sig .tc .vmem S120x3072 .i32) (harg7 : arg7.IsWhole)
    (arg8 : Memref sig .tc .vmem S120x512 .f32) (harg8 : arg8.IsWhole) (arg9 : Memref sig .tc .vmem S120x512 .i32) (harg9 : arg9.IsWhole) (arg10 : Memref sig .tc .vmem S120x512 .i32) (harg10 : arg10.IsWhole) (arg11 : Memref sig .tc .vmem S120x512 .i32) (harg11 : arg11.IsWhole)
    (x0 : Vec F S192x14592 .bf16) (x2 : Vec F S114x512 .bf16) (x3 : Vec F S114x295 .i32) (xp : Vec F S57x192x256 .bf16) (z : Vec F S120x3072 .i32) (s : Vec F S120x512 .f32) (za : Vec F S120x512 .i32) (zb : Vec F S120x512 .i32) (zt : Vec F S120x512 .i32) :
    (prefA c i arg1 harg1 arg2 harg2 arg3 harg3 arg4 harg4 arg5 harg5 arg6 harg6 arg7 harg7 arg8 harg8 arg9 harg9 arg10 harg10 arg11 harg11 hc x0 x2 x3 xp z s za zb zt).1
      = lastPiece arg1 (harg1.unread x0) 3 :: lastPiece arg1 (harg1.unread x0) 2 :: lastPiece arg1 (harg1.unread x0) 1 :: lastPiece arg1 (harg1.unread x0) 0 ::
        pb_k0_t1 (F := F) Variants.none c none i arg1 harg1 arg2 harg2 arg3 harg3 arg4 harg4 arg5 harg5 arg6 harg6 arg7 harg7 arg8 harg8 arg9 harg9 arg10 harg10 arg11 harg11 hc (harg1.unread x0) 11 := by
  unfold prefA
  rfl

end Cert.KernelIdeal.Body

end
-- ==== Proof.KernelIdeal.PermValue.lean ====
/-
  What the buffer of the permuted input holds after the first grid point: element `l` of tile `t` of a row is that row's element
  number `place (256 t + l)`.
-/
module

public import proofs.«01_k».proof.Proof.KernelIdeal.PermEq
public import Idealize.ShloMosaic.Lib.Pointwise
public import Idealize.ShloMosaic.PureOps.Ideal.Laws
public import Idealize.ShloMosaic.Lib.Pipeline.Value
public import Idealize.ShloMosaic.Lib.WritesUnit
public import Idealize.ShloMosaic.Lib.Pipeline.ValueKit.Geometry

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

/-- The input element at a position of a run of whole slabs. -/
def srcN (m : ℕ) : ℕ := m / 80 * 80 + m % 80 % 16 * 5 + m % 80 / 16

/-- The input element at a position. -/
def place (p : ℕ) : ℕ := if p < 14560 then srcN p else p

theorem place_lt (p : ℕ) (h : p < 14592) : place p < 14592 := by
  unfold place srcN
  split <;> omega

/-- The position's lane, as the source vector's scalar. -/
def srcS (o : BitVec 32) (l : ℕ) : BitVec 32 := srcV o (ix2 0 ⟨l % 128, by omega⟩)

theorem posV_apply (o : BitVec 32) (b : Fin 192) (l : Fin 128) : posV o (ix2 b l) = o + BitVec.ofNat 32 l.val := by
  unfold posV
  simp only [pointwise]
  rw [show (List.foldl (fun n_1 a => n_1 * ![192, 128] a + ((ix2 b l : S192x128.Idx) a).val) 0 [1]) = l.val from by simp]
  rfl

/-- Division rounded down, one number. -/
def fdivS (x d : BitVec 32) : BitVec 32 :=
  Scalar.select (IntOp.andi
      (IntOp.cmpi .ne (IntOp.subi ((IntOp.cmpi .sgt x 0#32).setWidth 32) ((IntOp.cmpi .slt x 0#32).setWidth 32))
        (Scalar.subi (Scalar.extui (Scalar.cmpi .sgt d 0#32)) (Scalar.extui (Scalar.cmpi .slt d 0#32))))
      (IntOp.cmpi .ne (IntOp.remsi .vector x d) 0#32))
    (IntOp.subi (IntOp.divsi .vector x d) 1#32) (IntOp.divsi .vector x d)

theorem fdivV_apply (x : IVec S192x128 32) (d : BitVec 32) (j : S192x128.Idx) : fdivV x d j = fdivS (x j) d := rfl

/-- The source of a position, one number. -/
def srcB (p : BitVec 32) : BitVec 32 :=
  fdivS p 80#32 * 80#32 + ((p - fdivS p 80#32 * 80#32) - fdivS (p - fdivS p 80#32 * 80#32) 16#32 * 16#32) * 5#32 + fdivS (p - fdivS p 80#32 * 80#32) 16#32

theorem srcV_apply (o : BitVec 32) (b : Fin 192) (l : Fin 128) : srcV o (ix2 b l) = srcB (o + BitVec.ofNat 32 l.val) := by
  rw [← posV_apply o b l]; rfl

theorem srcTailV_apply (o : BitVec 32) (b : Fin 192) (l : Fin 128) :
    srcTailV o (ix2 b l) = Scalar.select (IntOp.cmpi .sge (o + BitVec.ofNat 32 l.val) 480#32) (o + BitVec.ofNat 32 l.val) (srcB (o + BitVec.ofNat 32 l.val)) := by
  rw [← posV_apply o b l]; rfl

/-- The remainder by 128, one number. -/
def laneS (x : BitVec 32) : BitVec 32 :=
  Scalar.select (IntOp.andi (IntOp.xori (IntOp.cmpi .slt (IntOp.remsi .vector x lanes) 0#32) (Scalar.cmpi .slt lanes 0#32))
      (IntOp.cmpi .ne (IntOp.remsi .vector x lanes) 0#32))
    (IntOp.addi (IntOp.remsi .vector x lanes) lanes) (IntOp.remsi .vector x lanes)

theorem laneV_apply (x : IVec S192x128 32) (b : Fin 192) (l : Fin 128) : laneV x (ix2 b l) = laneS (x (ix2 b l)) := by
  unfold laneV
  simp only [pointwise]
  rfl

theorem gath_apply (src : IVec S192x128 32) (x : Vec Ideal S192x128 .bf16) (b : Fin 192) (l : Fin 128) (s : ℕ)
    (hs : Scalar.select (IntOp.cmpi .slt (laneS (src (ix2 b l))) 0#32) (IntOp.addi (laneS (src (ix2 b l))) 128#32) (laneS (src (ix2 b l))) = BitVec.ofNat 32 (s % 128)) :
    gath (F := Ideal) src x (ix2 b l) = x (ix2 b ⟨s % 128, by omega⟩) := by
  unfold gath
  rw [dynamicGather_apply]
  have e : (shapeCast S192x128 (shapeCast S192x128x1
      (select (cmpi .slt (laneV src) (broadcast S192x128 0#32)) (addi (laneV src) (broadcast S192x128 128#32)) (laneV src))
      shapeCasts_S192x128_S192x128x1) shapeCasts_S192x128x1_S192x128) (ix2 b l) = BitVec.ofNat 32 (s % 128) := by
    rw [← hs, ← laneV_apply]
    simp only [pointwise]
  rw [e]
  simp only [pointwise]
  congr 1
  funext a
  fin_cases a
  · rfl
  · apply Fin.ext
    show (BitVec.ofNat 32 (s % 128)).toNat % 128 = s % 128
    rw [BitVec.toNat_ofNat]
    omega

theorem pick_apply (src : IVec S192x128 32) (u : ℕ) (hu : u < 5) (x : Vec Ideal S192x128 .bf16) (out : FVec Ideal S192x128 .f32) (b : Fin 192) (l : Fin 128) (s : ℕ) (h640 : s < 640)
    (hq : fdivS (src (ix2 b l)) 128#32 = BitVec.ofNat 32 (s / 128))
    (hs : Scalar.select (IntOp.cmpi .slt (laneS (src (ix2 b l))) 0#32) (IntOp.addi (laneS (src (ix2 b l))) 128#32) (laneS (src (ix2 b l))) = BitVec.ofNat 32 (s % 128)) :
    pick (F := Ideal) src (BitVec.ofNat 32 u) x out (ix2 b l) = if s / 128 = u then x (ix2 b ⟨s % 128, by omega⟩) else out (ix2 b l) := by
  show Scalar.select (IntOp.cmpi .eq (fdivV src 128#32 (ix2 b l)) (BitVec.ofNat 32 u)) (gath src x (ix2 b l)) (out (ix2 b l)) = _
  rw [fdivV_apply, hq, gath_apply src x b l s hs]
  have : ∀ a : Fin 5, ∀ u : Fin 5, IntOp.cmpi .eq (BitVec.ofNat 32 a.val) (BitVec.ofNat 32 u.val) = if a.val = u.val then 1#1 else 0#1 := by decide
  rw [this ⟨s / 128, by omega⟩ ⟨u, hu⟩]
  by_cases h : s / 128 = u
  · simp only [h, if_true]; rfl
  · simp only [h, if_false]; rfl

theorem stored_apply (x : FVec Ideal S192x128 .f32) (b : Fin 192) (l : Fin 128) : stored (F := Ideal) x (ix3 0 b l) = x (ix2 b l) := by
  unfold stored
  simp only [pointwise]

theorem src_q : ∀ p : Fin 5, ∀ l : Fin 128, fdivS (srcB (BitVec.ofNat 32 (128 * p.val) + BitVec.ofNat 32 l.val)) 128#32 = BitVec.ofNat 32 (srcN (128 * p.val + l.val) / 128) := by
  decide +kernel

theorem src_l : ∀ p : Fin 5, ∀ l : Fin 128,
    (fun s => Scalar.select (IntOp.cmpi .slt (laneS s) 0#32) (IntOp.addi (laneS s) 128#32) (laneS s)) (srcB (BitVec.ofNat 32 (128 * p.val) + BitVec.ofNat 32 l.val))
      = BitVec.ofNat 32 (srcN (128 * p.val + l.val) % 128) := by
  decide +kernel

/-- The source of a position after the last superblock. -/
def srcT (m : ℕ) : ℕ := if 480 ≤ m then m else srcN m

theorem srcT_q : ∀ p : Fin 4, ∀ l : Fin 128, fdivS ((fun m => Scalar.select (IntOp.cmpi .sge m 480#32) m (srcB m)) (BitVec.ofNat 32 (128 * p.val) + BitVec.ofNat 32 l.val)) 128#32
      = BitVec.ofNat 32 (srcT (128 * p.val + l.val) / 128) := by
  decide +kernel

theorem srcT_l : ∀ p : Fin 4, ∀ l : Fin 128,
    (fun s => Scalar.select (IntOp.cmpi .slt (laneS s) 0#32) (IntOp.addi (laneS s) 128#32) (laneS s)) ((fun m => Scalar.select (IntOp.cmpi .sge m 480#32) m (srcB m)) (BitVec.ofNat 32 (128 * p.val) + BitVec.ofNat 32 l.val))
      = BitVec.ofNat 32 (srcT (128 * p.val + l.val) % 128) := by
  decide +kernel

/-- Which columns hold the sources of a store. -/
theorem src_range : ∀ p : Fin 5, ∀ l : Fin 128, srcN (128 * p.val + l.val) < 640 ∧
    p.val ≤ srcN (128 * p.val + l.val) / 128 + 1 ∧ srcN (128 * p.val + l.val) / 128 ≤ p.val + 1 := by
  decide +kernel

theorem srcT_range : ∀ p : Fin 4, ∀ l : Fin 128, srcT (128 * p.val + l.val) < 512 ∧
    p.val ≤ srcT (128 * p.val + l.val) / 128 + 1 ∧ srcT (128 * p.val + l.val) / 128 ≤ p.val + 1 := by
  decide +kernel

theorem ld_congr (ld : Fin 5 → Vec Ideal S192x128 .bf16) (b : Fin 192) (s : ℕ) (u : Fin 5) (h : s < 640) (hu : s / 128 = u.val) :
    ld u (ix2 b ⟨s % 128, by omega⟩) = ld ⟨s / 128, by omega⟩ (ix2 b ⟨s % 128, by omega⟩) := by
  have e : u = ⟨s / 128, by omega⟩ := Fin.ext hu.symm
  exact congrFun (congrArg ld e) _

/-- The select of two columns, at an index. -/
theorem pick2 (src : IVec S192x128 32) (ld : Fin 5 → Vec Ideal S192x128 .bf16) (u v : Fin 5) (b : Fin 192) (l : Fin 128) (s : ℕ) (h : s < 640)
    (hq : fdivS (src (ix2 b l)) 128#32 = BitVec.ofNat 32 (s / 128))
    (hl : Scalar.select (IntOp.cmpi .slt (laneS (src (ix2 b l))) 0#32) (IntOp.addi (laneS (src (ix2 b l))) 128#32) (laneS (src (ix2 b l))) = BitVec.ofNat 32 (s % 128))
    (hr : s / 128 = u.val ∨ s / 128 = v.val) :
    stored (F := Ideal) (pick src (BitVec.ofNat 32 v.val) (ld v) (gath src (ld u))) (ix3 0 b l) = ld ⟨s / 128, by omega⟩ (ix2 b ⟨s % 128, by omega⟩) := by
  refine (stored_apply _ b l).trans ?_
  rw [pick_apply _ v.val v.isLt _ _ b l _ h hq hl, gath_apply _ _ b l _ hl]
  split
  · exact ld_congr ld b _ _ h (by assumption)
  · exact ld_congr ld b _ _ h (by omega)

/-- The select of three columns, at an index. -/
theorem pick3 (src : IVec S192x128 32) (ld : Fin 5 → Vec Ideal S192x128 .bf16) (u v w : Fin 5) (b : Fin 192) (l : Fin 128) (s : ℕ) (h : s < 640)
    (hq : fdivS (src (ix2 b l)) 128#32 = BitVec.ofNat 32 (s / 128))
    (hl : Scalar.select (IntOp.cmpi .slt (laneS (src (ix2 b l))) 0#32) (IntOp.addi (laneS (src (ix2 b l))) 128#32) (laneS (src (ix2 b l))) = BitVec.ofNat 32 (s % 128))
    (hr : s / 128 = u.val ∨ s / 128 = v.val ∨ s / 128 = w.val) :
    stored (F := Ideal) (pick src (BitVec.ofNat 32 w.val) (ld w) (pick src (BitVec.ofNat 32 v.val) (ld v) (gath src (ld u)))) (ix3 0 b l)
      = ld ⟨s / 128, by omega⟩ (ix2 b ⟨s % 128, by omega⟩) := by
  refine (stored_apply _ b l).trans ?_
  rw [pick_apply _ w.val w.isLt _ _ b l _ h hq hl, pick_apply _ v.val v.isLt _ _ b l _ h hq hl, gath_apply _ _ b l _ hl]
  split
  · exact ld_congr ld b _ _ h (by assumption)
  · split
    · exact ld_congr ld b _ _ h (by assumption)
    · exact ld_congr ld b _ _ h (by omega)

theorem perm_of (ld : Fin 5 → Vec Ideal S192x128 .bf16) (p : Fin 5) (b : Fin 192) (l : Fin 128) (s : ℕ) (h : s < 640)
    (hq : fdivS (srcV (BitVec.ofNat 32 (128 * p.val)) (ix2 b l)) 128#32 = BitVec.ofNat 32 (s / 128))
    (hl : Scalar.select (IntOp.cmpi .slt (laneS (srcV (BitVec.ofNat 32 (128 * p.val)) (ix2 b l))) 0#32) (IntOp.addi (laneS (srcV (BitVec.ofNat 32 (128 * p.val)) (ix2 b l))) 128#32) (laneS (srcV (BitVec.ofNat 32 (128 * p.val)) (ix2 b l))) = BitVec.ofNat 32 (s % 128))
    (h1 : p.val ≤ s / 128 + 1) (h2 : s / 128 ≤ p.val + 1) :
    perm (F := Ideal) ld p.val (ix3 0 b l) = ld ⟨s / 128, by omega⟩ (ix2 b ⟨s % 128, by omega⟩) := by
  fin_cases p
  · exact pick2 (srcV 0#32) ld 0 1 b l s h hq hl (by simp at h1 h2 ⊢; omega)
  · exact pick3 (srcV 128#32) ld 0 1 2 b l s h hq hl (by simp at h1 h2 ⊢; omega)
  · exact pick3 (srcV 256#32) ld 1 2 3 b l s h hq hl (by simp at h1 h2 ⊢; omega)
  · exact pick3 (srcV 384#32) ld 2 3 4 b l s h hq hl (by simp at h1 h2 ⊢; omega)
  · exact pick2 (srcV 512#32) ld 3 4 b l s h hq hl (by simp at h1 h2 ⊢; omega)

theorem permTail_of (ld : Fin 5 → Vec Ideal S192x128 .bf16) (p : Fin 4) (b : Fin 192) (l : Fin 128) (s : ℕ) (h : s < 512)
    (hq : fdivS (srcTailV (BitVec.ofNat 32 (128 * p.val)) (ix2 b l)) 128#32 = BitVec.ofNat 32 (s / 128))
    (hl : Scalar.select (IntOp.cmpi .slt (laneS (srcTailV (BitVec.ofNat 32 (128 * p.val)) (ix2 b l))) 0#32) (IntOp.addi (laneS (srcTailV (BitVec.ofNat 32 (128 * p.val)) (ix2 b l))) 128#32) (laneS (srcTailV (BitVec.ofNat 32 (128 * p.val)) (ix2 b l))) = BitVec.ofNat 32 (s % 128))
    (h1 : p.val ≤ s / 128 + 1) (h2 : s / 128 ≤ p.val + 1) :
    permTail (F := Ideal) ld p.val (ix3 0 b l) = ld ⟨s / 128, by omega⟩ (ix2 b ⟨s % 128, by omega⟩) := by
  have h' : s < 640 := by omega
  fin_cases p
  · exact pick2 (srcTailV 0#32) ld 0 1 b l s h' hq hl (by simp at h1 h2 ⊢; omega)
  · exact pick3 (srcTailV 128#32) ld 0 1 2 b l s h' hq hl (by simp at h1 h2 ⊢; omega)
  · exact pick3 (srcTailV 256#32) ld 1 2 3 b l s h' hq hl (by simp at h1 h2 ⊢; omega)
  · exact pick2 (srcTailV 384#32) ld 2 3 b l s h' hq hl (by simp at h1 h2 ⊢; omega)

/-- A store of the permuted input, at an index. -/
theorem perm_apply (ld : Fin 5 → Vec Ideal S192x128 .bf16) (p : Fin 5) (b : Fin 192) (l : Fin 128) :
    perm (F := Ideal) ld p.val (ix3 0 b l) = ld ⟨srcN (128 * p.val + l.val) / 128, by have := (src_range p l).1; omega⟩ (ix2 b ⟨srcN (128 * p.val + l.val) % 128, by omega⟩) :=
  perm_of ld p b l _ (src_range p l).1 ((congrArg (fun a => fdivS a 128#32) (srcV_apply _ b l)).trans (src_q p l))
    ((congrArg (fun s => Scalar.select (IntOp.cmpi .slt (laneS s) 0#32) (IntOp.addi (laneS s) 128#32) (laneS s)) (srcV_apply _ b l)).trans (src_l p l))
    (src_range p l).2.1 (src_range p l).2.2

/-- A store after the last superblock, at an index. -/
theorem permTail_apply (ld : Fin 5 → Vec Ideal S192x128 .bf16) (p : Fin 4) (b : Fin 192) (l : Fin 128) :
    permTail (F := Ideal) ld p.val (ix3 0 b l) = ld ⟨srcT (128 * p.val + l.val) / 128, by have := (srcT_range p l).1; omega⟩ (ix2 b ⟨srcT (128 * p.val + l.val) % 128, by omega⟩) :=
  permTail_of ld p b l _ (srcT_range p l).1 ((congrArg (fun a => fdivS a 128#32) (srcTailV_apply _ b l)).trans (srcT_q p l))
    ((congrArg (fun s => Scalar.select (IntOp.cmpi .slt (laneS s) 0#32) (IntOp.addi (laneS s) 128#32) (laneS s)) (srcTailV_apply _ b l)).trans (srcT_l p l))
    (srcT_range p l).2.1 (srcT_range p l).2.2

/-- Stores that all write one array's elements leave that array's element wherever any of them wrote. -/
theorem read_of_agree {sg : RefSig} {κ : Kind} {sp : Space} {s : Shape} {e : EltTy} (v : View sg κ sp s e) (f : v.ty.Contents (Elt Ideal)) (G : s.Idx → Elt Ideal e) (y : s.Idx) :
    ∀ L : List (View.Piece (Elt Ideal) s e), (∀ p ∈ L, ∀ x, p.2 x = G (p.1.emb x)) → (∃ p ∈ L, y ∈ p.1.set) →
      v.read (Elt Ideal) (v.writes (Elt Ideal) f L) y = G y
  | [], _, h => by obtain ⟨_, hm, _⟩ := h; exact absurd hm List.not_mem_nil
  | p :: L, hP, h => by
    by_cases hy : y ∈ p.1.set
    · obtain ⟨x, rfl⟩ : ∃ x, p.1.emb x = y := p.1.exists_idx_of_mem hy
      rw [View.read_writes_cons_emb]
      exact hP p List.mem_cons_self x
    · have hy' : y ∉ Finset.univ.map p.1.emb := by rwa [Rect.map_emb_univ]
      rw [View.writes_cons, View.read_slice_write_of_not_mem p.1 _ _ _ hy']
      refine read_of_agree v f G y L (fun q hq => hP q (List.mem_cons_of_mem _ hq)) ?_
      obtain ⟨q, hq, hyq⟩ := h
      rcases List.mem_cons.mp hq with rfl | hq'
      · exact absurd hyq hy
      · exact ⟨q, hq', hyq⟩

/-- The permuted input. -/
def XP (x0 : Vec Ideal S192x14592 .bf16) : Vec Ideal S57x192x256 .bf16 :=
  fun j => x0 (ix2 (j 1) ⟨place (256 * (j 0).val + (j 2).val), place_lt _ (by have h0 : (j 0).val < 57 := (j 0).isLt; have h2 : (j 2).val < 256 := (j 2).isLt; omega)⟩)

theorem place_block (k h m : ℕ) (hk : k < 11) (hh : h < 2) (hm : m < 640) : place (1280 * k + 640 * h + m) = 1280 * k + 640 * h + srcN m := by
  unfold place srcN
  rw [if_pos (by omega)]
  omega

theorem place_last (m : ℕ) (hm : m < 512) : place (14080 + m) = 14080 + srcT m := by
  unfold place srcT srcN
  split <;> split <;> omega

/-- A piece with the offsets of a half tile and the input's elements at the right places is a piece of the permuted input. -/
theorem piece_agree (x0 : Vec Ideal S192x14592 .bf16) (off : Fin 3 → ℕ) (inb : ∀ a, off a + S1x192x128.size a ≤ S57x192x256.size a) (w : FVec Ideal S1x192x128 .bf16)
    (v : ℕ) (hv : v < 114) (hoff : off = ![v / 2, 0, 128 * (v % 2)])
    (hw : ∀ (b : Fin 192) (l : Fin 128), w (ix3 0 b l) = x0 (ix2 b ⟨place (128 * v + l.val), place_lt _ (by omega)⟩)) (x : S1x192x128.Idx) :
    w x = XP x0 ((Rect.unit (s := S57x192x256) off S1x192x128.size inb).emb x) := by
  obtain ⟨b, l, rfl⟩ : ∃ (b : Fin 192) (l : Fin 128), x = (ix3 0 b l : S1x192x128.Idx) := ⟨x 1, x 2, by
    funext a; fin_cases a
    · exact Subsingleton.elim (α := Fin 1) _ _
    · rfl
    · rfl⟩
  rw [hw]
  subst hoff
  unfold XP
  have e1 : ((Rect.unit (s := S57x192x256) ![v / 2, 0, 128 * (v % 2)] S1x192x128.size inb).emb (ix3 0 b l) 1).val = b.val := by
    rw [ValueKit.rect_emb_unit_val]; simp
  have e0 : ((Rect.unit (s := S57x192x256) ![v / 2, 0, 128 * (v % 2)] S1x192x128.size inb).emb (ix3 0 b l) 0).val = v / 2 := by
    rw [ValueKit.rect_emb_unit_val]; simp
  have e2 : ((Rect.unit (s := S57x192x256) ![v / 2, 0, 128 * (v % 2)] S1x192x128.size inb).emb (ix3 0 b l) 2).val = 128 * (v % 2) + l.val := by
    rw [ValueKit.rect_emb_unit_val]; simp
  congr 1
  funext a
  fin_cases a
  · exact Fin.ext e1.symm
  · apply Fin.ext
    show place _ = place _
    rw [e0, e2]
    congr 1
    omega

end Cert.KernelIdeal.Body

end
-- ==== Proof.KernelIdeal.Weight.lean ====
/-
  The dequantised weight of the problem, one number per input element and column, and the code of a packed word.
-/
module

public import proofs.«01_k».proof.Proof.KernelIdeal.ChunkValue

@[expose] public section

noncomputable section

namespace Cert.KernelIdeal.Body

open Idealize.ShloMosaic Idealize.ShloMosaic.TcCoe Idealize.ShloMosaic.Tactic

/-- Shifted down and masked, a word is its field. -/
theorem code_eq (u : ArithUnit) (w : BitVec 32) (j : ℕ) (hj : j < 10) : IntOp.andi (IntOp.shrsi u w (BitVec.ofNat 32 (3 * j))) 7#32 = (field w j).setWidth 32 := by
  have h : IntOp.shrsi u w (BitVec.ofNat 32 (3 * j)) = w.sshiftRight (3 * j) := by
    unfold IntOp.shrsi
    have e : (BitVec.ofNat 32 (3 * j)).toNat = 3 * j := by rw [BitVec.toNat_ofNat]; omega
    rw [if_pos (by omega), BitVec.sshiftRight', e]
  rw [h]
  show w.sshiftRight (3 * j) &&& 7#32 = _
  unfold field
  apply BitVec.eq_of_getLsbD_eq
  intro k hk
  have h7 : (7#32).getLsbD k = decide (k < 3) := by
    interval_cases k <;> rfl
  rw [BitVec.getLsbD_and, h7, BitVec.getLsbD_sshiftRight, BitVec.getLsbD_setWidth, BitVec.getLsbD_extractLsb']
  by_cases h3 : k < 3
  · have : 3 * j + k < 32 := by omega
    simp [h3, this, hk]
  · simp [h3]

/-- A code read as a number. -/
theorem sitofp_code (c : BitVec 3) : (FloatOps.sitofp (F := Ideal) .bf16 (c.setWidth 32) : EReal) = ((c.toNat : ℝ) : EReal) := by
  show (((c.setWidth 32).toInt : ℝ) : EReal) = _
  have : (c.setWidth 32).toInt = (c.toNat : ℤ) := by
    rcases bit3_cases c with rfl | rfl | rfl | rfl | rfl | rfl | rfl | rfl <;> rfl
  rw [this]; norm_cast

/-- The group of an input element. -/
def grp (k : ℕ) : ℕ := min (k / 128) 113

theorem grp_lt (k : ℕ) : grp k < 114 := by unfold grp; omega

/-- The zero point of a group in a column. -/
def zeroF (x3 : (⟨2, ![114, 295]⟩ : Shape).Idx → BitVec 32) (g : Fin 114) (n : ℕ) (hn : n < 2950) : BitVec 3 := field (x3 (ix2 g ⟨n % 295, by omega⟩)) (n / 295)

/-- The weight of input element `k` in column `n`. -/
def wt (x1 : (⟨2, ![1460, 2944]⟩ : Shape).Idx → BitVec 32) (x2 : (⟨2, ![114, 2944]⟩ : Shape).Idx → EReal) (x3 : (⟨2, ![114, 295]⟩ : Shape).Idx → BitVec 32) (k : ℕ) (hk : k < 14600) (n : Fin 2944) : EReal :=
  dq (field (x1 (ix2 ⟨k / 10, by omega⟩ n)) (k % 10)) (zeroF x3 ⟨grp k, grp_lt k⟩ n.val (by omega)) (x2 (ix2 ⟨grp k, grp_lt k⟩ n))

end Cert.KernelIdeal.Body

end
-- ==== Proof.KernelIdeal.ColValue.lean ====
/-
  The chunks at one column, in terms of the input elements they weigh: in the loop, after it, and in the tail.
-/
module

public import proofs.«01_k».proof.Proof.KernelIdeal.ChunkValue
public import proofs.«01_k».proof.Proof.KernelIdeal.RestEq
public import proofs.«01_k».proof.Proof.KernelIdeal.PermValue
public import proofs.«01_k».proof.Proof.KernelIdeal.Weight

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

/-- The weight of input element `k` in a column whose packed words, zero points and scales are given. -/
def cv (W : ℕ → BitVec 32) (Z : ℕ → BitVec 3) (S : ℕ → EReal) (k : ℕ) : EReal := dq (field (W (k / 10)) (k % 10)) (Z (grp k)) (S (grp k))

variable (W : ℕ → BitVec 32) (Z : ℕ → BitVec 3) (S : ℕ → EReal) (n : Fin 512)

/-- A chunk of slab `q` of superblock `k`. -/
theorem chunk_col (k : ℕ) (q : Fin 16) (i : Fin 5) (hk : 1280 * k + 80 * q.val + 80 ≤ 14560) (w : IVec S8x512 32) (za zb : Vec Ideal S1x512 .i32) (sa sb : Vec Ideal S1x512 .f32)
    (hw : ∀ r : Fin 8, w (ix2 r n) = W (128 * k + 8 * q.val + r.val))
    (hza : za (ix2 0 n) = packed (isA i.val) ((Z (10 * k + 80 * q.val / 128)).setWidth 32))
    (hzb : 10 * k + 80 * q.val / 128 + 1 < 114 → zb (ix2 0 n) = packed (isA i.val) ((Z (10 * k + 80 * q.val / 128 + 1)).setWidth 32))
    (hsa : sa (ix2 0 n) = S (10 * k + 80 * q.val / 128))
    (hsb : 10 * k + 80 * q.val / 128 + 1 < 114 → sb (ix2 0 n) = S (10 * k + 80 * q.val / 128 + 1)) (p : Fin 16) :
    chunk q.val i.val w za zb sa sb (ix2 p n) = cv W Z S (1280 * k + 80 * q.val + 5 * p.val + i.val) := by
  have hq := q.isLt
  have hp := p.isLt
  have hi := i.isLt
  rw [chunk_apply q i w za zb sa sb p n _ _ hza (fun hb => hzb (by unfold bound at hb; omega)), hw]
  unfold cv
  rw [show (1280 * k + 80 * q.val + 5 * p.val + i.val) / 10 = 128 * k + 8 * q.val + (⟨p.val / 2, by omega⟩ : Fin 8).val from by show _ = 128 * k + 8 * q.val + p.val / 2; omega,
    show (1280 * k + 80 * q.val + 5 * p.val + i.val) % 10 = i.val + 5 * (p.val % 2) from by omega]
  by_cases hb : bound q.val ≤ 5 * p.val + i.val
  · rw [if_pos hb]
    unfold bound at hb
    rw [hsb (by omega), show grp (1280 * k + 80 * q.val + 5 * p.val + i.val) = 10 * k + 80 * q.val / 128 + 1 from by unfold grp; omega]
  · rw [if_neg hb, hsa]
    unfold bound at hb
    rw [show grp (1280 * k + 80 * q.val + 5 * p.val + i.val) = 10 * k + 80 * q.val / 128 from by unfold grp; omega]

/-- The word of a row of the tail. -/
theorem tailWord_apply (a : Fin 2) (r : Fin 8) : tailWord (BitVec.ofNat 32 (8 * a.val)) (ix2 r n) = BitVec.ofNat 32 ((8 * a.val + r.val) / 5) := by
  unfold tailWord tailP
  simp only [pointwise]
  have e : (List.foldl (fun n_1 a => n_1 * ![8, 512] a + ((ix2 r n : S8x512.Idx) a).val) 0 [0]) = r.val := by simp
  rw [e]
  clear e; revert a r
  decide +kernel

/-- How far a row of the tail is moved. -/
theorem tailShift_apply (a : Fin 2) (r : Fin 8) :
    muli (subi (tailP (BitVec.ofNat 32 (8 * a.val))) (muli (tailWord (BitVec.ofNat 32 (8 * a.val))) (broadcast S8x512 5#32))) (broadcast S8x512 6#32) (ix2 r n)
      = BitVec.ofNat 32 (6 * ((8 * a.val + r.val) % 5)) := by
  show ((tailP _ (ix2 r n)) - (tailWord _ (ix2 r n)) * 5#32) * 6#32 = _
  rw [tailWord_apply]
  unfold tailP
  simp only [pointwise]
  have e : (List.foldl (fun n_1 a => n_1 * ![8, 512] a + ((ix2 r n : S8x512.Idx) a).val) 0 [0]) = r.val := by simp
  rw [e]
  clear e; revert a r
  decide +kernel

/-- The word picked among four by its number. -/
theorem pick4 (w0 w1 w2 w3 : BitVec 32) (W : ℕ → BitVec 32) (h0 : w0 = W 0) (h1 : w1 = W 1) (h2 : w2 = W 2) (h3 : w3 = W 3) (q : ℕ) (hq : q < 4) :
    Scalar.select (IntOp.cmpi .eq (BitVec.ofNat 32 q) 0#32) w0 (Scalar.select (IntOp.cmpi .eq (BitVec.ofNat 32 q) 1#32) w1 (Scalar.select (IntOp.cmpi .eq (BitVec.ofNat 32 q) 2#32) w2 w3)) = W q := by
  subst h0 h1 h2 h3
  interval_cases q <;> rfl

/-- The two fields of a row of the tail, under their exponents. -/
theorem half_tail (j : ℕ) (hj : j < 5) (h : ℕ) (hh : h < 2) (w : BitVec 32) :
    half ((((w >>> (6 * j)) &&& 7#32) ||| (((w >>> (6 * j)) &&& 56#32) <<< 13)) ||| 1124090624#32) h = coded true 1 (field w (2 * j + h)) := by
  apply BitVec.eq_of_getLsbD_eq
  intro l hl
  interval_cases j <;> interval_cases h <;> interval_cases l <;>
    simp [half, coded, field]

/-- The tail's zero under its exponents. -/
theorem half_zt (h : ℕ) (hh : h < 2) (u : BitVec 3) : half (u.setWidth 32 * 65537#32 + 1124090624#32) h = coded true 1 u := by
  rcases bit3_cases u with rfl | rfl | rfl | rfl | rfl | rfl | rfl | rfl <;> interval_cases h <;> decide

theorem tailField_apply (a : Fin 2) (w0 w1 w2 w3 : Vec Ideal S1x512 .i32) (h0 : w0 (ix2 0 n) = W 1456) (h1 : w1 (ix2 0 n) = W 1457) (h2 : w2 (ix2 0 n) = W 1458) (h3 : w3 (ix2 0 n) = W 1459) (r : Fin 8) :
    tailField (F := Ideal) (BitVec.ofNat 32 (8 * a.val)) w0 w1 w2 w3 (ix2 r n) = W (1456 + (8 * a.val + r.val) / 5) >>> (6 * ((8 * a.val + r.val) % 5)) := by
  unfold tailField
  show IntOp.shrui .vector (Scalar.select (IntOp.cmpi .eq (tailWord _ (ix2 r n)) 0#32) (spreadI (F := Ideal) w0 (ix2 r n)) (Scalar.select (IntOp.cmpi .eq (tailWord _ (ix2 r n)) 1#32) (spreadI (F := Ideal) w1 (ix2 r n))
    (Scalar.select (IntOp.cmpi .eq (tailWord _ (ix2 r n)) 2#32) (spreadI (F := Ideal) w2 (ix2 r n)) (spreadI (F := Ideal) w3 (ix2 r n))))) (muli _ _ (ix2 r n)) = _
  rw [tailShift_apply, tailWord_apply, spreadI_apply, spreadI_apply, spreadI_apply, spreadI_apply,
    pick4 _ _ _ _ (fun q => W (1456 + q)) h0 h1 h2 h3 _ (by omega)]
  have hlt : 6 * ((8 * a.val + r.val) % 5) < 32 := by omega
  unfold IntOp.shrui
  have e : (BitVec.ofNat 32 (6 * ((8 * a.val + r.val) % 5))).toNat = 6 * ((8 * a.val + r.val) % 5) := by rw [BitVec.toNat_ofNat]; omega
  rw [if_pos (by omega), BitVec.ushiftRight_eq', e]

/-- A chunk of the tail. -/
theorem tail_col (a : Fin 2) (w0 w1 w2 w3 z : Vec Ideal S1x512 .i32) (s : Vec Ideal S1x512 .f32) (h0 : w0 (ix2 0 n) = W 1456) (h1 : w1 (ix2 0 n) = W 1457) (h2 : w2 (ix2 0 n) = W 1458) (h3 : w3 (ix2 0 n) = W 1459)
    (hz : z (ix2 0 n) = (Z 113).setWidth 32 * 65537#32 + 1124090624#32) (hs : s (ix2 0 n) = S 113) (p : Fin 16) :
    tailChunk (F := Ideal) (BitVec.ofNat 32 (8 * a.val)) w0 w1 w2 w3 z s (ix2 p n) = cv W Z S (14560 + 16 * a.val + p.val) := by
  have ha := a.isLt
  have hp := p.isLt
  unfold tailChunk
  show (halves (F := Ideal) _ (ix2 p n) - halves (F := Ideal) _ (ix2 p n)) * (spreadF (F := Ideal) s (ix2 p n) : EReal) = _
  rw [halves_apply, halves_apply, spreadF_apply, spreadI_apply, hz, hs]
  rw [show (ori (ori (andi (tailField (F := Ideal) (BitVec.ofNat 32 (8 * a.val)) w0 w1 w2 w3) (broadcast S8x512 7#32)) (shli (andi (tailField (F := Ideal) (BitVec.ofNat 32 (8 * a.val)) w0 w1 w2 w3) (broadcast S8x512 56#32)) (broadcast S8x512 13#32)))
      (broadcast S8x512 1124090624#32)) (ix2 (⟨p.val / 2, by omega⟩ : Fin 8) n)
      = (((tailField (F := Ideal) (BitVec.ofNat 32 (8 * a.val)) w0 w1 w2 w3 (ix2 (⟨p.val / 2, by omega⟩ : Fin 8) n)) &&& 7#32) ||| (((tailField (F := Ideal) (BitVec.ofNat 32 (8 * a.val)) w0 w1 w2 w3 (ix2 (⟨p.val / 2, by omega⟩ : Fin 8) n)) &&& 56#32) <<< 13)) ||| 1124090624#32 from rfl]
  rw [tailField_apply W n a w0 w1 w2 w3 h0 h1 h2 h3, half_tail _ (by omega) _ (by omega), half_zt _ (by omega), bf_sub _ _ (by omega)]
  unfold cv
  rw [show grp (14560 + 16 * a.val + p.val) = 113 from by unfold grp; omega,
    show (14560 + 16 * a.val + p.val) / 10 = 1456 + (8 * a.val + (⟨p.val / 2, by omega⟩ : Fin 8).val) / 5 from by show _ = 1456 + (8 * a.val + p.val / 2) / 5; omega,
    show (14560 + 16 * a.val + p.val) % 10 = 2 * ((8 * a.val + (⟨p.val / 2, by omega⟩ : Fin 8).val) % 5) + p.val % 2 from by show _ = 2 * ((8 * a.val + p.val / 2) % 5) + p.val % 2; omega]

end Cert.KernelIdeal.Body

end
-- ==== Proof.KernelIdeal.BlockValue.lean ====
/-
  What the body stores, at one row and one column: every input element times its weight, summed.
-/
module

public import proofs.«01_k».proof.Proof.KernelIdeal.ColValue

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

theorem trips2 : k0_t2_loop.trips = 11 := by decide +kernel

theorem off7_eq : ∀ k : Fin k0_t2_loop.trips, ∀ r : Fin 10, k0_off7 k (BitVec.ofNat 32 r.val) = ![10 * k.val + r.val + 1, 0] := by decide +kernel

/-- A row of a table at a column. -/
theorem row_read {e : EltTy} (m : Memref sig .tc .vmem S120x512 e) (X : BufTy.Contents (Elt Ideal) m.view.ty) (off : Fin 2 → ℕ) (inb : ∀ a, off a + S1x512.size a ≤ S120x512.size a)
    (g : ℕ) (hg : g < 120) (hoff : off = ![g, 0]) (n : Fin 512) :
    View.readAt (Elt Ideal) m.view (Rect.unit (s := S120x512) off S1x512.size inb).toLoadRect X (ix2 0 n) = m.view.read (Elt Ideal) X (ix2 ⟨g, hg⟩ n) := by
  subst hoff
  rw [View.readAt_eq_ld]
  simp only [pointwise]
  congr 1
  funext a; fin_cases a <;> apply Fin.ext <;> simp

/-- A row of packed words at a column. -/
theorem word_read (m : Memref sig .tc .vmem S1460x512 .i32) (X : BufTy.Contents (Elt Ideal) m.view.ty) (off : Fin 2 → ℕ) (inb : ∀ a, off a + S1x512.size a ≤ S1460x512.size a)
    (g : ℕ) (hg : g < 1460) (hoff : off = ![g, 0]) (n : Fin 512) :
    View.readAt (Elt Ideal) m.view (Rect.unit (s := S1460x512) off S1x512.size inb).toLoadRect X (ix2 0 n) = m.view.read (Elt Ideal) X (ix2 ⟨g, hg⟩ n) := by
  subst hoff
  rw [View.readAt_eq_ld]
  simp only [pointwise]
  congr 1
  funext a; fin_cases a <;> apply Fin.ext <;> simp

/-- A slab of packed words at a column. -/
theorem slab_read (m : Memref sig .tc .vmem S1460x512 .i32) (X : BufTy.Contents (Elt Ideal) m.view.ty) (off : Fin 2 → ℕ) (inb : ∀ a, off a + S8x512.size a ≤ S1460x512.size a)
    (g : ℕ) (hg : g + 8 ≤ 1460) (hoff : off = ![g, 0]) (r : Fin 8) (n : Fin 512) :
    View.readAt (Elt Ideal) m.view (Rect.unit (s := S1460x512) off S8x512.size inb).toLoadRect X (ix2 r n) = m.view.read (Elt Ideal) X (ix2 ⟨g + r.val, by omega⟩ n) := by
  subst hoff
  rw [View.readAt_eq_ld]
  simp only [pointwise]
  congr 1
  funext a; fin_cases a <;> apply Fin.ext <;> simp

/-- A tile of the permuted input. -/
theorem tile_read (m : Memref sig .tc .vmem S57x192x256 .bf16) (X : BufTy.Contents (Elt Ideal) m.view.ty) (off : Fin 3 → ℕ) (inb : ∀ a, off a + S1x192x256.size a ≤ S57x192x256.size a)
    (g : ℕ) (hg : g < 57) (hoff : off = ![g, 0, 0]) (b : Fin 192) (l : Fin 256) :
    View.readAt (Elt Ideal) m.view (Rect.unit (s := S57x192x256) off S1x192x256.size inb).toLoadRect X (ix3 0 b l) = m.view.read (Elt Ideal) X (ix3 ⟨g, hg⟩ b l) := by
  subst hoff
  rw [View.readAt_eq_ld]
  simp only [pointwise]
  congr 1
  funext a; fin_cases a <;> apply Fin.ext <;> simp

/-- What the tables hold in a column. -/
structure ColFacts (x1 : Vec Ideal S1460x512 .i32) (s : Vec Ideal S120x512 .f32) (za zb zt : Vec Ideal S120x512 .i32) (n : Fin 512)
    (W : ℕ → BitVec 32) (Z : ℕ → BitVec 3) (S : ℕ → EReal) : Prop where
  w : ∀ r (h : r < 1460), x1 (ix2 ⟨r, h⟩ n) = W r
  s : ∀ g (h : g < 114), s (ix2 ⟨g, by omega⟩ n) = S g
  za : ∀ g (h : g < 114), za (ix2 ⟨g, by omega⟩ n) = packed true ((Z g).setWidth 32)
  zb : ∀ g (h : g < 114), zb (ix2 ⟨g, by omega⟩ n) = packed false ((Z g).setWidth 32)
  zt : ∀ g (h : g < 114), zt (ix2 ⟨g, by omega⟩ n) = (Z g).setWidth 32 * 65537#32 + 1124090624#32

/-- A tile's share of the sum. -/
def tsum (X : ℕ → EReal) (W : ℕ → BitVec 32) (Z : ℕ → BitVec 3) (S : ℕ → EReal) (T : ℕ) : EReal := ∑ l : Fin 256, X (place (256 * T + l.val)) * cv W Z S (place (256 * T + l.val))

variable (arg2 : Memref sig .tc .vmem S1460x512 .i32) (harg2 : arg2.IsWhole) (arg6 : Memref sig .tc .vmem S57x192x256 .bf16) (harg6 : arg6.IsWhole)
  (arg8 : Memref sig .tc .vmem S120x512 .f32) (harg8 : arg8.IsWhole) (arg9 : Memref sig .tc .vmem S120x512 .i32) (harg9 : arg9.IsWhole) (arg10 : Memref sig .tc .vmem S120x512 .i32) (harg10 : arg10.IsWhole)
  (arg11 : Memref sig .tc .vmem S120x512 .i32) (harg11 : arg11.IsWhole)
  (x0 : Vec Ideal S192x14592 .bf16) (x1 : Vec Ideal S1460x512 .i32) (s : Vec Ideal S120x512 .f32) (za zb zt : Vec Ideal S120x512 .i32) (n : Fin 512) (b : Fin 192)
  (X : ℕ → EReal) (W : ℕ → BitVec 32) (Z : ℕ → BitVec 3) (S : ℕ → EReal)

theorem XP_apply (hX : ∀ k (h : k < 14592), x0 (ix2 b ⟨k, h⟩) = X k) (T : ℕ) (hT : T < 57) (l : Fin 256) :
    XP x0 (ix3 ⟨T, hT⟩ b l) = X (place (256 * T + l.val)) := by
  unfold XP
  exact hX _ _

/-- A chunk of the loop, at a row. -/
theorem chunkAt_col (H : ColFacts x1 s za zb zt n W Z S) (k : Fin k0_t2_loop.trips) (q : Fin 16) (i : Fin 5) (p : Fin 16) :
    chunkAt arg2 arg8 arg9 arg10 (harg2.unread x1) (harg8.unread s) (harg9.unread za) (harg10.unread zb) k q i.val (ix2 p n)
      = cv W Z S (1280 * k.val + 80 * q.val + 5 * p.val + i.val) := by
  have hk : k.val < 11 := Nat.lt_of_lt_of_eq k.isLt trips2
  have hq := q.isLt
  unfold chunkAt
  refine chunk_col W Z S n k.val q i (by omega) _ _ _ _ _ ?_ ?_ ?_ ?_ ?_ p
  · intro r
    rw [slab_read arg2 _ _ _ (128 * k.val + 8 * q.val) (by omega) (k0_off5_eq k q) r n, Memref.IsWhole.read_unread]
    exact H.w _ _
  · cases isA i.val
    · show rowAt arg10 _ k _ (ix2 0 n) = _
      unfold rowAt
      rw [row_read arg10 _ _ _ (10 * k.val + 80 * q.val / 128) (by omega) (k0_off6_eq k _) n, Memref.IsWhole.read_unread]
      exact H.zb _ (by omega)
    · show rowAt arg9 _ k _ (ix2 0 n) = _
      unfold rowAt
      rw [row_read arg9 _ _ _ (10 * k.val + 80 * q.val / 128) (by omega) (k0_off6_eq k _) n, Memref.IsWhole.read_unread]
      exact H.za _ (by omega)
  · intro hg
    cases isA i.val
    · show rowAfter arg10 _ k _ (ix2 0 n) = _
      unfold rowAfter
      rw [row_read arg10 _ _ _ (10 * k.val + 80 * q.val / 128 + 1) (by omega) (off7_eq k _) n, Memref.IsWhole.read_unread]
      exact H.zb _ (by omega)
    · show rowAfter arg9 _ k _ (ix2 0 n) = _
      unfold rowAfter
      rw [row_read arg9 _ _ _ (10 * k.val + 80 * q.val / 128 + 1) (by omega) (off7_eq k _) n, Memref.IsWhole.read_unread]
      exact H.za _ (by omega)
  · unfold rowAt
    rw [row_read arg8 _ _ _ (10 * k.val + 80 * q.val / 128) (by omega) (k0_off6_eq k _) n, Memref.IsWhole.read_unread]
    exact H.s _ (by omega)
  · intro hg
    unfold rowAfter
    rw [row_read arg8 _ _ _ (10 * k.val + 80 * q.val / 128 + 1) (by omega) (off7_eq k _) n, Memref.IsWhole.read_unread]
    exact H.s _ (by omega)

/-- A tile of the loop. -/
theorem tileAt_col (H : ColFacts x1 s za zb zt n W Z S) (hX : ∀ k (h : k < 14592), x0 (ix2 b ⟨k, h⟩) = X k) (k : Fin k0_t2_loop.trips) (t : Fin 5) (acc : FVec Ideal S192x512 .f32) :
    tileAt arg2 arg6 arg8 arg9 arg10 (harg2.unread x1) (harg6.unread (XP x0)) (harg8.unread s) (harg9.unread za) (harg10.unread zb) k t acc (ix2 b n)
      = acc (ix2 b n) + tsum X W Z S (5 * k.val + t.val) := by
  have hk : k.val < 11 := Nat.lt_of_lt_of_eq k.isLt trips2
  have ht := t.isLt
  unfold tileAt tsum
  rw [tile_apply]
  congr 1
  refine Finset.sum_congr rfl fun l _ => ?_
  have hl := l.isLt
  rw [tile_read arg6 _ _ _ (5 * k.val + t.val) (by omega) (k0_off8_eq k t) b l, Memref.IsWhole.read_unread, XP_apply x0 b X hX]
  have e := chunkAt_col arg2 harg2 arg8 harg8 arg9 harg9 arg10 harg10 x1 s za zb zt n W Z S H k ⟨(16 * t.val + l.val / 16) / 5, by omega⟩ ⟨(16 * t.val + l.val / 16) % 5, by omega⟩ ⟨l.val % 16, by omega⟩
  refine congrArg (X (place (256 * (5 * k.val + t.val) + l.val)) * ·) (e.trans ?_)
  congr 1
  unfold place srcN
  show 1280 * k.val + 80 * ((16 * t.val + l.val / 16) / 5) + 5 * (l.val % 16) + (16 * t.val + l.val / 16) % 5 = _
  rw [if_pos (by omega)]
  obtain ⟨u, hu⟩ : ∃ u, 16 * t.val + l.val / 16 = u := ⟨_, rfl⟩
  rw [hu]
  omega

/-- A chunk after the loop, at a row. -/
theorem chunkLast_col (H : ColFacts x1 s za zb zt n W Z S) (m : Fin 32) (p : Fin 16) :
    chunkLast arg2 arg8 arg9 arg10 arg11 (harg2.unread x1) (harg8.unread s) (harg9.unread za) (harg10.unread zb) (harg11.unread zt) m (ix2 p n)
      = cv W Z S (place (14080 + 16 * m.val + p.val)) := by
  have hm := m.isLt
  have hp := p.isLt
  unfold chunkLast
  split
  · rename_i h
    have e : place (14080 + 16 * m.val + p.val) = 1280 * 11 + 80 * (m.val / 5) + 5 * p.val + m.val % 5 := by
      unfold place srcN
      rw [if_pos (by omega)]
      omega
    rw [e]
    have e1 : 10 * 11 + 80 * (m.val / 5) / 128 = 110 + 80 * (m.val / 5) / 128 := rfl
    refine chunk_col W Z S n 11 ⟨m.val / 5, by omega⟩ ⟨m.val % 5, by omega⟩ (by show 1280 * 11 + 80 * (m.val / 5) + 80 ≤ 14560; omega) _ _ _ _ _ ?_ ?_ ?_ ?_ ?_ p
    · intro r
      rw [slab_read arg2 _ _ _ (1408 + 8 * (m.val / 5)) (by omega) rfl r n, Memref.IsWhole.read_unread]
      exact H.w _ _
    · show _ = packed (isA (m.val % 5)) ((Z (110 + 80 * (m.val / 5) / 128)).setWidth 32)
      cases isA (m.val % 5)
      · show rowLit arg10 _ _ _ (ix2 0 n) = _
        unfold rowLit
        rw [row_read arg10 _ _ _ (110 + 80 * (m.val / 5) / 128) (by omega) rfl n, Memref.IsWhole.read_unread]
        exact H.zb _ (by omega)
      · show rowLit arg9 _ _ _ (ix2 0 n) = _
        unfold rowLit
        rw [row_read arg9 _ _ _ (110 + 80 * (m.val / 5) / 128) (by omega) rfl n, Memref.IsWhole.read_unread]
        exact H.za _ (by omega)
    · show 110 + 80 * (m.val / 5) / 128 + 1 < 114 → _ = packed (isA (m.val % 5)) ((Z (110 + 80 * (m.val / 5) / 128 + 1)).setWidth 32)
      intro hg
      cases isA (m.val % 5)
      · show rowLit arg10 _ _ _ (ix2 0 n) = _
        unfold rowLit
        rw [row_read arg10 _ _ _ (110 + 80 * (m.val / 5) / 128 + 1) (by omega) rfl n, Memref.IsWhole.read_unread]
        exact H.zb _ (by omega)
      · show rowLit arg9 _ _ _ (ix2 0 n) = _
        unfold rowLit
        rw [row_read arg9 _ _ _ (110 + 80 * (m.val / 5) / 128 + 1) (by omega) rfl n, Memref.IsWhole.read_unread]
        exact H.za _ (by omega)
    · unfold rowLit
      rw [row_read arg8 _ _ _ (110 + 80 * (m.val / 5) / 128) (by omega) rfl n, Memref.IsWhole.read_unread]
      exact H.s _ (by omega)
    · show 110 + 80 * (m.val / 5) / 128 + 1 < 114 → _
      intro hg
      unfold rowLit
      rw [row_read arg8 _ _ _ (110 + 80 * (m.val / 5) / 128 + 1) (by omega) rfl n, Memref.IsWhole.read_unread]
      exact H.s _ (by omega)
  · rename_i h
    have e : place (14080 + 16 * m.val + p.val) = 14560 + 16 * (m.val - 30) + p.val := by
      unfold place
      rw [if_neg (by omega)]
      omega
    rw [e]
    refine tail_col W Z S n ⟨m.val - 30, by omega⟩ _ _ _ _ _ _ ?_ ?_ ?_ ?_ ?_ ?_ p
    · unfold wordLit
      rw [word_read arg2 _ _ _ 1456 (by omega) rfl n, Memref.IsWhole.read_unread]
      exact H.w _ _
    · unfold wordLit
      rw [word_read arg2 _ _ _ 1457 (by omega) rfl n, Memref.IsWhole.read_unread]
      exact H.w _ _
    · unfold wordLit
      rw [word_read arg2 _ _ _ 1458 (by omega) rfl n, Memref.IsWhole.read_unread]
      exact H.w _ _
    · unfold wordLit
      rw [word_read arg2 _ _ _ 1459 (by omega) rfl n, Memref.IsWhole.read_unread]
      exact H.w _ _
    · unfold rowLit
      rw [row_read arg11 _ _ _ 113 (by omega) rfl n, Memref.IsWhole.read_unread]
      exact H.zt _ (by omega)
    · unfold rowLit
      rw [row_read arg8 _ _ _ 113 (by omega) rfl n, Memref.IsWhole.read_unread]
      exact H.s _ (by omega)

/-- A tile after the loop. -/
theorem tileLast_col (H : ColFacts x1 s za zb zt n W Z S) (hX : ∀ k (h : k < 14592), x0 (ix2 b ⟨k, h⟩) = X k) (t : Fin 2) (acc : FVec Ideal S192x512 .f32) :
    tileLast arg2 arg6 arg8 arg9 arg10 arg11 (harg2.unread x1) (harg6.unread (XP x0)) (harg8.unread s) (harg9.unread za) (harg10.unread zb) (harg11.unread zt) t acc (ix2 b n)
      = acc (ix2 b n) + tsum X W Z S (55 + t.val) := by
  have ht := t.isLt
  unfold tileLast tsum
  rw [tile_apply]
  congr 1
  refine Finset.sum_congr rfl fun l _ => ?_
  have hl := l.isLt
  rw [tile_read arg6 _ _ _ (55 + t.val) (by omega) rfl b l, Memref.IsWhole.read_unread, XP_apply x0 b X hX]
  have e := chunkLast_col arg2 harg2 arg8 harg8 arg9 harg9 arg10 harg10 arg11 harg11 x1 s za zb zt n W Z S H ⟨16 * t.val + l.val / 16, by omega⟩ ⟨l.val % 16, by omega⟩
  refine congrArg (X (place (256 * (55 + t.val) + l.val)) * ·) (e.trans ?_)
  congr 2
  show 14080 + 16 * (16 * t.val + l.val / 16) + l.val % 16 = _
  omega

/-- A place before the tail, by its block of eighty. -/
theorem place_split (q r : ℕ) (hr : r < 80) (h : 80 * q + r < 14560) : place (80 * q + r) = 80 * q + (r % 16 * 5 + r / 16) := by
  unfold place srcN
  rw [if_pos h, show (80 * q + r) / 80 = q from by omega, show (80 * q + r) % 80 = r from by omega]
  omega

/-- Which position a place comes from. -/
def unplace (k : ℕ) : ℕ := if k < 14560 then 80 * (k / 80) + (k % 80 % 5 * 16 + k % 80 / 5) else k

theorem unplace_lt (k : ℕ) (h : k < 14592) : unplace k < 14592 := by
  unfold unplace; split <;> omega

theorem unplace_place (m : ℕ) : unplace (place m) = m := by
  by_cases h : m < 14560
  · obtain ⟨q, r, hr, rfl⟩ : ∃ q r, r < 80 ∧ m = 80 * q + r := ⟨m / 80, m % 80, by omega, by omega⟩
    rw [place_split q r hr h]
    have hr' : r % 16 * 5 + r / 16 < 80 := by omega
    have hq : q < 182 := by omega
    unfold unplace
    rw [if_pos (by omega), show (80 * q + (r % 16 * 5 + r / 16)) / 80 = q from by omega, show (80 * q + (r % 16 * 5 + r / 16)) % 80 = r % 16 * 5 + r / 16 from by omega,
      show (r % 16 * 5 + r / 16) % 5 = r / 16 from by omega, show (r % 16 * 5 + r / 16) / 5 = r % 16 from by omega]
    omega
  · unfold place unplace
    rw [if_neg h, if_neg h]

theorem place_unplace (k : ℕ) : place (unplace k) = k := by
  by_cases h : k < 14560
  · obtain ⟨q, r, hr, rfl⟩ : ∃ q r, r < 80 ∧ k = 80 * q + r := ⟨k / 80, k % 80, by omega, by omega⟩
    unfold unplace
    rw [if_pos h, show (80 * q + r) / 80 = q from by omega, show (80 * q + r) % 80 = r from by omega,
      place_split q _ (by omega) (by omega),
      show (r % 5 * 16 + r / 5) % 16 = r / 5 from by omega, show (r % 5 * 16 + r / 5) / 16 = r % 5 from by omega]
    omega
  · unfold place unplace
    rw [if_neg h, if_neg h]

/-- The places are a rearrangement of the input elements. -/
theorem sum_place (f : ℕ → EReal) : ∑ T ∈ Finset.range 57, ∑ l : Fin 256, f (place (256 * T + l.val)) = ∑ k : Fin 14592, f k.val := by
  rw [Finset.sum_range, ← Finset.sum_product']
  refine Finset.sum_nbij' (fun p => (⟨place (256 * p.1.val + p.2.val), place_lt _ (by omega)⟩ : Fin 14592))
    (fun k => (⟨unplace k.val / 256, by have := unplace_lt k.val k.isLt; omega⟩, ⟨unplace k.val % 256, by omega⟩)) (fun _ _ => Finset.mem_univ _) (fun _ _ => Finset.mem_univ _) ?_ ?_ ?_
  · rintro ⟨T, l⟩ _
    have e := unplace_place (256 * T.val + l.val)
    refine Prod.ext (Fin.ext ?_) (Fin.ext ?_)
    · show unplace (place (256 * T.val + l.val)) / 256 = T.val; rw [e]; omega
    · show unplace (place (256 * T.val + l.val)) % 256 = l.val; rw [e]; omega
  · intro k _
    refine Fin.ext ?_
    show place (256 * (unplace k.val / 256) + unplace k.val % 256) = k.val
    rw [show 256 * (unplace k.val / 256) + unplace k.val % 256 = unplace k.val from by omega, place_unplace]
  · intro p _; rfl

section
variable (c : Dev nD) (i : grid0.Coords) (arg1 : Memref sig .tc .vmem S192x14592 .bf16) (harg1 : arg1.IsWhole)
    (arg3 : Memref sig .tc .vmem S114x512 .bf16) (harg3 : arg3.IsWhole) (arg4 : Memref sig .tc .vmem S114x295 .i32) (harg4 : arg4.IsWhole)
    (arg5 : Memref sig .tc .vmem S192x512 .bf16) (harg5 : arg5.IsWhole) (arg7 : Memref sig .tc .vmem S120x3072 .i32) (harg7 : arg7.IsWhole) (cst : Ideal .f32)

/-- The loop's accumulator before trip `N`. -/
theorem loop_col (H : ColFacts x1 s za zb zt n W Z S) (hX : ∀ k (h : k < 14592), x0 (ix2 b ⟨k, h⟩) = X k) (init : FVec Ideal S192x512 .f32) (N : ℕ) (hN : N ≤ 11) :
    st_k0_t2 (F := Ideal) Variants.none c none i arg1 harg1 arg2 harg2 arg3 harg3 arg4 harg4 arg5 harg5 arg6 harg6 arg7 harg7 arg8 harg8 arg9 harg9 arg10 harg10 arg11 harg11 cst
      (harg2.unread x1) (harg6.unread (XP x0)) (harg8.unread s) (harg9.unread za) (harg10.unread zb) init N (ix2 b n)
      = init (ix2 b n) + ∑ T ∈ Finset.range (5 * N), tsum X W Z S T := by
  induction N with
  | zero => rw [st_k0_t2_zero]; simp
  | succ N ih =>
    have h := st_k0_t2_succ (F := Ideal) Variants.none c none i arg1 harg1 arg2 harg2 arg3 harg3 arg4 harg4 arg5 harg5 arg6 harg6 arg7 harg7 arg8 harg8 arg9 harg9 arg10 harg10 arg11 harg11 cst
      (harg2.unread x1) (harg6.unread (XP x0)) (harg8.unread s) (harg9.unread za) (harg10.unread zb) init ⟨N, by rw [trips2]; omega⟩
    rw [show N + 1 = (⟨N, by rw [trips2]; omega⟩ : Fin k0_t2_loop.trips).val + 1 from rfl, h, trip_eq]
    have T := tileAt_col arg2 harg2 arg6 harg6 arg8 harg8 arg9 harg9 arg10 harg10 x0 x1 s za zb zt n b X W Z S H hX ⟨N, by rw [trips2]; omega⟩
    rw [T 4, T 3, T 2, T 1, T 0]
    show ((((st_k0_t2 (F := Ideal) Variants.none c none i arg1 harg1 arg2 harg2 arg3 harg3 arg4 harg4 arg5 harg5 arg6 harg6 arg7 harg7 arg8 harg8 arg9 harg9 arg10 harg10 arg11 harg11 cst
      (harg2.unread x1) (harg6.unread (XP x0)) (harg8.unread s) (harg9.unread za) (harg10.unread zb) init N (ix2 b n) + tsum X W Z S (5 * N)) + tsum X W Z S (5 * N + 1)) + tsum X W Z S (5 * N + 2)) + tsum X W Z S (5 * N + 3)) + tsum X W Z S (5 * N + 4) = _
    rw [ih (by omega), show 5 * (N + 1) = 5 * N + 1 + 1 + 1 + 1 + 1 from by omega]
    rw [Finset.sum_range_succ, Finset.sum_range_succ, Finset.sum_range_succ, Finset.sum_range_succ, Finset.sum_range_succ]
    simp only [add_assoc]

/-- The body's output buffer ends, in a column whose tables are as they should be, at the sum. -/
theorem rest_col (H : ColFacts x1 s za zb zt n W Z S) (hX : ∀ k (h : k < 14592), x0 (ix2 b ⟨k, h⟩) = X k) (hc : cst = 0) (f : arg5.view.ty.Contents (Elt Ideal)) :
    arg5.view.read (Elt Ideal) (arg5.view.writes (Elt Ideal) f
      (restRun (F := Ideal) c i arg1 harg1 arg2 harg2 arg3 harg3 arg4 harg4 arg5 harg5 arg6 harg6 arg7 harg7 arg8 harg8 arg9 harg9 arg10 harg10 arg11 harg11 cst x1 (XP x0) s za zb zt).1) (ix2 b n)
      = ∑ k : Fin 14592, X k.val * cv W Z S k.val := by
  rw [rest_eq]
  refine (View.read_writes_cons_unit_of_mem arg5.view f _ _ [] (ix2 b n) (ix2 b n) rfl (fun a => by fin_cases a <;> simp)).trans ?_
  refine (tileLast_col arg2 harg2 arg6 harg6 arg8 harg8 arg9 harg9 arg10 harg10 arg11 harg11 x0 x1 s za zb zt n b X W Z S H hX 1 _).trans ?_
  rw [tileLast_col arg2 harg2 arg6 harg6 arg8 harg8 arg9 harg9 arg10 harg10 arg11 harg11 x0 x1 s za zb zt n b X W Z S H hX 0,
    loop_col arg2 harg2 arg6 harg6 arg8 harg8 arg9 harg9 arg10 harg10 arg11 harg11 x0 x1 s za zb zt n b X W Z S c i arg1 harg1 arg3 harg3 arg4 harg4 arg5 harg5 arg7 harg7 cst H hX _ 11 (le_refl _)]
  rw [show k0_pay431 cst (ix2 b n) = (0 : EReal) from by rw [hc]; rfl, zero_add]
  rw [← sum_place fun k => X k * cv W Z S k]
  have e : ∑ T ∈ Finset.range 57, tsum X W Z S T = ∑ T ∈ Finset.range 55, tsum X W Z S T + tsum X W Z S 55 + tsum X W Z S 56 :=
    (Finset.sum_range_succ (fun T => tsum X W Z S T) 56).trans (by rw [Finset.sum_range_succ (fun T => tsum X W Z S T) 55])
  exact e.symm

end

end Cert.KernelIdeal.Body

end
-- ==== Proof.KernelIdeal.PermArr.lean ====
/-
  The buffer of the permuted input after the first grid point: every store writes the permuted input's elements, and the stores
  cover the buffer.
-/
module

public import proofs.«01_k».proof.Proof.KernelIdeal.PermValue

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable (i : grid0.Coords) (hc : cond0_0 i) (arg1 : Memref sig .tc .vmem S192x14592 .bf16) (harg1 : arg1.IsWhole) (x0 : Vec Ideal S192x14592 .bf16)

theorem cols_apply (off : Fin 2 → ℕ) (inb : ∀ a, off a + S192x128.size a ≤ S192x14592.size a) (c : ℕ) (h : off = ![0, c]) (hc' : c + 128 ≤ 14592) (b : Fin 192) (l : Fin 128) :
    View.readAt (Elt Ideal) arg1.view (Rect.unit (s := S192x14592) off S192x128.size inb).toLoadRect (harg1.unread x0) (ix2 b l) = x0 (ix2 b ⟨c + l.val, by omega⟩) := by
  subst h
  rw [View.readAt_eq_ld, Memref.IsWhole.read_unread]
  simp only [pointwise]
  congr 1
  funext a
  fin_cases a
  · apply Fin.ext; simp
  · apply Fin.ext; simp

theorem colsAt_apply (k : Fin k0_t1_loop.trips) (hk : k.val < 11) (h : Fin 2) (u : Fin 5) (b : Fin 192) (l : Fin 128) :
    colsAt (F := Ideal) i hc arg1 (harg1.unread x0) k h u (ix2 b l) = x0 (ix2 b ⟨1280 * k.val + 640 * h.val + 128 * u.val + l.val, by omega⟩) :=
  cols_apply arg1 harg1 x0 _ _ _ (k0_off1_eq k h u) (by omega) b l

theorem colsLast_apply (u : Fin 5) (hu : u.val < 4) (b : Fin 192) (l : Fin 128) :
    colsLast (F := Ideal) arg1 (harg1.unread x0) u (ix2 b l) = x0 (ix2 b ⟨14080 + 128 * u.val + l.val, by omega⟩) :=
  cols_apply arg1 harg1 x0 _ _ _ (by rw [show min u.val 3 = u.val from by omega]) (by omega) b l

theorem perm_at (k : Fin k0_t1_loop.trips) (hk : k.val < 11) (h : Fin 2) (p : Fin 5) (v : ℕ) (hv : v = 10 * k.val + 5 * h.val + p.val) (b : Fin 192) (l : Fin 128) :
    perm (F := Ideal) (colsAt i hc arg1 (harg1.unread x0) k h) p.val (ix3 0 b l) = x0 (ix2 b ⟨place (128 * v + l.val), place_lt _ (by omega)⟩) := by
  rw [perm_apply, colsAt_apply i hc arg1 harg1 x0 k hk]
  congr 2
  apply Fin.ext
  have hs := (src_range p l).1
  have := place_block k.val h.val (128 * p.val + l.val) hk h.isLt (by omega)
  show _ = place _
  rw [show 128 * v + l.val = 1280 * k.val + 640 * h.val + (128 * p.val + l.val) from by omega, this]
  show 1280 * k.val + 640 * h.val + 128 * (srcN (128 * p.val + l.val) / 128) + srcN (128 * p.val + l.val) % 128 = _
  omega

theorem permTail_at (p : Fin 4) (b : Fin 192) (l : Fin 128) :
    permTail (F := Ideal) (colsLast arg1 (harg1.unread x0)) p.val (ix3 0 b l) = x0 (ix2 b ⟨place (128 * (110 + p.val) + l.val), place_lt _ (by omega)⟩) := by
  have hs := (srcT_range p l).1
  rw [permTail_apply, colsLast_apply arg1 harg1 x0 _ (by show _ / 128 < 4; omega)]
  congr 2
  apply Fin.ext
  have := place_last (128 * p.val + l.val) (by omega)
  show _ = place _
  rw [show 128 * (110 + p.val) + l.val = 14080 + (128 * p.val + l.val) from by omega, this]
  show 14080 + 128 * (srcT (128 * p.val + l.val) / 128) + srcT (128 * p.val + l.val) % 128 = _
  omega

/-- Both pieces of a tile hold the permuted input's elements. -/
theorem tilePieces_agree (k : Fin k0_t1_loop.trips) (hk : k.val < 11) (t : Fin 5) :
    ∀ p ∈ tilePieces (F := Ideal) i hc arg1 (harg1.unread x0) k t, ∀ x, p.2 x = XP x0 (p.1.emb x) := by
  intro p hp
  simp only [tilePieces, List.mem_cons, List.not_mem_nil, or_false] at hp
  rcases hp with rfl | rfl
  · exact fun x => piece_agree x0 _ (k0_off3_inb i k hc t) _ (2 * (5 * k.val + t.val) + 1) (by omega)
      ((k0_off3_eq k t).trans (by rw [show (2 * (5 * k.val + t.val) + 1) / 2 = 5 * k.val + t.val from by omega, show (2 * (5 * k.val + t.val) + 1) % 2 = 1 from by omega]))
      (perm_at i hc arg1 harg1 x0 k hk ⟨(2 * t.val + 1) / 5, by omega⟩ ⟨(2 * t.val + 1) % 5, by omega⟩ _ (by show _ = 10 * k.val + 5 * ((2 * t.val + 1) / 5) + (2 * t.val + 1) % 5; omega)) x
  · exact fun x => piece_agree x0 _ (k0_off2_inb i k hc t) _ (2 * (5 * k.val + t.val)) (by omega)
      ((k0_off2_eq k t).trans (by rw [show (2 * (5 * k.val + t.val)) / 2 = 5 * k.val + t.val from by omega, show (2 * (5 * k.val + t.val)) % 2 = 0 from by omega]))
      (perm_at i hc arg1 harg1 x0 k hk ⟨(2 * t.val) / 5, by omega⟩ ⟨(2 * t.val) % 5, by omega⟩ _ (by show _ = 10 * k.val + 5 * ((2 * t.val) / 5) + (2 * t.val) % 5; omega)) x

theorem lastPiece_agree (v : Fin 4) : ∀ x, (lastPiece (F := Ideal) arg1 (harg1.unread x0) v).2 x = XP x0 ((lastPiece (F := Ideal) arg1 (harg1.unread x0) v).1.emb x) :=
  fun x => piece_agree x0 _ (tileLit_inb _ (by omega) _ (by omega)) _ (110 + v.val) (by omega)
    (by rw [show (110 + v.val) / 2 = 55 + v.val / 2 from by omega, show (110 + v.val) % 2 = v.val % 2 from by omega]) (permTail_at arg1 harg1 x0 v) x

theorem half_mem (off : Fin 3 → ℕ) (inb : ∀ a, off a + S1x192x128.size a ≤ S57x192x256.size a) (t j : ℕ) (hoff : off = ![t, 0, 128 * j]) (y : S57x192x256.Idx)
    (ht : (y 0).val = t) (hj : (y 2).val / 128 = j) : y ∈ (Rect.unit (s := S57x192x256) off S1x192x128.size inb).set := by
  subst hoff
  rw [Rect.mem_set_unit]
  intro a
  have h1 : (y 1).val < 192 := (y 1).isLt
  fin_cases a
  · show t ≤ (y 0).val ∧ (y 0).val < t + 1; omega
  · show 0 ≤ (y 1).val ∧ (y 1).val < 0 + 192; omega
  · show 128 * j ≤ (y 2).val ∧ (y 2).val < 128 * j + 128; omega

theorem tilePieces_mem (k : Fin k0_t1_loop.trips) (t : Fin 5) (y : S57x192x256.Idx) (hy : (y 0).val = 5 * k.val + t.val) :
    ∃ p ∈ tilePieces (F := Ideal) i hc arg1 (harg1.unread x0) k t, y ∈ p.1.set := by
  have h2 : (y 2).val < 256 := (y 2).isLt
  by_cases h : (y 2).val < 128
  · exact ⟨_, List.mem_cons_of_mem _ List.mem_cons_self, half_mem _ (k0_off2_inb i k hc t) (5 * k.val + t.val) 0 ((k0_off2_eq k t).trans rfl) y hy (by omega)⟩
  · exact ⟨_, List.mem_cons_self, half_mem _ (k0_off3_inb i k hc t) (5 * k.val + t.val) 1 ((k0_off3_eq k t).trans rfl) y hy (by omega)⟩

theorem lastPiece_mem (v : Fin 4) (y : S57x192x256.Idx) (hy : (y 0).val = 55 + v.val / 2) (h2 : (y 2).val / 128 = v.val % 2) : y ∈ (lastPiece (F := Ideal) arg1 (harg1.unread x0) v).1.set :=
  half_mem _ (tileLit_inb _ (by omega) _ (by omega)) _ _ rfl y hy h2

variable (c : Dev nD)
    (arg2 : Memref sig .tc .vmem S1460x512 .i32) (harg2 : arg2.IsWhole) (arg3 : Memref sig .tc .vmem S114x512 .bf16) (harg3 : arg3.IsWhole) (arg4 : Memref sig .tc .vmem S114x295 .i32) (harg4 : arg4.IsWhole)
    (arg5 : Memref sig .tc .vmem S192x512 .bf16) (harg5 : arg5.IsWhole) (arg6 : Memref sig .tc .vmem S57x192x256 .bf16) (harg6 : arg6.IsWhole) (arg7 : Memref sig .tc .vmem S120x3072 .i32) (harg7 : arg7.IsWhole)
    (arg8 : Memref sig .tc .vmem S120x512 .f32) (harg8 : arg8.IsWhole) (arg9 : Memref sig .tc .vmem S120x512 .i32) (harg9 : arg9.IsWhole) (arg10 : Memref sig .tc .vmem S120x512 .i32) (harg10 : arg10.IsWhole) (arg11 : Memref sig .tc .vmem S120x512 .i32) (harg11 : arg11.IsWhole)

theorem trips1 : k0_t1_loop.trips = 11 := by decide +kernel

/-- The superblocks' pieces hold the permuted input's elements, and cover the tiles of the superblocks run. -/
theorem pb_facts (n : ℕ) (hn : n ≤ 11) :
    (∀ p ∈ pb_k0_t1 (F := Ideal) Variants.none c none i arg1 harg1 arg2 harg2 arg3 harg3 arg4 harg4 arg5 harg5 arg6 harg6 arg7 harg7 arg8 harg8 arg9 harg9 arg10 harg10 arg11 harg11 hc (harg1.unread x0) n,
      ∀ x, p.2 x = XP x0 (p.1.emb x)) ∧
    ∀ y : S57x192x256.Idx, (y 0).val < 5 * n →
      ∃ p ∈ pb_k0_t1 (F := Ideal) Variants.none c none i arg1 harg1 arg2 harg2 arg3 harg3 arg4 harg4 arg5 harg5 arg6 harg6 arg7 harg7 arg8 harg8 arg9 harg9 arg10 harg10 arg11 harg11 hc (harg1.unread x0) n,
        y ∈ p.1.set := by
  induction n with
  | zero => exact ⟨fun p hp => absurd hp List.not_mem_nil, fun y hy => absurd hy (by omega)⟩
  | succ n ih =>
    obtain ⟨ih1, ih2⟩ := ih (by omega)
    have hs := pb_k0_t1_succ (F := Ideal) Variants.none c none i arg1 harg1 arg2 harg2 arg3 harg3 arg4 harg4 arg5 harg5 arg6 harg6 arg7 harg7 arg8 harg8 arg9 harg9 arg10 harg10 arg11 harg11 hc (harg1.unread x0)
      (⟨n, by rw [trips1]; omega⟩ : Fin k0_t1_loop.trips)
    simp only [] at hs
    rw [hs, tripL_eq]
    constructor
    · intro p hp
      simp only [List.mem_append] at hp
      rcases hp with (h | h | h | h | h) | h
      · exact tilePieces_agree i hc arg1 harg1 x0 _ (by show n < 11; omega) _ p h
      · exact tilePieces_agree i hc arg1 harg1 x0 _ (by show n < 11; omega) _ p h
      · exact tilePieces_agree i hc arg1 harg1 x0 _ (by show n < 11; omega) _ p h
      · exact tilePieces_agree i hc arg1 harg1 x0 _ (by show n < 11; omega) _ p h
      · exact tilePieces_agree i hc arg1 harg1 x0 _ (by show n < 11; omega) _ p h
      · exact ih1 p h
    · intro y hy
      by_cases h : (y 0).val < 5 * n
      · obtain ⟨p, hp, hm⟩ := ih2 y h
        exact ⟨p, List.mem_append_right _ hp, hm⟩
      · obtain ⟨p, hp, hm⟩ := tilePieces_mem i hc arg1 harg1 x0 (⟨n, by rw [trips1]; omega⟩ : Fin k0_t1_loop.trips) ⟨(y 0).val - 5 * n, by omega⟩ y (by show _ = 5 * n + ((y 0).val - 5 * n); omega)
        refine ⟨p, List.mem_append_left _ ?_, hm⟩
        simp only [List.mem_append]
        have h5 : ((⟨(y 0).val - 5 * n, by omega⟩ : Fin 5) = 4 ∨ (⟨(y 0).val - 5 * n, by omega⟩ : Fin 5) = 3 ∨ (⟨(y 0).val - 5 * n, by omega⟩ : Fin 5) = 2 ∨ (⟨(y 0).val - 5 * n, by omega⟩ : Fin 5) = 1 ∨ (⟨(y 0).val - 5 * n, by omega⟩ : Fin 5) = 0) := by
          simp only [Fin.ext_iff]; show _ - _ = 4 ∨ _ - _ = 3 ∨ _ - _ = 2 ∨ _ - _ = 1 ∨ _ - _ = 0; omega
        rcases h5 with e | e | e | e | e
        · exact Or.inl (e ▸ hp)
        · exact Or.inr (Or.inl (e ▸ hp))
        · exact Or.inr (Or.inr (Or.inl (e ▸ hp)))
        · exact Or.inr (Or.inr (Or.inr (Or.inl (e ▸ hp))))
        · exact Or.inr (Or.inr (Or.inr (Or.inr (e ▸ hp))))

/-- After the first grid point the buffer holds the permuted input, whatever it held before. -/
theorem prefA_x_read (x2 : Vec Ideal S114x512 .bf16) (x3 : Vec Ideal S114x295 .i32) (xp : Vec Ideal S57x192x256 .bf16) (z : Vec Ideal S120x3072 .i32) (s : Vec Ideal S120x512 .f32) (za : Vec Ideal S120x512 .i32) (zb : Vec Ideal S120x512 .i32) (zt : Vec Ideal S120x512 .i32)
    (f : arg6.view.ty.Contents (Elt Ideal)) :
    arg6.view.read (Elt Ideal) (arg6.view.writes (Elt Ideal) f
      (prefA (F := Ideal) c i arg1 harg1 arg2 harg2 arg3 harg3 arg4 harg4 arg5 harg5 arg6 harg6 arg7 harg7 arg8 harg8 arg9 harg9 arg10 harg10 arg11 harg11 hc x0 x2 x3 xp z s za zb zt).1) = XP x0 := by
  obtain ⟨h1, h2⟩ := pb_facts i hc arg1 harg1 x0 c arg2 harg2 arg3 harg3 arg4 harg4 arg5 harg5 arg6 harg6 arg7 harg7 arg8 harg8 arg9 harg9 arg10 harg10 arg11 harg11 11 (by omega)
  rw [prefA_x]
  funext y
  refine read_of_agree arg6.view f (XP x0) y _ ?_ ?_
  · intro p hp
    simp only [List.mem_cons] at hp
    rcases hp with rfl | rfl | rfl | rfl | hp
    · exact lastPiece_agree arg1 harg1 x0 3
    · exact lastPiece_agree arg1 harg1 x0 2
    · exact lastPiece_agree arg1 harg1 x0 1
    · exact lastPiece_agree arg1 harg1 x0 0
    · exact h1 p hp
  · have h0 : (y 0).val < 57 := (y 0).isLt
    have hj : (y 2).val < 256 := (y 2).isLt
    by_cases h : (y 0).val < 55
    · obtain ⟨p, hp, hm⟩ := h2 y (by omega)
      exact ⟨p, List.mem_cons_of_mem _ (List.mem_cons_of_mem _ (List.mem_cons_of_mem _ (List.mem_cons_of_mem _ hp))), hm⟩
    · have hv : ((y 0).val = 55 + 3 / 2 ∧ (y 2).val / 128 = 3 % 2) ∨ ((y 0).val = 55 + 2 / 2 ∧ (y 2).val / 128 = 2 % 2) ∨ ((y 0).val = 55 + 1 / 2 ∧ (y 2).val / 128 = 1 % 2) ∨ ((y 0).val = 55 + 0 / 2 ∧ (y 2).val / 128 = 0 % 2) := by omega
      rcases hv with ⟨e, e'⟩ | ⟨e, e'⟩ | ⟨e, e'⟩ | ⟨e, e'⟩
      · exact ⟨_, List.mem_cons_self, lastPiece_mem arg1 harg1 x0 3 y e e'⟩
      · exact ⟨_, List.mem_cons_of_mem _ List.mem_cons_self, lastPiece_mem arg1 harg1 x0 2 y e e'⟩
      · exact ⟨_, List.mem_cons_of_mem _ (List.mem_cons_of_mem _ List.mem_cons_self), lastPiece_mem arg1 harg1 x0 1 y e e'⟩
      · exact ⟨_, List.mem_cons_of_mem _ (List.mem_cons_of_mem _ (List.mem_cons_of_mem _ List.mem_cons_self)), lastPiece_mem arg1 harg1 x0 0 y e e'⟩

end Cert.KernelIdeal.Body

end
-- ==== Proof.KernelIdeal.ZerosEq.lean ====
/-
  What the other scratch buffers hold: the unpacked zero points, the scales, and the zero points under the exponents of the codes.
-/
module

public import proofs.«01_k».proof.Proof.KernelIdeal.PermArr
public import proofs.«01_k».proof.Proof.KernelIdeal.PrefB
public import proofs.«01_k».proof.Proof.KernelIdeal.Weight

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable (i : grid0.Coords)  (c : Dev nD) (arg1 : Memref sig .tc .vmem S192x14592 .bf16) (harg1 : arg1.IsWhole)
    (arg2 : Memref sig .tc .vmem S1460x512 .i32) (harg2 : arg2.IsWhole) (arg3 : Memref sig .tc .vmem S114x512 .bf16) (harg3 : arg3.IsWhole) (arg4 : Memref sig .tc .vmem S114x295 .i32) (harg4 : arg4.IsWhole)
    (arg5 : Memref sig .tc .vmem S192x512 .bf16) (harg5 : arg5.IsWhole) (arg6 : Memref sig .tc .vmem S57x192x256 .bf16) (harg6 : arg6.IsWhole) (arg7 : Memref sig .tc .vmem S120x3072 .i32) (harg7 : arg7.IsWhole)
    (arg8 : Memref sig .tc .vmem S120x512 .f32) (harg8 : arg8.IsWhole) (arg9 : Memref sig .tc .vmem S120x512 .i32) (harg9 : arg9.IsWhole) (arg10 : Memref sig .tc .vmem S120x512 .i32) (harg10 : arg10.IsWhole) (arg11 : Memref sig .tc .vmem S120x512 .i32) (harg11 : arg11.IsWhole)
    (x0 : Vec Ideal S192x14592 .bf16) (x2 : Vec Ideal S114x512 .bf16) (x3 : Vec Ideal S114x295 .i32) (xp : Vec Ideal S57x192x256 .bf16) (z : Vec Ideal S120x3072 .i32) (s : Vec Ideal S120x512 .f32) (za : Vec Ideal S120x512 .i32) (zb : Vec Ideal S120x512 .i32) (zt : Vec Ideal S120x512 .i32)

theorem zWide_inb (j : ℕ) (h : j < 9) : ∀ a, (![0, 295 * j] : Fin 2 → ℕ) a + S114x295.size a ≤ S120x3072.size a := by
  intro a; fin_cases a
  · show 0 + 114 ≤ 120; omega
  · show 295 * j + 295 ≤ 3072; omega

/-- The packed zero points' field `j`. -/
def zWideV (j : ℕ) : S114x295.Idx → BitVec 32 :=
  shapeCast S114x295 (andi (shrsi (View.readAt (Elt Ideal) arg4.view (Rect.unit (s := S114x295) ![0, 0] S114x295.size inb_S114x295_S114x295_0_0).toLoadRect (harg4.unread x3)) (broadcast S114x295 (BitVec.ofNat 32 (3 * j)))) (broadcast S114x295 7#32))
    shapeCasts_S114x295_S114x295

/-- The packed zero points' last field. -/
def zLastV : S114x289.Idx → BitVec 32 :=
  shapeCast S114x289 (andi (shrsi (View.readAt (Elt Ideal) arg4.view (Rect.unit (s := S114x295) ![0, 0] S114x289.size inb_S114x295_S114x289_0_0).toLoadRect (harg4.unread x3)) (broadcast S114x289 27#32)) (broadcast S114x289 7#32))
    shapeCasts_S114x289_S114x289

theorem zWideV_apply (j : ℕ) (g : Fin 114) (q : Fin 295) :
    zWideV arg4 harg4 x3 j (ix2 g q) = IntOp.andi (IntOp.shrsi .vector (x3 (ix2 g q)) (BitVec.ofNat 32 (3 * j))) 7#32 := by
  unfold zWideV
  rw [View.readAt_eq_ld, Memref.IsWhole.read_unread]
  simp only [pointwise]
  congr 2
  congr 1
  funext a; fin_cases a <;> apply Fin.ext <;> simp

theorem zLastV_apply (g : Fin 114) (q : Fin 289) :
    zLastV arg4 harg4 x3 (ix2 g q) = IntOp.andi (IntOp.shrsi .vector (x3 (ix2 g ⟨q.val, by omega⟩)) (BitVec.ofNat 32 (3 * 9))) 7#32 := by
  unfold zLastV
  rw [View.readAt_eq_ld, Memref.IsWhole.read_unread]
  simp only [pointwise]
  congr 2
  congr 1
  funext a; fin_cases a <;> apply Fin.ext <;> simp

/-- Field `j` of the packed zero points, stored side by side. -/
def zWide (j : ℕ) (h : j < 9) : View.Piece (Elt Ideal) S120x3072 .i32 :=
  ⟨Rect.unit (s := S120x3072) ![0, 295 * j] S114x295.size (zWide_inb j h),
    zWideV arg4 harg4 x3 j⟩

/-- The last field, as far as there are columns. -/
def zLast : View.Piece (Elt Ideal) S120x3072 .i32 :=
  ⟨Rect.unit (s := S120x3072) ![0, 2655] S114x289.size inb_S120x3072_S114x289_0_2655,
    zLastV arg4 harg4 x3⟩

set_option maxHeartbeats 4000000 in
theorem prefA_z (hc : cond0_0 i) :
    (prefA (F := Ideal) c i arg1 harg1 arg2 harg2 arg3 harg3 arg4 harg4 arg5 harg5 arg6 harg6 arg7 harg7 arg8 harg8 arg9 harg9 arg10 harg10 arg11 harg11 hc x0 x2 x3 xp z s za zb zt).2.1
      = [zLast arg4 harg4 x3, zWide arg4 harg4 x3 8 (by decide), zWide arg4 harg4 x3 7 (by decide), zWide arg4 harg4 x3 6 (by decide), zWide arg4 harg4 x3 5 (by decide), zWide arg4 harg4 x3 4 (by decide),
          zWide arg4 harg4 x3 3 (by decide), zWide arg4 harg4 x3 2 (by decide), zWide arg4 harg4 x3 1 (by decide), zWide arg4 harg4 x3 0 (by decide)] := by
  unfold prefA
  rfl

/-- The unpacked zero points, where there are any. -/
def zeroT : S120x3072.Idx → BitVec 32 := fun y => (field (x3 (ix2 ⟨(y 0).val % 114, by omega⟩ ⟨(y 1).val % 295, by omega⟩)) ((y 1).val / 295)).setWidth 32

theorem z_agree (off : Fin 2 → ℕ) (N : ℕ) (hN : N ≤ 295) (inb : ∀ a, off a + (![114, N] : Fin 2 → ℕ) a ≤ S120x3072.size a) (w : (⟨2, ![114, N]⟩ : Shape).Idx → BitVec 32) (j : ℕ) (hj : j < 10) (hoff : off = ![0, 295 * j])
    (hw : ∀ (g : Fin 114) (q : Fin N), w (ix2 g q) = IntOp.andi (IntOp.shrsi .vector (x3 (ix2 g ⟨q.val, by omega⟩)) (BitVec.ofNat 32 (3 * j))) 7#32) (x : (⟨2, ![114, N]⟩ : Shape).Idx) :
    w x = zeroT x3 ((Rect.unit (s := S120x3072) off ![114, N] inb).emb x) := by
  obtain ⟨g, q, rfl⟩ : ∃ (g : Fin 114) (q : Fin N), x = (ix2 g q : (⟨2, ![114, N]⟩ : Shape).Idx) := ⟨x 0, x 1, by
    funext a; fin_cases a <;> rfl⟩
  rw [hw, code_eq _ _ j hj]
  subst hoff
  unfold zeroT
  have e0 : ((Rect.unit (s := S120x3072) ![0, 295 * j] ![114, N] inb).emb (ix2 g q) 0).val = g.val := by
    rw [ValueKit.rect_emb_unit_val]; simp
  have e1 : ((Rect.unit (s := S120x3072) ![0, 295 * j] ![114, N] inb).emb (ix2 g q) 1).val = 295 * j + q.val := by
    rw [ValueKit.rect_emb_unit_val]; simp
  simp only [e0, e1]
  have h1 : g.val % 114 = g.val := by omega
  have h2 : (295 * j + q.val) % 295 = q.val := by omega
  have h3 : (295 * j + q.val) / 295 = j := by omega
  simp only [h1, h2, h3]

theorem zWide_agree (j : ℕ) (h : j < 9) (x) : (zWide arg4 harg4 x3 j h).2 x = zeroT x3 ((zWide arg4 harg4 x3 j h).1.emb x) :=
  z_agree x3 _ 295 (by omega) (zWide_inb j h) _ j (by omega) rfl (fun g q => zWideV_apply arg4 harg4 x3 j g q) x

theorem zLast_agree (x) : (zLast arg4 harg4 x3).2 x = zeroT x3 ((zLast arg4 harg4 x3).1.emb x) :=
  z_agree x3 _ 289 (by omega) inb_S120x3072_S114x289_0_2655 _ 9 (by omega) rfl (fun g q => zLastV_apply arg4 harg4 x3 g q) x

/-- After the first grid point the rows and columns in use hold the zero points. -/
theorem prefA_z_read (hc : cond0_0 i) (f : arg7.view.ty.Contents (Elt Ideal)) (y : S120x3072.Idx) (h0 : (y 0).val < 114) (h1 : (y 1).val < 2944) :
    arg7.view.read (Elt Ideal) (arg7.view.writes (Elt Ideal) f
      (prefA (F := Ideal) c i arg1 harg1 arg2 harg2 arg3 harg3 arg4 harg4 arg5 harg5 arg6 harg6 arg7 harg7 arg8 harg8 arg9 harg9 arg10 harg10 arg11 harg11 hc x0 x2 x3 xp z s za zb zt).2.1) y = zeroT x3 y := by
  rw [prefA_z]
  refine read_of_agree arg7.view f (zeroT x3) y _ ?_ ?_
  · intro p hp
    simp only [List.mem_cons, List.not_mem_nil, or_false] at hp
    rcases hp with rfl | rfl | rfl | rfl | rfl | rfl | rfl | rfl | rfl | rfl
    · exact zLast_agree arg4 harg4 x3
    all_goals exact zWide_agree arg4 harg4 x3 _ _
  · have hm : ∀ (j : ℕ) (h : j < 9), (y 1).val / 295 = j → y ∈ (zWide arg4 harg4 x3 j h).1.set := by
      intro j h e
      unfold zWide
      rw [Rect.mem_set_unit]
      intro a; fin_cases a
      · show 0 ≤ (y 0).val ∧ (y 0).val < 0 + 114; omega
      · show 295 * j ≤ (y 1).val ∧ (y 1).val < 295 * j + 295; omega
    have hl : (y 1).val / 295 = 9 → y ∈ (zLast arg4 harg4 x3).1.set := by
      intro e
      unfold zLast
      rw [Rect.mem_set_unit]
      intro a; fin_cases a
      · show 0 ≤ (y 0).val ∧ (y 0).val < 0 + 114; omega
      · show 2655 ≤ (y 1).val ∧ (y 1).val < 2655 + 289; omega
    have hq : (y 1).val / 295 < 10 := by omega
    obtain ⟨q, hqe⟩ : ∃ q, (y 1).val / 295 = q := ⟨_, rfl⟩
    rw [hqe] at hq
    simp only [List.exists_mem_cons_iff, List.not_mem_nil, false_and, exists_false, or_false]
    interval_cases q
    · simp only [hm 0 (by decide) hqe, or_true]
    · simp only [hm 1 (by decide) hqe, or_true, true_or]
    · simp only [hm 2 (by decide) hqe, or_true, true_or]
    · simp only [hm 3 (by decide) hqe, or_true, true_or]
    · simp only [hm 4 (by decide) hqe, or_true, true_or]
    · simp only [hm 5 (by decide) hqe, or_true, true_or]
    · simp only [hm 6 (by decide) hqe, or_true, true_or]
    · simp only [hm 7 (by decide) hqe, or_true, true_or]
    · simp only [hm 8 (by decide) hqe, or_true, true_or]
    · simp only [hl hqe, true_or]

/-- The columns of a grid point of the zero points' buffer. -/
def zCols (Z : arg7.view.ty.Contents (Elt Ideal)) : Vec Ideal S120x512 .i32 :=
  View.readAt (Elt Ideal) arg7.view (Rect.unit (s := S120x3072) (k0_off4 i) S120x512.size (k0_off4_inb i)).toLoadRect Z

theorem zCols_apply (Z : arg7.view.ty.Contents (Elt Ideal)) (g : Fin 120) (n : Fin 512) :
    zCols i arg7 Z (ix2 g n) = arg7.view.read (Elt Ideal) Z (ix2 g ⟨512 * (i 0).val + n.val, by have h : (i 0).val < 6 := (i 0).isLt; omega⟩) := by
  have inb : ∀ a, (![0, 512 * (i 0).val] : Fin 2 → ℕ) a + S120x512.size a ≤ S120x3072.size a := fun a => by
    rw [← k0_off4_eq i]; exact k0_off4_inb i a
  have e : zCols i arg7 Z = View.readAt (Elt Ideal) arg7.view (Rect.unit (s := S120x3072) ![0, 512 * (i 0).val] S120x512.size inb).toLoadRect Z := by
    unfold zCols
    congr 2
    congr 1
    exact k0_off4_eq i
  rw [e, View.readAt_eq_ld]
  simp only [pointwise]
  congr 1
  funext a; fin_cases a <;> apply Fin.ext <;> simp

/-- The scales' rows. -/
def sRows : Vec Ideal S114x512 .bf16 :=
  View.readAt (Elt Ideal) arg3.view (Rect.unit (s := S114x512) ![0, 0] S114x512.size inb_S114x512_S114x512_0_0).toLoadRect (harg3.unread x2)

theorem sRows_apply (g : Fin 114) (n : Fin 512) : k0_pay430 (F := Ideal) (sRows arg3 harg3 x2) (ix2 g n) = x2 (ix2 g n) := by
  unfold k0_pay430 sRows
  rw [View.readAt_eq_ld, Memref.IsWhole.read_unread]
  simp only [pointwise]
  show x2 _ = _
  congr 1
  funext a; fin_cases a <;> apply Fin.ext <;> simp

/-- What a whole store left. -/
theorem whole_read {e : EltTy} (m : Memref sig .tc .vmem S120x512 e) (f : m.view.ty.Contents (Elt Ideal)) (inb : ∀ a, (![0, 0] : Fin 2 → ℕ) a + S120x512.size a ≤ S120x512.size a) (w : S120x512.Idx → Elt Ideal e) (g : Fin 120) (n : Fin 512) :
    m.view.read (Elt Ideal) (m.view.writes (Elt Ideal) f [⟨Rect.unit (s := S120x512) ![0, 0] S120x512.size inb, w⟩]) (ix2 g n) = w (ix2 g n) :=
  View.read_writes_cons_unit_of_mem m.view f inb w [] (ix2 g n) (ix2 g n) rfl (fun a => by fin_cases a <;> simp)

/-- What the scales' store left, in the rows it stores. -/
theorem rows_read (m : Memref sig .tc .vmem S120x512 .f32) (f : m.view.ty.Contents (Elt Ideal)) (inb : ∀ a, (![0, 0] : Fin 2 → ℕ) a + S114x512.size a ≤ S120x512.size a) (w : S114x512.Idx → Elt Ideal .f32) (g : Fin 114) (n : Fin 512) :
    m.view.read (Elt Ideal) (m.view.writes (Elt Ideal) f [⟨Rect.unit (s := S120x512) ![0, 0] S114x512.size inb, w⟩]) (ix2 ⟨g.val, by omega⟩ n) = w (ix2 g n) :=
  View.read_writes_cons_unit_of_mem m.view f inb w [] (ix2 ⟨g.val, by omega⟩ n) (ix2 g n) rfl (fun a => by fin_cases a <;> simp)

theorem pay427_apply (v : Vec Ideal S120x512 .i32) (j : S120x512.Idx) : k0_pay427 (F := Ideal) v j = packed true (v j) := by
  unfold k0_pay427; simp only [pointwise]; rfl
theorem pay428_apply (v : Vec Ideal S120x512 .i32) (j : S120x512.Idx) : k0_pay428 (F := Ideal) v j = packed false (v j) := by
  unfold k0_pay428; simp only [pointwise]; rfl
theorem pay429_apply (v : Vec Ideal S120x512 .i32) (j : S120x512.Idx) : k0_pay429 (F := Ideal) v j = v j * 65537#32 + 1124090624#32 := by
  unfold k0_pay429; simp only [pointwise]; rfl

set_option maxHeartbeats 4000000 in
/-- The later scratch buffers' stores, at the first point. -/
theorem prefA_rest (hc : cond0_0 i) :
    (prefA (F := Ideal) c i arg1 harg1 arg2 harg2 arg3 harg3 arg4 harg4 arg5 harg5 arg6 harg6 arg7 harg7 arg8 harg8 arg9 harg9 arg10 harg10 arg11 harg11 hc x0 x2 x3 xp z s za zb zt).2.2.1
        = [⟨Rect.unit (s := S120x512) ![0, 0] S114x512.size inb_S120x512_S114x512_0_0, k0_pay430 (sRows arg3 harg3 x2)⟩] ∧
    (prefA (F := Ideal) c i arg1 harg1 arg2 harg2 arg3 harg3 arg4 harg4 arg5 harg5 arg6 harg6 arg7 harg7 arg8 harg8 arg9 harg9 arg10 harg10 arg11 harg11 hc x0 x2 x3 xp z s za zb zt).2.2.2.1
        = [⟨Rect.unit (s := S120x512) ![0, 0] S120x512.size inb_S120x512_S120x512_0_0, k0_pay427 (zCols i arg7 (arg7.view.writes (Elt Ideal) (harg7.unread z)
          (prefA (F := Ideal) c i arg1 harg1 arg2 harg2 arg3 harg3 arg4 harg4 arg5 harg5 arg6 harg6 arg7 harg7 arg8 harg8 arg9 harg9 arg10 harg10 arg11 harg11 hc x0 x2 x3 xp z s za zb zt).2.1))⟩] ∧
    (prefA (F := Ideal) c i arg1 harg1 arg2 harg2 arg3 harg3 arg4 harg4 arg5 harg5 arg6 harg6 arg7 harg7 arg8 harg8 arg9 harg9 arg10 harg10 arg11 harg11 hc x0 x2 x3 xp z s za zb zt).2.2.2.2.1
        = [⟨Rect.unit (s := S120x512) ![0, 0] S120x512.size inb_S120x512_S120x512_0_0, k0_pay428 (zCols i arg7 (arg7.view.writes (Elt Ideal) (harg7.unread z)
          (prefA (F := Ideal) c i arg1 harg1 arg2 harg2 arg3 harg3 arg4 harg4 arg5 harg5 arg6 harg6 arg7 harg7 arg8 harg8 arg9 harg9 arg10 harg10 arg11 harg11 hc x0 x2 x3 xp z s za zb zt).2.1))⟩] ∧
    (prefA (F := Ideal) c i arg1 harg1 arg2 harg2 arg3 harg3 arg4 harg4 arg5 harg5 arg6 harg6 arg7 harg7 arg8 harg8 arg9 harg9 arg10 harg10 arg11 harg11 hc x0 x2 x3 xp z s za zb zt).2.2.2.2.2.1
        = [⟨Rect.unit (s := S120x512) ![0, 0] S120x512.size inb_S120x512_S120x512_0_0, k0_pay429 (zCols i arg7 (arg7.view.writes (Elt Ideal) (harg7.unread z)
          (prefA (F := Ideal) c i arg1 harg1 arg2 harg2 arg3 harg3 arg4 harg4 arg5 harg5 arg6 harg6 arg7 harg7 arg8 harg8 arg9 harg9 arg10 harg10 arg11 harg11 hc x0 x2 x3 xp z s za zb zt).2.1))⟩] := by
  unfold prefA
  exact ⟨rfl, rfl, rfl, rfl⟩

set_option maxHeartbeats 4000000 in
/-- The same at a later point: the zero points are read as they are. -/
theorem prefB_rest (hc : ¬cond0_0 i) :
    (prefB (F := Ideal) c i arg1 harg1 arg2 harg2 arg3 harg3 arg4 harg4 arg5 harg5 arg6 harg6 arg7 harg7 arg8 harg8 arg9 harg9 arg10 harg10 arg11 harg11 hc x2 z s za zb zt).1
        = [⟨Rect.unit (s := S120x512) ![0, 0] S114x512.size inb_S120x512_S114x512_0_0, k0_pay430 (sRows arg3 harg3 x2)⟩] ∧
    (prefB (F := Ideal) c i arg1 harg1 arg2 harg2 arg3 harg3 arg4 harg4 arg5 harg5 arg6 harg6 arg7 harg7 arg8 harg8 arg9 harg9 arg10 harg10 arg11 harg11 hc x2 z s za zb zt).2.1
        = [⟨Rect.unit (s := S120x512) ![0, 0] S120x512.size inb_S120x512_S120x512_0_0, k0_pay427 (zCols i arg7 (harg7.unread z))⟩] ∧
    (prefB (F := Ideal) c i arg1 harg1 arg2 harg2 arg3 harg3 arg4 harg4 arg5 harg5 arg6 harg6 arg7 harg7 arg8 harg8 arg9 harg9 arg10 harg10 arg11 harg11 hc x2 z s za zb zt).2.2.1
        = [⟨Rect.unit (s := S120x512) ![0, 0] S120x512.size inb_S120x512_S120x512_0_0, k0_pay428 (zCols i arg7 (harg7.unread z))⟩] ∧
    (prefB (F := Ideal) c i arg1 harg1 arg2 harg2 arg3 harg3 arg4 harg4 arg5 harg5 arg6 harg6 arg7 harg7 arg8 harg8 arg9 harg9 arg10 harg10 arg11 harg11 hc x2 z s za zb zt).2.2.2.1
        = [⟨Rect.unit (s := S120x512) ![0, 0] S120x512.size inb_S120x512_S120x512_0_0, k0_pay429 (zCols i arg7 (harg7.unread z))⟩] := by
  unfold prefB
  exact ⟨rfl, rfl, rfl, rfl⟩

end Cert.KernelIdeal.Body

end
-- ==== Proof.KernelIdeal.BodyValue.lean ====
/-
  The body with its values: from blocks of the inputs it leaves, in every column in use, the sum of every input element
  times its weight; the permuted input and the unpacked zero points stay in their buffers for the later points.
-/
module

public import proofs.«01_k».proof.Proof.KernelIdeal.BlockValue
public import proofs.«01_k».proof.Proof.KernelIdeal.ZerosEq

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The unpacked zero points are where they should be. -/
def ZerosOk (x3 : Vec Ideal S114x295 .i32) (z : Vec Ideal S120x3072 .i32) : Prop :=
  ∀ y : S120x3072.Idx, (y 0).val < 114 → (y 1).val < 2944 → z y = zeroT x3 y

/-- The sum a column of a block should hold. -/
def colOut (x0 : Vec Ideal S192x14592 .bf16) (x1 : Vec Ideal S1460x512 .i32) (x2 : Vec Ideal S114x512 .bf16) (x3 : Vec Ideal S114x295 .i32) (b : Fin 192) (n : Fin 512) (q : ℕ) (hq : q < 2944) : EReal :=
  ∑ k : Fin 14592, x0 (ix2 b k) * dq (field (x1 (ix2 ⟨k.val / 10, by omega⟩ n)) (k.val % 10)) (zeroF x3 ⟨grp k.val, grp_lt _⟩ q (by omega)) (x2 (ix2 ⟨grp k.val, grp_lt _⟩ n))

/-- The block is what it should be in the columns in use. -/
def OutOk (i : grid0.Coords) (x0 : Vec Ideal S192x14592 .bf16) (x1 : Vec Ideal S1460x512 .i32) (x2 : Vec Ideal S114x512 .bf16) (x3 : Vec Ideal S114x295 .i32) (o : Vec Ideal S192x512 .bf16) : Prop :=
  ∀ (b : Fin 192) (n : Fin 512) (h : 512 * (i 0).val + n.val < 2944), o (ix2 b n) = colOut x0 x1 x2 x3 b n (512 * (i 0).val + n.val) h

variable (c : Dev nD) (i : grid0.Coords)
  (arg1 : Memref sig .tc .vmem S192x14592 .bf16) (harg1 : arg1.IsWhole)
  (arg2 : Memref sig .tc .vmem S1460x512 .i32) (harg2 : arg2.IsWhole)
  (arg3 : Memref sig .tc .vmem S114x512 .bf16) (harg3 : arg3.IsWhole)
  (arg4 : Memref sig .tc .vmem S114x295 .i32) (harg4 : arg4.IsWhole)
  (arg5 : Memref sig .tc .vmem S192x512 .bf16) (harg5 : arg5.IsWhole)
  (arg6 : Memref sig .tc .vmem S57x192x256 .bf16) (harg6 : arg6.IsWhole)
  (arg7 : Memref sig .tc .vmem S120x3072 .i32) (harg7 : arg7.IsWhole)
  (arg8 : Memref sig .tc .vmem S120x512 .f32) (harg8 : arg8.IsWhole)
  (arg9 : Memref sig .tc .vmem S120x512 .i32) (harg9 : arg9.IsWhole)
  (arg10 : Memref sig .tc .vmem S120x512 .i32) (harg10 : arg10.IsWhole)
  (arg11 : Memref sig .tc .vmem S120x512 .i32) (harg11 : arg11.IsWhole)
  (x0 : Vec Ideal S192x14592 .bf16) (x1 : Vec Ideal S1460x512 .i32) (x2 : Vec Ideal S114x512 .bf16) (x3 : Vec Ideal S114x295 .i32)

/-- A column of the zero points' buffer, by field. -/
theorem zCols_zero (Z : arg7.view.ty.Contents (Elt Ideal)) (hZ : ZerosOk x3 (arg7.view.read (Elt Ideal) Z)) (g : ℕ) (hg : g < 114) (n : Fin 512) (h : 512 * (i 0).val + n.val < 2944) :
    zCols i arg7 Z (ix2 ⟨g, by omega⟩ n) = (zeroF x3 ⟨g, hg⟩ (512 * (i 0).val + n.val) (by omega)).setWidth 32 := by
  rw [zCols_apply, hZ _ hg h]
  unfold zeroT zeroF
  show (field (x3 (ix2 ⟨g % 114, _⟩ ⟨(512 * (i 0).val + n.val) % 295, _⟩)) ((512 * (i 0).val + n.val) / 295)).setWidth 32 = _
  simp only [show g % 114 = g from by omega]

/-- What the body stores is what it should be, when its tables are. -/
theorem rest_out (cst : Ideal .f32) (hcst : cst = 0) (xp : Vec Ideal S57x192x256 .bf16) (hxp : xp = XP x0) (s : Vec Ideal S120x512 .f32) (za zb zt : Vec Ideal S120x512 .i32)
    (Zc : Vec Ideal S120x512 .i32)
    (hs : ∀ (g : Fin 114) (n : Fin 512), s (ix2 ⟨g.val, by omega⟩ n) = x2 (ix2 g n))
    (hza : ∀ (g : Fin 120) (n : Fin 512), za (ix2 g n) = packed true (Zc (ix2 g n)))
    (hzb : ∀ (g : Fin 120) (n : Fin 512), zb (ix2 g n) = packed false (Zc (ix2 g n)))
    (hzt : ∀ (g : Fin 120) (n : Fin 512), zt (ix2 g n) = Zc (ix2 g n) * 65537#32 + 1124090624#32)
    (hZ : ∀ (g : ℕ) (hg : g < 114) (n : Fin 512) (h : 512 * (i 0).val + n.val < 2944), Zc (ix2 ⟨g, by omega⟩ n) = (zeroF x3 ⟨g, hg⟩ (512 * (i 0).val + n.val) (by omega)).setWidth 32)
    (f : arg5.view.ty.Contents (Elt Ideal)) :
    OutOk i x0 x1 x2 x3 (arg5.view.read (Elt Ideal) (arg5.view.writes (Elt Ideal) f
      (restRun (F := Ideal) c i arg1 harg1 arg2 harg2 arg3 harg3 arg4 harg4 arg5 harg5 arg6 harg6 arg7 harg7 arg8 harg8 arg9 harg9 arg10 harg10 arg11 harg11 cst x1 xp s za zb zt).1)) := by
  subst hxp
  intro b n h
  have H : ColFacts x1 s za zb zt n (fun r => if h : r < 1460 then x1 (ix2 ⟨r, h⟩ n) else 0#32)
      (fun g => if hg : g < 114 then zeroF x3 ⟨g, hg⟩ (512 * (i 0).val + n.val) (by omega) else 0#3) (fun g => if hg : g < 114 then x2 (ix2 ⟨g, hg⟩ n) else 0) := by
    refine ⟨?_, ?_, ?_, ?_, ?_⟩
    · intro r hr
      rw [dif_pos hr]
    · intro g hg
      rw [dif_pos hg]
      exact hs ⟨g, hg⟩ n
    · intro g hg
      rw [hza, hZ g hg n h, dif_pos hg]
    · intro g hg
      rw [hzb, hZ g hg n h, dif_pos hg]
    · intro g hg
      rw [hzt, hZ g hg n h, dif_pos hg]
  rw [rest_col arg2 harg2 arg6 harg6 arg8 harg8 arg9 harg9 arg10 harg10 arg11 harg11 x0 x1 s za zb zt n b (fun k => if h : k < 14592 then x0 (ix2 b ⟨k, h⟩) else 0) _ _ _
    c i arg1 harg1 arg3 harg3 arg4 harg4 arg5 harg5 arg7 harg7 cst H (fun k hk => by rw [dif_pos hk]) hcst f]
  unfold colOut
  refine Finset.sum_congr rfl fun k _ => ?_
  have hk := k.isLt
  unfold cv
  simp only [dif_pos hk, dif_pos (grp_lt k.val), dif_pos (show k.val / 10 < 1460 from by omega)]

/-- The body at the first point. -/
theorem body_first (hc : cond0_0 i) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, ⌜OutOk i x0 x1 x2 x3 d⌝ ∗ owns (c : Thread nD τ) arg5 fullShare d)
          ∗ owns (c : Thread nD τ) arg6 fullShare (XP x0) ∗ (∃ d, ⌜ZerosOk x3 d⌝ ∗ owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := Ideal)) Variants.none c none) Set.univ (cc0_gptq_w3_linear i arg1 harg1 arg2 harg2 arg3 harg3 arg4 harg4 arg5 harg5 arg6 harg6 arg7 harg7 arg8 harg8 arg9 harg9 arg10 harg10 arg11 harg11) K := by
  rw [body_eq, wp_bind_eq]
  iintro ⟨H1, H2, H3, H4, ⟨%d5, H5⟩, ⟨%d6, H6⟩, ⟨%d7, H7⟩, ⟨%d8, H8⟩, ⟨%d9, H9⟩, ⟨%d10, H10⟩, ⟨%d11, H11⟩, Hk⟩
  obtain ⟨e8, e9, e10, e11⟩ := prefA_rest i c arg1 harg1 arg2 harg2 arg3 harg3 arg4 harg4 arg5 harg5 arg6 harg6 arg7 harg7 arg8 harg8 arg9 harg9 arg10 harg10 arg11 harg11 x0 x2 x3 d6 d7 d8 d9 d10 d11 hc
  have hxp := prefA_x_read i hc arg1 harg1 x0 c arg2 harg2 arg3 harg3 arg4 harg4 arg5 harg5 arg6 harg6 arg7 harg7 arg8 harg8 arg9 harg9 arg10 harg10 arg11 harg11 x2 x3 d6 d7 d8 d9 d10 d11 (harg6.unread d6)
  have hz : ZerosOk x3 _ := fun y h0 h1 => prefA_z_read i c arg1 harg1 arg2 harg2 arg3 harg3 arg4 harg4 arg5 harg5 arg6 harg6 arg7 harg7 arg8 harg8 arg9 harg9 arg10 harg10 arg11 harg11 x0 x2 x3 d6 d7 d8 d9 d10 d11 hc (harg7.unread d7) y h0 h1
  iapply ((prefA c i arg1 harg1 arg2 harg2 arg3 harg3 arg4 harg4 arg5 harg5 arg6 harg6 arg7 harg7 arg8 harg8 arg9 harg9 arg10 harg10 arg11 harg11 hc x0 x2 x3 d6 d7 d8 d9 d10 d11).2.2.2.2.2.2 Set.univ _)
  isplitl [H1]; · iexact H1
  isplitl [H3]; · iexact H3
  isplitl [H4]; · iexact H4
  isplitl [H6]; · iexact H6
  isplitl [H7]; · iexact H7
  isplitl [H8]; · iexact H8
  isplitl [H9]; · iexact H9
  isplitl [H10]; · iexact H10
  isplitl [H11]; · iexact H11
  iintro ⟨H1, H3, H4, H6, H7, H8, H9, H10, H11⟩
  iapply ((restRun c i arg1 harg1 arg2 harg2 arg3 harg3 arg4 harg4 arg5 harg5 arg6 harg6 arg7 harg7 arg8 harg8 arg9 harg9 arg10 harg10 arg11 harg11 _ x1 _ _ _ _ _).2 Set.univ _)
  isplitl [H2]; · iexact H2
  isplitl [H6]
  · unfold owns; iexists _; isplitr
    swap; · iexact H6
    ipureintro; exact hxp
  isplitl [H8]
  · unfold owns; iexists _; isplitr
    swap; · iexact H8
    ipureintro; rfl
  isplitl [H9]
  · unfold owns; iexists _; isplitr
    swap; · iexact H9
    ipureintro; rfl
  isplitl [H10]
  · unfold owns; iexists _; isplitr
    swap; · iexact H10
    ipureintro; rfl
  isplitl [H11]
  · unfold owns; iexists _; isplitr
    swap; · iexact H11
    ipureintro; rfl
  isplitl [H5]; · iexists _; iexact H5
  iintro ⟨H2, H6, H8, H9, H10, H11, ⟨%f5, H5⟩⟩
  iapply Hk
  isplitl [H1]; · iexact H1
  isplitl [H2]; · iexact H2
  isplitl [H3]; · iexact H3
  isplitl [H4]; · iexact H4
  isplitl [H5]
  · iexists _; isplitr
    swap
    · unfold owns; iexists _; isplitr
      swap; · iexact H5
      ipureintro; rfl
    ipureintro
    refine rest_out c i arg1 harg1 arg2 harg2 arg3 harg3 arg4 harg4 arg5 harg5 arg6 harg6 arg7 harg7 arg8 harg8 arg9 harg9 arg10 harg10 arg11 harg11 x0 x1 x2 x3 _ (by simp [Scalar.ofBits, FloatOps.ofBits, Ideal.ofBits, Ideal.ieee]) _ rfl _ _ _ _
      (zCols i arg7 (arg7.view.writes (Elt Ideal) (harg7.unread d7) (prefA (F := Ideal) c i arg1 harg1 arg2 harg2 arg3 harg3 arg4 harg4 arg5 harg5 arg6 harg6 arg7 harg7 arg8 harg8 arg9 harg9 arg10 harg10 arg11 harg11 hc x0 x2 x3 d6 d7 d8 d9 d10 d11).2.1)) ?_ ?_ ?_ ?_ ?_ f5
    · intro g n; rw [e8, rows_read, sRows_apply]
    · intro g n; rw [e9, whole_read, pay427_apply]
    · intro g n; rw [e10, whole_read, pay428_apply]
    · intro g n; rw [e11, whole_read, pay429_apply]
    · intro g hg n h; exact zCols_zero i arg7 x3 _ hz g hg n h
  isplitl [H6]
  · iexact H6
  isplitl [H7]
  · iexists _; isplitr
    swap
    · unfold owns; iexists _; isplitr
      swap; · iexact H7
      ipureintro; rfl
    ipureintro; exact hz
  isplitl [H8]
  · iexists _; iexact H8
  isplitl [H9]
  · iexists _; iexact H9
  isplitl [H10]
  · iexists _; iexact H10
  iexists _; iexact H11

/-- The body at a later point. -/
theorem body_next (hc : ¬cond0_0 i) (z : Vec Ideal S120x3072 .i32) (hz : ZerosOk x3 z) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ owns (c : Thread nD τ) arg6 fullShare (XP x0) ∗ owns (c : Thread nD τ) arg7 fullShare z ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, ⌜OutOk i x0 x1 x2 x3 d⌝ ∗ owns (c : Thread nD τ) arg5 fullShare d)
          ∗ owns (c : Thread nD τ) arg6 fullShare (XP x0) ∗ owns (c : Thread nD τ) arg7 fullShare z ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := Ideal)) Variants.none c none) Set.univ (cc0_gptq_w3_linear i arg1 harg1 arg2 harg2 arg3 harg3 arg4 harg4 arg5 harg5 arg6 harg6 arg7 harg7 arg8 harg8 arg9 harg9 arg10 harg10 arg11 harg11) K := by
  rw [body_eq, wp_bind_eq]
  iintro ⟨H1, H2, H3, H4, ⟨%d5, H5⟩, H6, H7, ⟨%d8, H8⟩, ⟨%d9, H9⟩, ⟨%d10, H10⟩, ⟨%d11, H11⟩, Hk⟩
  obtain ⟨e8, e9, e10, e11⟩ := prefB_rest i c arg1 harg1 arg2 harg2 arg3 harg3 arg4 harg4 arg5 harg5 arg6 harg6 arg7 harg7 arg8 harg8 arg9 harg9 arg10 harg10 arg11 harg11 x2 z d8 d9 d10 d11 hc
  iapply ((prefB c i arg1 harg1 arg2 harg2 arg3 harg3 arg4 harg4 arg5 harg5 arg6 harg6 arg7 harg7 arg8 harg8 arg9 harg9 arg10 harg10 arg11 harg11 hc x2 z d8 d9 d10 d11).2.2.2.2 Set.univ _)
  isplitl [H3]; · iexact H3
  isplitl [H7]; · iexact H7
  isplitl [H8]; · iexact H8
  isplitl [H9]; · iexact H9
  isplitl [H10]; · iexact H10
  isplitl [H11]; · iexact H11
  iintro ⟨H3, H7, H8, H9, H10, H11⟩
  iapply ((restRun c i arg1 harg1 arg2 harg2 arg3 harg3 arg4 harg4 arg5 harg5 arg6 harg6 arg7 harg7 arg8 harg8 arg9 harg9 arg10 harg10 arg11 harg11 _ x1 (XP x0) _ _ _ _).2 Set.univ _)
  isplitl [H2]; · iexact H2
  isplitl [H6]; · iexact H6
  isplitl [H8]
  · unfold owns; iexists _; isplitr
    swap; · iexact H8
    ipureintro; rfl
  isplitl [H9]
  · unfold owns; iexists _; isplitr
    swap; · iexact H9
    ipureintro; rfl
  isplitl [H10]
  · unfold owns; iexists _; isplitr
    swap; · iexact H10
    ipureintro; rfl
  isplitl [H11]
  · unfold owns; iexists _; isplitr
    swap; · iexact H11
    ipureintro; rfl
  isplitl [H5]; · iexists _; iexact H5
  iintro ⟨H2, H6, H8, H9, H10, H11, ⟨%f5, H5⟩⟩
  iapply Hk
  isplitl [H1]; · iexact H1
  isplitl [H2]; · iexact H2
  isplitl [H3]; · iexact H3
  isplitl [H4]; · iexact H4
  isplitl [H5]
  · iexists _; isplitr
    swap
    · unfold owns; iexists _; isplitr
      swap; · iexact H5
      ipureintro; rfl
    ipureintro
    refine rest_out c i arg1 harg1 arg2 harg2 arg3 harg3 arg4 harg4 arg5 harg5 arg6 harg6 arg7 harg7 arg8 harg8 arg9 harg9 arg10 harg10 arg11 harg11 x0 x1 x2 x3 _ (by simp [Scalar.ofBits, FloatOps.ofBits, Ideal.ofBits, Ideal.ieee]) _ rfl _ _ _ _
      (zCols i arg7 (harg7.unread z)) ?_ ?_ ?_ ?_ ?_ f5
    · intro g n; rw [e8, rows_read, sRows_apply]
    · intro g n; rw [e9, whole_read, pay427_apply]
    · intro g n; rw [e10, whole_read, pay428_apply]
    · intro g n; rw [e11, whole_read, pay429_apply]
    · intro g hg n h; exact zCols_zero i arg7 x3 _ (by rw [Memref.IsWhole.read_unread]; exact hz) g hg n h
  isplitl [H6]
  · iexact H6
  isplitl [H7]
  · iexact H7
  isplitl [H8]
  · iexists _; iexact H8
  isplitl [H9]
  · iexists _; iexact H9
  isplitl [H10]
  · iexists _; iexact H10
  iexists _; iexact H11

end Cert.KernelIdeal.Body

end
-- ==== Proof.KernelIdeal.Blocks.lean ====
/-
  What the pipeline's blocks hold, element by element: the input window is the whole reshaped input, the packed zero points
  the whole array, and a block of weights or scales is its array's columns from 512 times the grid coordinate on.
-/
module

public import proofs.«01_k».proof.Proof.KernelIdeal.BodyValue

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- The kernel's result: every input element times its weight, summed. -/
def resultAt (j : S192x2944.Idx) : EReal :=
  ∑ k : Fin 14592, (show EReal from m ((c : Thread nD τ).loc main_arg0) (ix3 (j 0) (0 : Fin 1) k)) * wt (m ((c : Thread nD τ).loc main_arg1)) (m ((c : Thread nD τ).loc main_arg2)) (m ((c : Thread nD τ).loc main_arg3)) k.val (by omega) (j 1)

/-- The same as the result array's contents. -/
def resultG : Buf (Elt Ideal) ((c : Thread nD τ).loc main_v1) := resultAt m c

/-- The input with its middle axis dropped. -/
def inputX : Vec Ideal S192x14592 .bf16 := fun j => m ((c : Thread nD τ).loc main_arg0) (ix3 (j 0) (0 : Fin 1) (j 1))

/-- The packed zero points. -/
def inputZ : Vec Ideal S114x295 .i32 := m ((c : Thread nD τ).loc main_arg3)

theorem V_main_v0 : V m c main_v0 = inputX m c := by
  show StableHlo.after hostOps0 _ (Proc.devRef .tc main_v0) = _
  after_results
  funext j
  obtain ⟨b, k, rfl⟩ : ∃ (b : Fin 192) (k : Fin 14592), j = (ix2 b k : S192x14592.Idx) := ⟨j 0, j 1, by
    funext a; fin_cases a <;> rfl⟩
  refine shapeCast_apply (m ((c : Thread nD τ).loc main_arg0)) shapeCasts_S192x1x14592_S192x14592 (ix2 b k) (ix3 b (0 : Fin 1) k) ?_
  show ((⟨3, ![192, 1, 14592]⟩ : Shape).rowMajor (ix3 b (0 : Fin 1) k)).val = ((⟨2, ![192, 14592]⟩ : Shape).rowMajor (ix2 b k)).val
  rw [Shape.rowMajor_val_three, Shape.rowMajor_val_two]
  show (b.val * 1 + 0) * 14592 + k.val = b.val * 14592 + k.val
  omega

theorem index_0 : ∀ t : Fin cfg0.N, win0_0.index t = ![0, 0] := (by decide +kernel : ∀ t : Fin grid0.N, _)
theorem index_1 : ∀ t : Fin cfg0.N, win0_1.index t = ![0, t.val] := (by decide +kernel : ∀ t : Fin grid0.N, _)
theorem index_2 : ∀ t : Fin cfg0.N, win0_2.index t = ![0, t.val] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, t.val] := (by decide +kernel : ∀ t : Fin grid0.N, _)

theorem coord_eq : ∀ t : Fin cfg0.N, (grid0.coords t 0).val = t.val := (by decide +kernel : ∀ t : Fin grid0.N, _)

theorem xsize_1 : ∀ t : Fin cfg0.N, win0_1.xsize (grid0.coords t) 0 = 1460 ∧ win0_1.xsize (grid0.coords t) 1 = min 512 (2944 - 512 * t.val) := (by decide +kernel : ∀ t : Fin grid0.N, _)
theorem xsize_2 : ∀ t : Fin cfg0.N, win0_2.xsize (grid0.coords t) 0 = 114 ∧ win0_2.xsize (grid0.coords t) 1 = min 512 (2944 - 512 * t.val) := (by decide +kernel : ∀ t : Fin grid0.N, _)
theorem xsize_4 : ∀ t : Fin cfg0.N, win0_4.xsize (grid0.coords t) 0 = 192 ∧ win0_4.xsize (grid0.coords t) 1 = min 512 (2944 - 512 * t.val) := (by decide +kernel : ∀ t : Fin grid0.N, _)

theorem iblk_0 (t : Fin cfg0.N) : iblk m c 0 t = inputX m c := by
  rw [← V_main_v0]
  funext j
  unfold iblk
  show V m c main_v0 (((cfg0.win 0).blk t).view.emb j) = V m c main_v0 j
  congr 1
  funext a
  apply Fin.ext
  have e := index_0 t
  match a with
  | ⟨0, _⟩ => blk_simp [e]
  | ⟨1, _⟩ => blk_simp [e]

theorem iblk_3 (t : Fin cfg0.N) : iblk m c 3 t = inputZ m c := by
  unfold inputZ
  rw [← V_main_arg3 m c]
  funext j
  unfold iblk
  show V m c main_arg3 (((cfg0.win 3).blk t).view.emb j) = V m c main_arg3 j
  congr 1
  funext a
  apply Fin.ext
  have e := index_3 t
  match a with
  | ⟨0, _⟩ => blk_simp [e]
  | ⟨1, _⟩ => blk_simp [e]

/-- The block of weights at a grid point, at a column the array has. -/
theorem fill_1 (t : Fin cfg0.N) (d : S1460x512.Idx → BitVec 32) (r : Fin 1460) (n : Fin 512) (h : 512 * t.val + n.val < 2944) :
    win0_1.fill (grid0.coords t) d (iblk m c 1 t) (ix2 r n) = m ((c : Thread nD τ).loc main_arg1) (ix2 r (⟨512 * t.val + n.val, h⟩ : Fin 2944)) := by
  have hm : win0_1.moved (grid0.coords t) (ix2 r n) = true := by
    rw [win0_1.moved_iff]
    have e := xsize_1 t
    intro a
    match a with
    | ⟨0, _⟩ => show r.val < win0_1.xsize (grid0.coords t) 0; rw [e.1]; omega
    | ⟨1, _⟩ => show n.val < win0_1.xsize (grid0.coords t) 1; rw [e.2]; omega
  unfold Pipeline.Window.fill
  rw [dif_pos hm, ← V_main_arg1 m c]
  unfold iblk
  show V m c main_arg1 (((cfg0.win 1).blk t).view.emb _) = V m c main_arg1 _
  congr 1
  funext a
  apply Fin.ext
  have e := index_1 t
  match a with
  | ⟨0, _⟩ => blk_simp [e]
  | ⟨1, _⟩ => blk_simp [e]; show t.val * 512 + n.val = 512 * t.val + n.val; omega

/-- The block of scales at a grid point, at a column the array has. -/
theorem fill_2 (t : Fin cfg0.N) (d : S114x512.Idx → EReal) (r : Fin 114) (n : Fin 512) (h : 512 * t.val + n.val < 2944) :
    win0_2.fill (grid0.coords t) d (iblk m c 2 t) (ix2 r n) = m ((c : Thread nD τ).loc main_arg2) (ix2 r (⟨512 * t.val + n.val, h⟩ : Fin 2944)) := by
  have hm : win0_2.moved (grid0.coords t) (ix2 r n) = true := by
    rw [win0_2.moved_iff]
    have e := xsize_2 t
    intro a
    match a with
    | ⟨0, _⟩ => show r.val < win0_2.xsize (grid0.coords t) 0; rw [e.1]; omega
    | ⟨1, _⟩ => show n.val < win0_2.xsize (grid0.coords t) 1; rw [e.2]; omega
  unfold Pipeline.Window.fill
  rw [dif_pos hm, ← V_main_arg2 m c]
  unfold iblk
  show V m c main_arg2 (((cfg0.win 2).blk t).view.emb _) = V m c main_arg2 _
  congr 1
  funext a
  apply Fin.ext
  have e := index_2 t
  match a with
  | ⟨0, _⟩ => blk_simp [e]
  | ⟨1, _⟩ => blk_simp [e]; show t.val * 512 + n.val = 512 * t.val + n.val; omega

/-- The result's block at a grid point. -/
def gblk (t : Fin cfg0.N) : (win0_4.xblock (grid0.coords t)).Idx → Elt Ideal .bf16 :=
  ((cfg0.win 4).blk t).view.read (Elt Ideal) (resultG m c)

/-- What a right body leaves in the result's buffer is the result's block, in the part that is written back. -/
theorem fill_4 (t : Fin cfg0.N) (d1 : S1460x512.Idx → BitVec 32) (d2 : S114x512.Idx → EReal) (o : S192x512.Idx → EReal)
    (ho : OutOk (grid0.coords t) (inputX m c) (win0_1.fill (grid0.coords t) d1 (iblk m c 1 t)) (win0_2.fill (grid0.coords t) d2 (iblk m c 2 t)) (inputZ m c) o) :
    win0_4.fill (grid0.coords t) o (gblk m c t) = o := by
  funext j
  unfold Pipeline.Window.fill
  split
  case isFalse => rfl
  case isTrue hm =>
    obtain ⟨b, n, rfl⟩ : ∃ (b : Fin 192) (n : Fin 512), j = (ix2 b n : S192x512.Idx) := ⟨j 0, j 1, by
      funext a; fin_cases a <;> rfl⟩
    have hn : 512 * t.val + n.val < 2944 := by
      have h1 : n.val < win0_4.xsize (grid0.coords t) 1 := (win0_4.moved_iff _ _).mp hm 1
      rw [(xsize_4 t).2] at h1
      omega
    have hn' : 512 * (grid0.coords t 0).val + n.val < 2944 := by rw [coord_eq]; exact hn
    rw [ho b n hn']
    have e := index_4 t
    unfold gblk
    show resultG m c (((cfg0.win 4).blk t).view.emb _) = _
    generalize hj : (((cfg0.win 4).blk t).view.emb _) = y
    have hy : y = (ix2 b (⟨512 * t.val + n.val, hn⟩ : Fin 2944) : S192x2944.Idx) := by
      rw [← hj]
      funext a
      apply Fin.ext
      match a with
      | ⟨0, _⟩ => blk_simp [e]
      | ⟨1, _⟩ => blk_simp [e]; show t.val * 512 + n.val = 512 * t.val + n.val; omega
    rw [hy]
    show resultAt m c _ = _
    unfold resultAt colOut
    refine Finset.sum_congr rfl fun k _ => ?_
    rw [fill_1 m c t d1 _ n hn, fill_2 m c t d2 _ n hn]
    unfold wt
    congr 1
    unfold inputZ
    simp only [coord_eq]
    rfl

end Cert.KernelIdeal.Body

end
-- ==== Proof.KernelIdeal.FrameValue.lean ====
/-
  The run over the extended reals with the values tracked: after the first grid point the permuted input and the unpacked
  zero points stay in their scratch buffers, every point leaves its block of the result, and the six blocks make up the
  result array.
-/
module

public import proofs.«01_k».proof.Proof.KernelIdeal.Blocks

@[expose] public section

set_option maxRecDepth 16384

noncomputable section

namespace Cert.KernelIdeal.ValueRun

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- After a grid point: the permuted input and the zero points in place, the other scratch at anything. -/
def PhiAfter (c : Dev nD) : sProp 𝕄 :=
  iprop(iprop(owns (c : Thread nD τ) scM0_0 fullShare (XP (inputX m c)) ∗ (∃ d, ⌜ZerosOk (inputZ m c) d⌝ ∗ owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r))

/-- What holds between grid points. -/
def PhiV (c : Dev nD) : (n : ℕ) → n ≤ cfg0.N → sProp 𝕄
  | 0, _ => Pipeline.ΦA spec0 c
  | _ + 1, _ => PhiAfter m c

theorem PhiV_zero (c : Dev nD) (n : ℕ) (h : n ≤ cfg0.N) (hz : n = 0) : PhiV m c n h = Pipeline.ΦA spec0 c := by
  subst hz; rfl

theorem PhiV_pos (c : Dev nD) (n : ℕ) (h : n ≤ cfg0.N) (hz : n ≠ 0) : PhiV m c n h = PhiAfter m c := by
  cases n with
  | zero => exact absurd rfl hz
  | succ n => rfl

/-- The proof data: the arrays as the region finds them; after the body each input's buffer holds its block and the
    result's its block of the result. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0#32 : BitVec 32)) (iblk m c 1 t)
    | ⟨2, _⟩ => win0_2.fill (grid0.coords t) (fun _ => (0 : EReal)) (iblk m c 2 t)
    | ⟨3, _⟩ => iblk m c 3 t
    | ⟨4, _⟩ => win0_4.fill (grid0.coords t) (fun _ => (0 : EReal)) (gblk m c t)
  Φ t := PhiV m c t.val (Nat.le_of_lt_succ t.isLt)
  q _ := fullShare
  owed _ := 0

theorem Phi_castSucc (c : Dev nD) (t : Fin cfg0.N) : (dats m 0 c).Φ t.castSucc = PhiV m c t.val (Nat.le_of_lt t.isLt) := by
  dsimp only [dats]; exact Pipeline.Dat.Φ_castSucc (PhiV m c) t

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t
    = win0_1.fill (grid0.coords t) (fun _ => (0#32 : BitVec 32)) (iblk m c 1 t) := by dsimp only [dats]
theorem after_2 (c : Dev nD) (t : Fin cfg0.N) : (dats m 0 c).after 2 t
    = win0_2.fill (grid0.coords t) (fun _ => (0 : EReal)) (iblk m c 2 t) := by dsimp only [dats]
theorem after_3 (c : Dev nD) (t : Fin cfg0.N) : (dats m 0 c).after 3 t = iblk m c 3 t := by dsimp only [dats]
theorem after_4 (c : Dev nD) (t : Fin cfg0.N) : (dats m 0 c).after 4 t
    = win0_4.fill (grid0.coords t) (fun _ => (0 : EReal)) (gblk m c t) := by dsimp only [dats]

/-- What the body finds in the inputs' buffers: their blocks, past an array's end anything. -/
theorem before_0 (c : Dev nD) (t : Fin cfg0.N) (d) : (dats m 0 c).before 0 t d = inputX m c :=
  (before0_0_of m (dats m 0 c) (A_eq m c 0) (after_0 m c) t d).trans (iblk_0 m c t)
theorem before_1 (c : Dev nD) (t : Fin cfg0.N) (d) :
    (dats m 0 c).before 1 t d = win0_1.fill (grid0.coords t) d (iblk m c 1 t) := by
  unfold Dat.before; rw [if_pos (fetch0_1 t)]; rfl
theorem before_2 (c : Dev nD) (t : Fin cfg0.N) (d) :
    (dats m 0 c).before 2 t d = win0_2.fill (grid0.coords t) d (iblk m c 2 t) := by
  unfold Dat.before; rw [if_pos (fetch0_2 t)]; rfl
theorem before_3 (c : Dev nD) (t : Fin cfg0.N) (d) : (dats m 0 c).before 3 t d = inputZ m c :=
  (before0_3_of m (dats m 0 c) (A_eq m c 3) (after_3 m c) t d).trans (iblk_3 m c t)

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body's obligation at every point: at the first the scratch may hold anything; at a later one the permuted input
    and the zero points are in place. -/
theorem body_obligation (c : Dev nD) : BodyObligationLoose (dats m 0 c) (defs₀ (F := Ideal)) Variants.none () Set.univ := fun t => by
  by_cases hz : t.val = 0
  · rw [bigSep_W0, bigSep_W0, defs₀_row]
    rw [show (dats m 0 c).Φ t.succ = PhiAfter m c from rfl, Phi_castSucc, PhiV_zero m c _ _ hz,
      show (dats m 0 c).owesAt () t.succ = (dats m 0 c).owesAt () t.castSucc from rfl, PhiA0_eq]
    iintro ⟨⟨⟨HS0, HS1, HS2, HS3, HS4, HS5⟩, Hg⟩, Ho, ⟨%d0, H0⟩, ⟨%d1, H1⟩, ⟨%d2, H2⟩, ⟨%d3, H3⟩, ⟨%d4, H4⟩⟩
    rw [before_0 m c t d0, before_1 m c t d1, before_2 m c t d2, before_3 m c t d3]
    iapply (body_first c (grid0.coords t) _ _ _ _ _ _ _ _ _ _ _ _ _ _ _ _ _ _ _ _ _ _
      (inputX m c) (win0_1.fill (grid0.coords t) d1 (iblk m c 1 t)) (win0_2.fill (grid0.coords t) d2 (iblk m c 2 t)) (inputZ m c)
      ((hcond0_0 t).mpr (by rw [hz])) _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, ⟨%o, %ho, H4⟩, HS0, HS1, HS2, HS3, HS4, HS5⟩
    isplitl [HS0 HS1 HS2 HS3 HS4 HS5 Hg]
    · unfold PhiAfter
      isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]
    · change _ ⊢ owns (c : Thread nD τ) (ms0_0 t) fullShare ((dats m 0 c).after 0 t)
      rw [after_0, iblk_0]
    isplitl [H1]
    · iexists d1
      change _ ⊢ owns (c : Thread nD τ) (ms0_1 t) fullShare (win0_1.fill (grid0.coords t) d1 (win0_1.cut (grid0.coords t) ((dats m 0 c).after 1 t)))
      rw [after_1, win0_1.cut_fill]
    isplitl [H2]
    · iexists d2
      change _ ⊢ owns (c : Thread nD τ) (ms0_2 t) fullShare (win0_2.fill (grid0.coords t) d2 (win0_2.cut (grid0.coords t) ((dats m 0 c).after 2 t)))
      rw [after_2, win0_2.cut_fill]
    isplitl [H3]
    · change _ ⊢ owns (c : Thread nD τ) (ms0_3 t) fullShare ((dats m 0 c).after 3 t)
      rw [after_3, iblk_3]
    iexists o
    change _ ⊢ owns (c : Thread nD τ) (ms0_4 t) fullShare (win0_4.fill (grid0.coords t) o (win0_4.cut (grid0.coords t) ((dats m 0 c).after 4 t)))
    rw [after_4, win0_4.cut_fill, fill_4 m c t d1 d2 o ho]
  · rw [bigSep_W0, bigSep_W0, defs₀_row]
    rw [show (dats m 0 c).Φ t.succ = PhiAfter m c from rfl, Phi_castSucc, PhiV_pos m c _ _ hz,
      show (dats m 0 c).owesAt () t.succ = (dats m 0 c).owesAt () t.castSucc from rfl]
    have hN : t.val < 6 := lt_of_lt_of_eq t.isLt (show cfg0.N = 6 from N_0)
    unfold PhiAfter
    iintro ⟨⟨⟨HS0, ⟨%z, %hzo, HS1⟩, HS2, HS3, HS4, HS5⟩, Hg⟩, Ho, ⟨%d0, H0⟩, ⟨%d1, H1⟩, ⟨%d2, H2⟩, ⟨%d3, H3⟩, ⟨%d4, H4⟩⟩
    rw [before_0 m c t d0, before_1 m c t d1, before_2 m c t d2, before_3 m c t d3]
    iapply (body_next c (grid0.coords t) _ _ _ _ _ _ _ _ _ _ _ _ _ _ _ _ _ _ _ _ _ _
      (inputX m c) (win0_1.fill (grid0.coords t) d1 (iblk m c 1 t)) (win0_2.fill (grid0.coords t) d2 (iblk m c 2 t)) (inputZ m c)
      (fun h => hz (by have := (hcond0_0 t).mp h; omega)) z hzo _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, ⟨%o, %ho, H4⟩, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]
        · iexists z; isplitr [HS1]; · ipureintro; exact hzo
          iexact HS1
        isplitl [HS2]; · iexact HS2
        isplitl [HS3]; · iexact HS3
        isplitl [HS4]; · iexact HS4
        iexact HS5
      iexact Hg
    isplitl [Ho]; · iexact Ho
    isplitl [H0]
    · change _ ⊢ owns (c : Thread nD τ) (ms0_0 t) fullShare ((dats m 0 c).after 0 t)
      rw [after_0, iblk_0]
    isplitl [H1]
    · iexists d1
      change _ ⊢ owns (c : Thread nD τ) (ms0_1 t) fullShare (win0_1.fill (grid0.coords t) d1 (win0_1.cut (grid0.coords t) ((dats m 0 c).after 1 t)))
      rw [after_1, win0_1.cut_fill]
    isplitl [H2]
    · iexists d2
      change _ ⊢ owns (c : Thread nD τ) (ms0_2 t) fullShare (win0_2.fill (grid0.coords t) d2 (win0_2.cut (grid0.coords t) ((dats m 0 c).after 2 t)))
      rw [after_2, win0_2.cut_fill]
    isplitl [H3]
    · change _ ⊢ owns (c : Thread nD τ) (ms0_3 t) fullShare ((dats m 0 c).after 3 t)
      rw [after_3, iblk_3]
    iexists o
    change _ ⊢ owns (c : Thread nD τ) (ms0_4 t) fullShare (win0_4.fill (grid0.coords t) o (win0_4.cut (grid0.coords t) ((dats m 0 c).after 4 t)))
    rw [after_4, win0_4.cut_fill, fill_4 m c t d1 d2 o ho]

theorem hin (c : Dev nD) : Pipeline.ΦA spec0 c ⊢ (dats m 0 c).Φ 0 := by
  rw [show (dats m 0 c).Φ 0 = PhiV m c 0 (Nat.zero_le _) from rfl, PhiV_zero m c 0 _ rfl]

/-- After the last point the scratch's contents are forgotten. -/
theorem hout (c : Dev nD) : (dats m 0 c).Φ (Fin.last cfg0.N) ⊢ Pipeline.ΦA spec0 c := by
  rw [show (dats m 0 c).Φ (Fin.last cfg0.N) = PhiV m c cfg0.N (Nat.le_refl _) from rfl,
    PhiV_pos m c _ _ (by have : cfg0.N = 6 := N_0; omega), PhiA0_eq]
  unfold PhiAfter
  iintro ⟨⟨HS0, ⟨%z, %hzo, HS1⟩, HS2, HS3, HS4, HS5⟩, Hg⟩
  isplitl [HS0 HS1 HS2 HS3 HS4 HS5]
  · isplitl [HS0]; · iexists _; iexact HS0
    isplitl [HS1]; · iexists _; iexact HS1
    isplitl [HS2]; · iexact HS2
    isplitl [HS3]; · iexact HS3
    isplitl [HS4]; · iexact HS4
    iexact HS5
  iexact Hg

-- the launch theorem's implicit arguments are found by unifying its conclusion with this one, which takes unfolding plain
-- definitions in a metavariable's type
set_option backward.isDefEq.respectTransparency.types false in
/-- The run: every array ends as the proof data says. -/
theorem run_main : θ_run defs (onTc (τ := τ) (main (F := Ideal))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

/-- The result array after the run. -/
theorem final_result (c : Dev nD) : (dats m 0 c).arrAt 4 cfg0.N = resultG m c := by
  refine (dats m 0 c).arrAt_eq_of_covers 4 _ (by decide +kernel) fun t hf y => ?_
  have e : (dats m 0 c).after 4 t ((cfg0.win 4).xinj (cfg0.grid.coords t) y) = gblk m c t y := by
    rw [after_4]
    exact congrFun (win0_4.cut_fill (grid0.coords t) (fun _ => (0 : EReal)) (gblk m c t)) y
  rw [e]
  rfl

/-- The kernel's run over the extended reals: the result array holds the sums, the arguments are as they were. -/
theorem run : θ_run defs (onTc (τ := τ) (main (F := Ideal))) ⟨m, fun _ => 0, ρ⟩ (fun r => ∀ c : Dev nD,
      r.2.mem ((c.tc : Thread nD τ).loc main_v1) = resultG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h.1 c).1 4).trans (final_result m c),
      ((h.1 c).2 main_arg0 (Pipeline.mem_restRefs_of main_arg0 (by decide) (by decide))).trans (V_main_arg0 m c),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c)))⟩) (run_main m ρ)

end Cert.KernelIdeal.ValueRun

end
-- ==== Proof.ReferenceIdeal.Parts.lean ====
/-
  What each part of the reference computes, at an index: the zero points, the rows of a group's table, a field's weight, a field's
  input elements.
-/
module

public import proofs.«01_k».proof.Proof.KernelIdeal.Weight
public import proofs.«01_k».proof.Proof.Gen.ReferenceIdeal.Read
public import Idealize.ShloMosaic.Lib.Routing.Ops
public import Idealize.ShloMosaic.Lib.KernelVsHost
public import Idealize.ShloMosaic.Lib.Pointwise
public import Idealize.ShloMosaic.PureOps.Ideal.Laws

@[expose] public section

set_option maxRecDepth 16384

noncomputable section

namespace Cert.ReferenceIdeal.Value

open Cert.ReferenceIdeal Cert.ReferenceIdeal.Gen Cert.ReferenceIdeal.Read
open Idealize.ShloMosaic Idealize.ShloMosaic.TcCoe Idealize.ShloMosaic.Tactic
open Cert.KernelIdeal.Body (field dq code_eq sitofp_code grp grp_lt zeroF wt)

set_option maxHeartbeats 4000000 in
/-- The unpacked zero points: field `n / 295` of word `n % 295`. -/
theorem v40_apply (x3 : (⟨S114x295, .i32⟩ : BufTy).Contents (Elt Ideal)) (g : Fin 114) (n : ℕ) (hn : n < 2950) :
    val_main_v40 (F := Ideal) x3 (ix2 g ⟨n, hn⟩) = (zeroF x3 g n hn).setWidth 32 := by
  have key : ∀ (j : ℕ) (hj : j < 10), n / 295 = j → (zeroF x3 g n hn).setWidth 32 = IntOp.andi (IntOp.shrsi .host (x3 (ix2 g ⟨n % 295, by omega⟩)) (BitVec.ofNat 32 (3 * j))) 7#32 := by
    intro j hj h
    rw [code_eq _ _ j hj]; unfold zeroF; rw [h]
  unfold val_main_v40
  have go : ∀ (xs : List ((s : Shape) × (s.Idx → BitVec 32))) (h : Shape.Concatenates (xs.map (·.1)) S114x2950 1) (j : ℕ) (hj : j < 10) (hq : n / 295 = j) (hlen : xs.length = 10)
      (x : S114x295.Idx → BitVec 32) (hx : xs[j]'(by omega) = ⟨S114x295, x⟩)
      (hpre : (((xs.take j).map (·.1)).map fun s => if h : s.rank = S114x2950.rank then s.size ((1 : Fin S114x2950.rank).cast h.symm) else 0).sum = 295 * j)
      (hf : ∀ i, x i = IntOp.andi (IntOp.shrsi .host (x3 i) (BitVec.ofNat 32 (3 * j))) 7#32),
      concatenate S114x2950 1 xs h (ix2 g ⟨n, hn⟩) = (zeroF x3 g n hn).setWidth 32 := by
    intro xs h j hj hq hlen x hx hpre hf
    refine (concatenate_apply_piece (t := S114x2950) 1 xs h _ j (by omega) S114x295 x hx rfl (295 * j) hpre (ix2 g ⟨n % 295, by omega⟩) (fun b hb => ?_) ?_).trans ((hf _).trans (key j hj hq).symm)
    · match b with | ⟨0, _⟩ => rfl | ⟨1, _⟩ => exact absurd rfl hb
    · show 295 * j + n % 295 = n; omega
  have hq : n / 295 < 10 := by omega
  obtain ⟨q, hqe⟩ : ∃ q, n / 295 = q := ⟨_, rfl⟩
  rw [hqe] at hq
  interval_cases q <;> exact go _ _ _ (by omega) hqe rfl _ rfl rfl (fun _ => rfl)

theorem gather_at {α : Type} (x : S114x2944.Idx → α) (idx : IVec S1460x1 32) (w : Fin 1460) (n : Fin 2944) (g : Fin 114) (h : idx (ix2 w 0) = BitVec.ofNat 32 g.val) :
    Host.gather gather_S114x2944_S1460x1_S1460x2944_1_0_n_n_0_1_12944 x idx (ix2 w n) = x (ix2 g n) :=
  Routing.gather_row _ rfl rfl rfl rfl rfl x idx w n g h (by norm_num)

theorem weight_of (x1 : (⟨S1460x2944, .i32⟩ : BufTy).Contents (Elt Ideal)) (x2 : (⟨S114x2944, .bf16⟩ : BufTy).Contents (Elt Ideal)) (x3 : (⟨S114x295, .i32⟩ : BufTy).Contents (Elt Ideal))
    (j : ℕ) (hj : j < 10) (iz is : IVec S1460x1 32) (hz : ∀ w : Fin 1460, iz (ix2 w 0) = BitVec.ofNat 32 (grp (10 * w.val + j))) (hs : ∀ w : Fin 1460, is (ix2 w 0) = BitVec.ofNat 32 (grp (10 * w.val + j)))
    (w : Fin 1460) (n : Fin 2944) :
    ((FloatOps.sitofp (F := Ideal) .bf16 (IntOp.andi (IntOp.shrsi .host (x1 (ix2 w n)) (BitVec.ofNat 32 (3 * j))) 7#32) : EReal)
      - Host.gather gather_S114x2944_S1460x1_S1460x2944_1_0_n_n_0_1_12944 (val_main_v42 (F := Ideal) x3) iz (ix2 w n))
      * Host.gather gather_S114x2944_S1460x1_S1460x2944_1_0_n_n_0_1_12944 x2 is (ix2 w n) = wt x1 x2 x3 (10 * w.val + j) (by omega) n := by
  rw [gather_at _ iz w n ⟨_, grp_lt _⟩ (hz w), gather_at _ is w n ⟨_, grp_lt _⟩ (hs w), code_eq _ _ j hj, sitofp_code]
  have e : val_main_v42 (F := Ideal) x3 (ix2 ⟨grp (10 * w.val + j), grp_lt _⟩ n) = (((zeroF x3 ⟨grp (10 * w.val + j), grp_lt _⟩ n.val (by omega)).toNat : ℝ) : EReal) := by
    rw [val_main_v42_apply, val_main_v41_apply]
    rw [← sitofp_code, ← v40_apply]
    congr 2
    funext a; match a with | ⟨0, _⟩ => rfl | ⟨1, _⟩ => rfl
  rw [e]
  unfold wt dq
  have h1 : (10 * w.val + j) / 10 = w.val := by omega
  have h2 : (10 * w.val + j) % 10 = j := by omega
  simp only [h1, h2]
  rw [← EReal.coe_sub]

/-- The input, with zeros behind it. -/
def xz (x0 : (⟨S192x1x14592, .bf16⟩ : BufTy).Contents (Elt Ideal)) (b : Fin 192) (k : ℕ) : EReal := if h : k < 14592 then x0 (ix3 b 0 ⟨k, h⟩) else 0

theorem v43_apply (x0 : (⟨S192x1x14592, .bf16⟩ : BufTy).Contents (Elt Ideal)) (b : Fin 192) (k : ℕ) (hk : k < 14600) :
    val_main_v43 (F := Ideal) x0 (ix3 b 0 ⟨k, hk⟩) = xz x0 b k := by
  unfold val_main_v43 xz
  split
  · exact pad_apply_of_inside _ _ _ _ _ _ _ _ _ (fun a => match a with | ⟨0, _⟩ => by show b.val = 0 + b.val * 1; omega | ⟨1, _⟩ => rfl | ⟨2, _⟩ => by show k = 0 + k * 1; omega)
  · refine (pad_apply_of_not_inside _ _ _ _ _ _ _ _ (2 : Fin 3) (by show ¬(0 ≤ k ∧ (k - 0) % 1 = 0 ∧ (k - 0) / 1 < 14592); omega)).trans ?_
    show (((0#32 : BitVec 32).toInt : ℝ) : EReal) = 0
    norm_num

theorem slice_at (x0 : (⟨S192x1x14592, .bf16⟩ : BufTy).Contents (Elt Ideal)) (j : ℕ) (hj : j < 10) (h : S192x1x14600.SlicesBy ![0, 0, j] ![1, 1, 10] S192x1x1460) (b : Fin 192) (w : Fin 1460) :
    Host.slice S192x1x1460 ![0, 0, j] ![1, 1, 10] (val_main_v43 (F := Ideal) x0) h (ix3 b 0 w) = xz x0 b (10 * w.val + j) := by
  rw [← v43_apply x0 b (10 * w.val + j) (by omega)]
  unfold Host.slice
  congr 1
  funext a
  match a with
  | ⟨0, _⟩ => apply Fin.ext; show 0 + 1 * b.val = b.val; omega
  | ⟨1, _⟩ => rfl
  | ⟨2, _⟩ => apply Fin.ext; show j + 10 * w.val = 10 * w.val + j; omega

end Cert.ReferenceIdeal.Value

end
-- ==== Proof.ReferenceIdeal.Result.lean ====
/-
  The reference's result at an index: the sum, over the input elements, of the element times its weight.
-/
module

public import proofs.«01_k».proof.Proof.ReferenceIdeal.Parts

@[expose] public section

set_option maxRecDepth 16384

noncomputable section

namespace Cert.ReferenceIdeal.Value

open Cert.ReferenceIdeal Cert.ReferenceIdeal.Gen Cert.ReferenceIdeal.Read
open Idealize.ShloMosaic Idealize.ShloMosaic.TcCoe Idealize.ShloMosaic.Tactic
open Cert.KernelIdeal.Body (field dq code_eq sitofp_code grp grp_lt zeroF wt)

variable (x0 : (⟨S192x1x14592, .bf16⟩ : BufTy).Contents (Elt Ideal)) (x1 : (⟨S1460x2944, .i32⟩ : BufTy).Contents (Elt Ideal)) (x2 : (⟨S114x2944, .bf16⟩ : BufTy).Contents (Elt Ideal)) (x3 : (⟨S114x295, .i32⟩ : BufTy).Contents (Elt Ideal))
  (b : Fin 192) (n : Fin 2944)

/-- One field's part of the result. -/
def part (j : ℕ) (hj : j < 10) : EReal := ∑ w : Fin 1460, xz x0 b (10 * w.val + j) * wt x1 x2 x3 (10 * w.val + j) (by omega) n

theorem at3 (f : S192x1x1460.Idx) (b : Fin 192) (w : Fin 1460) (h0 : (f 0).val = b.val) (h2 : (f 2).val = w.val) : f = ix3 b 0 w := by
  funext a
  match a with
  | ⟨0, _⟩ => exact Fin.ext h0
  | ⟨1, _⟩ => exact Subsingleton.elim (α := Fin 1) _ _
  | ⟨2, _⟩ => exact Fin.ext h2

theorem at2 (f : S1460x2944.Idx) (w : Fin 1460) (n : Fin 2944) (h0 : (f 0).val = w.val) (h2 : (f 1).val = n.val) : f = ix2 w n := by
  funext a
  match a with
  | ⟨0, _⟩ => exact Fin.ext h0
  | ⟨1, _⟩ => exact Fin.ext h2

/-- A field's contraction, at an index. -/
theorem dot_of (j : ℕ) (hj : j < 10) (h : S192x1x14600.SlicesBy ![0, 0, j] ![1, 1, 10] S192x1x1460) (iz is : IVec S1460x1 32)
    (hz : ∀ w : Fin 1460, iz (ix2 w 0) = BitVec.ofNat 32 (grp (10 * w.val + j))) (hs : ∀ w : Fin 1460, is (ix2 w 0) = BitVec.ofNat 32 (grp (10 * w.val + j)))
    (f : Fin 1460 → S192x1x1460.Idx) (g : Fin 1460 → S1460x2944.Idx) (hf : ∀ w, f w = ix3 b 0 w) (hg : ∀ w, g w = ix2 w n) :
    (∑ w : Fin 1460, (Host.slice S192x1x1460 ![0, 0, j] ![1, 1, 10] (val_main_v43 (F := Ideal) x0) h (f w) : EReal) *
      (((FloatOps.sitofp (F := Ideal) .bf16 (IntOp.andi (IntOp.shrsi .host (x1 (g w)) (BitVec.ofNat 32 (3 * j))) 7#32) : EReal)
      - Host.gather gather_S114x2944_S1460x1_S1460x2944_1_0_n_n_0_1_12944 (val_main_v42 (F := Ideal) x3) iz (g w))
      * Host.gather gather_S114x2944_S1460x1_S1460x2944_1_0_n_n_0_1_12944 x2 is (g w))) = part x0 x1 x2 x3 b n j hj := by
  refine Finset.sum_congr rfl fun w _ => ?_
  rw [hf, hg, slice_at x0 j hj h b w, weight_of x1 x2 x3 j hj iz is hz hs w n]

set_option maxHeartbeats 4000000 in
/-- The result is the sum of the ten parts. -/
theorem parts_sum : val_main_v355 (F := Ideal) x0 x1 x2 x3 (ix2 b n) = ∑ j : Fin 10, part x0 x1 x2 x3 b n j.val j.isLt := by
  have d0 : val_main_v74 (F := Ideal) x0 x1 x2 x3 (ix3 b 0 n) = part x0 x1 x2 x3 b n 0 (by omega) :=
    (val_main_v74_apply x0 x1 x2 x3 _).trans (dot_of x0 x1 x2 x3 b n 0 (by omega) _ (val_main_v62 (F := Ideal)) (val_main_v70 (F := Ideal)) (by decide +kernel) (by decide +kernel) _ _ (fun _ => at3 _ _ _ rfl rfl) (fun _ => at2 _ _ _ rfl rfl))
  have d1 : val_main_v104 (F := Ideal) x0 x1 x2 x3 (ix3 b 0 n) = part x0 x1 x2 x3 b n 1 (by omega) :=
    (val_main_v104_apply x0 x1 x2 x3 _).trans (dot_of x0 x1 x2 x3 b n 1 (by omega) _ (val_main_v92 (F := Ideal)) (val_main_v100 (F := Ideal)) (by decide +kernel) (by decide +kernel) _ _ (fun _ => at3 _ _ _ rfl rfl) (fun _ => at2 _ _ _ rfl rfl))
  have d2 : val_main_v135 (F := Ideal) x0 x1 x2 x3 (ix3 b 0 n) = part x0 x1 x2 x3 b n 2 (by omega) :=
    (val_main_v135_apply x0 x1 x2 x3 _).trans (dot_of x0 x1 x2 x3 b n 2 (by omega) _ (val_main_v123 (F := Ideal)) (val_main_v131 (F := Ideal)) (by decide +kernel) (by decide +kernel) _ _ (fun _ => at3 _ _ _ rfl rfl) (fun _ => at2 _ _ _ rfl rfl))
  have d3 : val_main_v166 (F := Ideal) x0 x1 x2 x3 (ix3 b 0 n) = part x0 x1 x2 x3 b n 3 (by omega) :=
    (val_main_v166_apply x0 x1 x2 x3 _).trans (dot_of x0 x1 x2 x3 b n 3 (by omega) _ (val_main_v154 (F := Ideal)) (val_main_v162 (F := Ideal)) (by decide +kernel) (by decide +kernel) _ _ (fun _ => at3 _ _ _ rfl rfl) (fun _ => at2 _ _ _ rfl rfl))
  have d4 : val_main_v197 (F := Ideal) x0 x1 x2 x3 (ix3 b 0 n) = part x0 x1 x2 x3 b n 4 (by omega) :=
    (val_main_v197_apply x0 x1 x2 x3 _).trans (dot_of x0 x1 x2 x3 b n 4 (by omega) _ (val_main_v185 (F := Ideal)) (val_main_v193 (F := Ideal)) (by decide +kernel) (by decide +kernel) _ _ (fun _ => at3 _ _ _ rfl rfl) (fun _ => at2 _ _ _ rfl rfl))
  have d5 : val_main_v228 (F := Ideal) x0 x1 x2 x3 (ix3 b 0 n) = part x0 x1 x2 x3 b n 5 (by omega) :=
    (val_main_v228_apply x0 x1 x2 x3 _).trans (dot_of x0 x1 x2 x3 b n 5 (by omega) _ (val_main_v216 (F := Ideal)) (val_main_v224 (F := Ideal)) (by decide +kernel) (by decide +kernel) _ _ (fun _ => at3 _ _ _ rfl rfl) (fun _ => at2 _ _ _ rfl rfl))
  have d6 : val_main_v259 (F := Ideal) x0 x1 x2 x3 (ix3 b 0 n) = part x0 x1 x2 x3 b n 6 (by omega) :=
    (val_main_v259_apply x0 x1 x2 x3 _).trans (dot_of x0 x1 x2 x3 b n 6 (by omega) _ (val_main_v247 (F := Ideal)) (val_main_v255 (F := Ideal)) (by decide +kernel) (by decide +kernel) _ _ (fun _ => at3 _ _ _ rfl rfl) (fun _ => at2 _ _ _ rfl rfl))
  have d7 : val_main_v290 (F := Ideal) x0 x1 x2 x3 (ix3 b 0 n) = part x0 x1 x2 x3 b n 7 (by omega) :=
    (val_main_v290_apply x0 x1 x2 x3 _).trans (dot_of x0 x1 x2 x3 b n 7 (by omega) _ (val_main_v278 (F := Ideal)) (val_main_v286 (F := Ideal)) (by decide +kernel) (by decide +kernel) _ _ (fun _ => at3 _ _ _ rfl rfl) (fun _ => at2 _ _ _ rfl rfl))
  have d8 : val_main_v321 (F := Ideal) x0 x1 x2 x3 (ix3 b 0 n) = part x0 x1 x2 x3 b n 8 (by omega) :=
    (val_main_v321_apply x0 x1 x2 x3 _).trans (dot_of x0 x1 x2 x3 b n 8 (by omega) _ (val_main_v309 (F := Ideal)) (val_main_v317 (F := Ideal)) (by decide +kernel) (by decide +kernel) _ _ (fun _ => at3 _ _ _ rfl rfl) (fun _ => at2 _ _ _ rfl rfl))
  have d9 : val_main_v352 (F := Ideal) x0 x1 x2 x3 (ix3 b 0 n) = part x0 x1 x2 x3 b n 9 (by omega) :=
    (val_main_v352_apply x0 x1 x2 x3 _).trans (dot_of x0 x1 x2 x3 b n 9 (by omega) _ (val_main_v340 (F := Ideal)) (val_main_v348 (F := Ideal)) (by decide +kernel) (by decide +kernel) _ _ (fun _ => at3 _ _ _ rfl rfl) (fun _ => at2 _ _ _ rfl rfl))
  rw [val_main_v355_apply, show idx_main_v355 (ix2 b n) = ix3 b 0 n from by
    funext a
    match a with
    | ⟨0, _⟩ => apply Fin.ext; show (b.val * 2944 + n.val) / 2944 = b.val; omega
    | ⟨1, _⟩ => rfl
    | ⟨2, _⟩ => apply Fin.ext; show (b.val * 2944 + n.val) % 2944 = n.val; omega]
  have e : val_main_v354 (F := Ideal) x0 x1 x2 x3 (ix3 b 0 n) = ((((((((((val_main_v74 (F := Ideal) x0 x1 x2 x3 (ix3 b 0 n) + val_main_v104 (F := Ideal) x0 x1 x2 x3 (ix3 b 0 n)) + val_main_v135 (F := Ideal) x0 x1 x2 x3 (ix3 b 0 n))
      + val_main_v166 (F := Ideal) x0 x1 x2 x3 (ix3 b 0 n)) + val_main_v197 (F := Ideal) x0 x1 x2 x3 (ix3 b 0 n)) + val_main_v228 (F := Ideal) x0 x1 x2 x3 (ix3 b 0 n)) + val_main_v259 (F := Ideal) x0 x1 x2 x3 (ix3 b 0 n))
      + val_main_v290 (F := Ideal) x0 x1 x2 x3 (ix3 b 0 n)) + val_main_v321 (F := Ideal) x0 x1 x2 x3 (ix3 b 0 n)) + val_main_v352 (F := Ideal) x0 x1 x2 x3 (ix3 b 0 n)) : EReal) := by
    rw [val_main_v354_apply, val_main_v353_apply, val_main_v322_apply, val_main_v291_apply, val_main_v260_apply, val_main_v229_apply, val_main_v198_apply, val_main_v167_apply, val_main_v136_apply, val_main_v105_apply]
    rfl
  rw [e, d0, d1, d2, d3, d4, d5, d6, d7, d8, d9]
  simp only [Fin.sum_univ_succ, Fin.sum_univ_zero, Fin.val_zero, Fin.val_succ, add_zero]
  simp only [add_assoc]
  rfl

/-- The result: every input element times its weight, summed. -/
theorem result_apply : val_main_v355 (F := Ideal) x0 x1 x2 x3 (ix2 b n) = ∑ k : Fin 14592, x0 (ix3 b 0 k) * wt x1 x2 x3 k.val (by omega) n := by
  rw [parts_sum]
  unfold part
  rw [← Finset.sum_product']
  have : ∑ k : Fin 14600, xz x0 b k.val * wt x1 x2 x3 k.val (by omega) n = ∑ k : Fin 14592, x0 (ix3 b 0 k) * wt x1 x2 x3 k.val (by omega) n := by
    rw [Fin.sum_univ_add (a := 14592) (b := 8)]
    rw [show (∑ i : Fin 8, xz x0 b (Fin.natAdd 14592 i).val * wt x1 x2 x3 (Fin.natAdd 14592 i).val (by omega) n) = 0 from by
      refine Finset.sum_eq_zero fun i _ => ?_
      unfold xz
      rw [dif_neg (by show ¬(14592 + i.val < 14592); omega), zero_mul]]
    rw [add_zero]
    refine Finset.sum_congr rfl fun i _ => ?_
    unfold xz
    rw [dif_pos (by show i.val < 14592; omega)]
    rfl
  rw [← this]
  refine Finset.sum_nbij' (fun p => (⟨10 * p.2.val + p.1.val, by omega⟩ : Fin 14600)) (fun k => (⟨k.val % 10, by omega⟩, ⟨k.val / 10, by omega⟩)) (fun _ _ => Finset.mem_univ _) (fun _ _ => Finset.mem_univ _) ?_ ?_ ?_
  · rintro ⟨j, w⟩ _
    refine Prod.ext (Fin.ext ?_) (Fin.ext ?_)
    · show (10 * w.val + j.val) % 10 = j.val; omega
    · show (10 * w.val + j.val) / 10 = w.val; omega
  · intro k _
    apply Fin.ext
    show 10 * (k.val / 10) + k.val % 10 = k.val; omega
  · rintro ⟨j, w⟩ _
    rfl

end Cert.ReferenceIdeal.Value

end
-- ==== Proof.Equation.lean ====
/-
  The equation: the kernel's result array and the reference's hold the same sums, so from memories agreeing on the
  arguments the two programs end with equal results.
-/
module

public import proofs.«01_k».proof.Defs
public import proofs.«01_k».proof.Proof.KernelIdeal.FrameValue
public import proofs.«01_k».proof.Proof.ReferenceIdeal.Result

@[expose] public section

set_option maxRecDepth 16384

noncomputable section

namespace Cert.Proof

open Idealize.ShloMosaic Idealize.ShloMosaic.TcCoe Idealize.SL.Sem

/-- The reference's closed form over the arguments is the kernel's result. -/
theorem reference_eq (m : (ℓ : Loc Cert.KernelIdeal.nD Cert.KernelIdeal.τ Cert.KernelIdeal.sig) → Buf (Elt Ideal) ℓ) (c : Dev Cert.KernelIdeal.nD) :
    Cert.ReferenceIdeal.Read.val_main_v355 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      = Cert.KernelIdeal.Body.resultG m c := by
  funext j
  obtain ⟨b, n, rfl⟩ : ∃ (b : Fin 192) (n : Fin 2944), j = (ix2 b n : (⟨2, ![192, 2944]⟩ : Shape).Idx) := ⟨j 0, j 1, by
    funext a; fin_cases a <;> rfl⟩
  rw [Cert.ReferenceIdeal.Value.result_apply]
  rfl

/-- Over the extended reals the kernel and the reference compute the same array. -/
theorem algebraic : Cert.algebraic_KernelIdeal_ReferenceIdeal := fun m g m' g' _ hargs =>
  ⟨fun c => Cert.KernelIdeal.Body.resultG m c, Cert.KernelIdeal.ValueRun.run m g,
    (θ_run Cert.ReferenceIdeal.defs _ _).mono (fun r h c => by
      obtain ⟨h0, h1, h2, h3⟩ := hargs c
      refine ⟨((h c).1.trans (Cert.ReferenceIdeal.Read.val_main_v355_eq _)).trans ?_, (h c).2⟩
      refine Eq.trans ?_ (reference_eq m c)
      rw [← h0, ← h1, ← h2, ← h3]) (Cert.ReferenceIdeal.Value.run (F := Ideal) m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.FrameAny
public import proofs.«01_k».proof.Proof.KernelIdeal.FrameAny
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel terminates on every weakly fair execution, leaves its arguments as they were and every counter at
    zero, with bit-exact floats. -/
theorem frame_kernel : Cert.quiescent_Kernel := fun m g _ => Cert.Kernel.Body.frame m g

/-- The same of the kernel read over the extended reals. -/
theorem frame_kernel_ideal : Cert.quiescent_KernelIdeal := fun m g _ => Cert.KernelIdeal.Body.frame m g

/-- The reference read over the extended reals is a straight line of host operations: it ends, writes none of its
    arguments, and declares no counter. -/
theorem frame_reference_ideal : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run (F := Ideal) m g)

theorem claim : Cert.Claim := ⟨Cert.Kernel.Gen.facts, Cert.KernelIdeal.Gen.facts, Cert.ReferenceIdeal.Gen.facts,
  frame_kernel, frame_kernel_ideal, frame_reference_ideal, trivial, algebraic⟩

end Cert.Proof

end
